-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Grads [hPre_bases_fit : Cert.Pre_bases_fit.Facts] (m : (ℓ : Loc Cert.Grads.nD Cert.Grads.τ Cert.Grads.sig) → Buf (Elt Bits) ℓ) : Prop :=
  ∀ c : Dev Cert.Grads.nD,
    (Cert.Pre_bases_fit.fn (F := Bits) (m ((c.tc : Thread Cert.Grads.nD Cert.Grads.τ).loc Cert.Grads.main_arg0)) (m ((c.tc : Thread Cert.Grads.nD Cert.Grads.τ).loc Cert.Grads.main_arg1)) (m ((c.tc : Thread Cert.Grads.nD Cert.Grads.τ).loc Cert.Grads.main_arg2)) (m ((c.tc : Thread Cert.Grads.nD Cert.Grads.τ).loc Cert.Grads.main_arg3)) (m ((c.tc : Thread Cert.Grads.nD Cert.Grads.τ).loc Cert.Grads.main_arg4)) (m ((c.tc : Thread Cert.Grads.nD Cert.Grads.τ).loc Cert.Grads.main_arg5))) = (fun _ => 1#1)

def Pre_GradsIdeal [hPre_bases_fit : Cert.Pre_bases_fit.Facts] (m : (ℓ : Loc Cert.GradsIdeal.nD Cert.GradsIdeal.τ Cert.GradsIdeal.sig) → Buf (Elt Ideal) ℓ) : Prop :=
  ∀ c : Dev Cert.GradsIdeal.nD,
    (Cert.Pre_bases_fit.fn (F := Ideal) (m ((c.tc : Thread Cert.GradsIdeal.nD Cert.GradsIdeal.τ).loc Cert.GradsIdeal.main_arg0)) (m ((c.tc : Thread Cert.GradsIdeal.nD Cert.GradsIdeal.τ).loc Cert.GradsIdeal.main_arg1)) (m ((c.tc : Thread Cert.GradsIdeal.nD Cert.GradsIdeal.τ).loc Cert.GradsIdeal.main_arg2)) (m ((c.tc : Thread Cert.GradsIdeal.nD Cert.GradsIdeal.τ).loc Cert.GradsIdeal.main_arg3)) (m ((c.tc : Thread Cert.GradsIdeal.nD Cert.GradsIdeal.τ).loc Cert.GradsIdeal.main_arg4)) (m ((c.tc : Thread Cert.GradsIdeal.nD Cert.GradsIdeal.τ).loc Cert.GradsIdeal.main_arg5))) = (fun _ => 1#1)

def Pre_GradsIdeal_rows_fit [hPre_rows_fit : Cert.Pre_rows_fit.Facts] (m : (ℓ : Loc Cert.GradsIdeal.nD Cert.GradsIdeal.τ Cert.GradsIdeal.sig) → Buf (Elt Ideal) ℓ) : Prop :=
  ∀ c : Dev Cert.GradsIdeal.nD,
    (Cert.Pre_rows_fit.fn (F := Ideal) (m ((c.tc : Thread Cert.GradsIdeal.nD Cert.GradsIdeal.τ).loc Cert.GradsIdeal.main_arg0)) (m ((c.tc : Thread Cert.GradsIdeal.nD Cert.GradsIdeal.τ).loc Cert.GradsIdeal.main_arg1)) (m ((c.tc : Thread Cert.GradsIdeal.nD Cert.GradsIdeal.τ).loc Cert.GradsIdeal.main_arg2)) (m ((c.tc : Thread Cert.GradsIdeal.nD Cert.GradsIdeal.τ).loc Cert.GradsIdeal.main_arg3)) (m ((c.tc : Thread Cert.GradsIdeal.nD Cert.GradsIdeal.τ).loc Cert.GradsIdeal.main_arg4)) (m ((c.tc : Thread Cert.GradsIdeal.nD Cert.GradsIdeal.τ).loc Cert.GradsIdeal.main_arg5))) = (fun _ => 1#1)

def Pre_GradsRefIdeal (m : (ℓ : Loc Cert.GradsRefIdeal.nD Cert.GradsRefIdeal.τ Cert.GradsRefIdeal.sig) → Buf (Elt Ideal) ℓ) : Prop :=
  True

def Pre_GradsRefIdeal_rows_fit [hPre_rows_fit : Cert.Pre_rows_fit.Facts] (m : (ℓ : Loc Cert.GradsRefIdeal.nD Cert.GradsRefIdeal.τ Cert.GradsRefIdeal.sig) → Buf (Elt Ideal) ℓ) : Prop :=
  ∀ c : Dev Cert.GradsRefIdeal.nD,
    (Cert.Pre_rows_fit.fn (F := Ideal) (m ((c.tc : Thread Cert.GradsRefIdeal.nD Cert.GradsRefIdeal.τ).loc Cert.GradsRefIdeal.main_arg0)) (m ((c.tc : Thread Cert.GradsRefIdeal.nD Cert.GradsRefIdeal.τ).loc Cert.GradsRefIdeal.main_arg1)) (m ((c.tc : Thread Cert.GradsRefIdeal.nD Cert.GradsRefIdeal.τ).loc Cert.GradsRefIdeal.main_arg2)) (m ((c.tc : Thread Cert.GradsRefIdeal.nD Cert.GradsRefIdeal.τ).loc Cert.GradsRefIdeal.main_arg3)) (m ((c.tc : Thread Cert.GradsRefIdeal.nD Cert.GradsRefIdeal.τ).loc Cert.GradsRefIdeal.main_arg4)) (m ((c.tc : Thread Cert.GradsRefIdeal.nD Cert.GradsRefIdeal.τ).loc Cert.GradsRefIdeal.main_arg5))) = (fun _ => 1#1)

def Pre_Heads [hPre_starts_fit : Cert.Pre_starts_fit.Facts] (m : (ℓ : Loc Cert.Heads.nD Cert.Heads.τ Cert.Heads.sig) → Buf (Elt Bits) ℓ) : Prop :=
  ∀ c : Dev Cert.Heads.nD,
    (Cert.Pre_starts_fit.fn (F := Bits) (m ((c.tc : Thread Cert.Heads.nD Cert.Heads.τ).loc Cert.Heads.main_arg0)) (m ((c.tc : Thread Cert.Heads.nD Cert.Heads.τ).loc Cert.Heads.main_arg1)) (m ((c.tc : Thread Cert.Heads.nD Cert.Heads.τ).loc Cert.Heads.main_arg2)) (m ((c.tc : Thread Cert.Heads.nD Cert.Heads.τ).loc Cert.Heads.main_arg3)) (m ((c.tc : Thread Cert.Heads.nD Cert.Heads.τ).loc Cert.Heads.main_arg4)) (m ((c.tc : Thread Cert.Heads.nD Cert.Heads.τ).loc Cert.Heads.main_arg5)) (m ((c.tc : Thread Cert.Heads.nD Cert.Heads.τ).loc Cert.Heads.main_arg6)) (m ((c.tc : Thread Cert.Heads.nD Cert.Heads.τ).loc Cert.Heads.main_arg7)) (m ((c.tc : Thread Cert.Heads.nD Cert.Heads.τ).loc Cert.Heads.main_arg8))) = (fun _ => 1#1)

def Pre_HeadsIdeal [hPre_starts_fit : Cert.Pre_starts_fit.Facts] (m : (ℓ : Loc Cert.HeadsIdeal.nD Cert.HeadsIdeal.τ Cert.HeadsIdeal.sig) → Buf (Elt Ideal) ℓ) : Prop :=
  ∀ c : Dev Cert.HeadsIdeal.nD,
    (Cert.Pre_starts_fit.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6)) (m ((c.tc : Thread Cert.HeadsIdeal.nD Cert.HeadsIdeal.τ).loc Cert.HeadsIdeal.main_arg7)) (m ((c.tc : Thread Cert.HeadsIdeal.nD Cert.HeadsIdeal.τ).loc Cert.HeadsIdeal.main_arg8))) = (fun _ => 1#1)

def Pre_HeadsRefIdeal (m : (ℓ : Loc Cert.HeadsRefIdeal.nD Cert.HeadsRefIdeal.τ Cert.HeadsRefIdeal.sig) → Buf (Elt Ideal) ℓ) : Prop :=
  True

def Pre_HeadsRefIdeal_starts_fit [hPre_starts_fit : Cert.Pre_starts_fit.Facts] (m : (ℓ : Loc Cert.HeadsRefIdeal.nD Cert.HeadsRefIdeal.τ Cert.HeadsRefIdeal.sig) → Buf (Elt Ideal) ℓ) : Prop :=
  ∀ c : Dev Cert.HeadsRefIdeal.nD,
    (Cert.Pre_starts_fit.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2)) (m ((c.tc : Thread Cert.HeadsRefIdeal.nD Cert.HeadsRefIdeal.τ).loc Cert.HeadsRefIdeal.main_arg3)) (m ((c.tc : Thread Cert.HeadsRefIdeal.nD Cert.HeadsRefIdeal.τ).loc Cert.HeadsRefIdeal.main_arg4)) (m ((c.tc : Thread Cert.HeadsRefIdeal.nD Cert.HeadsRefIdeal.τ).loc Cert.HeadsRefIdeal.main_arg5)) (m ((c.tc : Thread Cert.HeadsRefIdeal.nD Cert.HeadsRefIdeal.τ).loc Cert.HeadsRefIdeal.main_arg6)) (m ((c.tc : Thread Cert.HeadsRefIdeal.nD Cert.HeadsRefIdeal.τ).loc Cert.HeadsRefIdeal.main_arg7)) (m ((c.tc : Thread Cert.HeadsRefIdeal.nD Cert.HeadsRefIdeal.τ).loc Cert.HeadsRefIdeal.main_arg8))) = (fun _ => 1#1)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Grads [hGrads : Cert.Grads.Facts] [hPre_bases_fit : Cert.Pre_bases_fit.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0)
      ∧ r.2.mem ((c.tc : Thread Cert.Grads.nD Cert.Grads.τ).loc Cert.Grads.main_arg1) = m ((c.tc : Thread Cert.Grads.nD Cert.Grads.τ).loc Cert.Grads.main_arg1)
      ∧ r.2.mem ((c.tc : Thread Cert.Grads.nD Cert.Grads.τ).loc Cert.Grads.main_arg2) = m ((c.tc : Thread Cert.Grads.nD Cert.Grads.τ).loc Cert.Grads.main_arg2)
      ∧ r.2.mem ((c.tc : Thread Cert.Grads.nD Cert.Grads.τ).loc Cert.Grads.main_arg3) = m ((c.tc : Thread Cert.Grads.nD Cert.Grads.τ).loc Cert.Grads.main_arg3)
      ∧ r.2.mem ((c.tc : Thread Cert.Grads.nD Cert.Grads.τ).loc Cert.Grads.main_arg4) = m ((c.tc : Thread Cert.Grads.nD Cert.Grads.τ).loc Cert.Grads.main_arg4)
      ∧ r.2.mem ((c.tc : Thread Cert.Grads.nD Cert.Grads.τ).loc Cert.Grads.main_arg5) = m ((c.tc : Thread Cert.Grads.nD Cert.Grads.τ).loc Cert.Grads.main_arg5))
      ∧ r.2.sem = fun _ => 0)

def quiescent_GradsIdeal [hGradsIdeal : Cert.GradsIdeal.Facts] [hPre_bases_fit : Cert.Pre_bases_fit.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
      ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
      ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2)
      ∧ r.2.mem ((c.tc : Thread Cert.GradsIdeal.nD Cert.GradsIdeal.τ).loc Cert.GradsIdeal.main_arg3) = m ((c.tc : Thread Cert.GradsIdeal.nD Cert.GradsIdeal.τ).loc Cert.GradsIdeal.main_arg3)
      ∧ r.2.mem ((c.tc : Thread Cert.GradsIdeal.nD Cert.GradsIdeal.τ).loc Cert.GradsIdeal.main_arg4) = m ((c.tc : Thread Cert.GradsIdeal.nD Cert.GradsIdeal.τ).loc Cert.GradsIdeal.main_arg4)
      ∧ r.2.mem ((c.tc : Thread Cert.GradsIdeal.nD Cert.GradsIdeal.τ).loc Cert.GradsIdeal.main_arg5) = m ((c.tc : Thread Cert.GradsIdeal.nD Cert.GradsIdeal.τ).loc Cert.GradsIdeal.main_arg5))
      ∧ r.2.sem = fun _ => 0)

def quiescent_GradsIdeal_pre_rows_fit [hGradsIdeal : Cert.GradsIdeal.Facts] [hPre_rows_fit : Cert.Pre_rows_fit.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal_rows_fit m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
      ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
      ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2)
      ∧ r.2.mem ((c.tc : Thread Cert.GradsIdeal.nD Cert.GradsIdeal.τ).loc Cert.GradsIdeal.main_arg3) = m ((c.tc : Thread Cert.GradsIdeal.nD Cert.GradsIdeal.τ).loc Cert.GradsIdeal.main_arg3)
      ∧ r.2.mem ((c.tc : Thread Cert.GradsIdeal.nD Cert.GradsIdeal.τ).loc Cert.GradsIdeal.main_arg4) = m ((c.tc : Thread Cert.GradsIdeal.nD Cert.GradsIdeal.τ).loc Cert.GradsIdeal.main_arg4)
      ∧ r.2.mem ((c.tc : Thread Cert.GradsIdeal.nD Cert.GradsIdeal.τ).loc Cert.GradsIdeal.main_arg5) = m ((c.tc : Thread Cert.GradsIdeal.nD Cert.GradsIdeal.τ).loc Cert.GradsIdeal.main_arg5))
      ∧ r.2.sem = fun _ => 0)

def quiescent_GradsRefIdeal [hGradsRefIdeal : Cert.GradsRefIdeal.Facts] : Prop :=
  ∀ (m : (ℓ : Loc Cert.GradsRefIdeal.nD Cert.GradsRefIdeal.τ Cert.GradsRefIdeal.sig) → Buf (Elt Ideal) ℓ) (g : Dev Cert.GradsRefIdeal.nD → PrngReg), Pre_GradsRefIdeal m →
    θ_run (Cert.GradsRefIdeal.defs (F := Ideal)) (onTc (τ := Cert.GradsRefIdeal.τ) (Cert.GradsRefIdeal.main (F := Ideal))) ⟨m, fun _ => 0, g⟩ (fun r => (∀ c : Dev Cert.GradsRefIdeal.nD,
      r.2.mem ((c.tc : Thread Cert.GradsRefIdeal.nD Cert.GradsRefIdeal.τ).loc Cert.GradsRefIdeal.main_arg0) = m ((c.tc : Thread Cert.GradsRefIdeal.nD Cert.GradsRefIdeal.τ).loc Cert.GradsRefIdeal.main_arg0)
      ∧ r.2.mem ((c.tc : Thread Cert.GradsRefIdeal.nD Cert.GradsRefIdeal.τ).loc Cert.GradsRefIdeal.main_arg1) = m ((c.tc : Thread Cert.GradsRefIdeal.nD Cert.GradsRefIdeal.τ).loc Cert.GradsRefIdeal.main_arg1)
      ∧ r.2.mem ((c.tc : Thread Cert.GradsRefIdeal.nD Cert.GradsRefIdeal.τ).loc Cert.GradsRefIdeal.main_arg2) = m ((c.tc : Thread Cert.GradsRefIdeal.nD Cert.GradsRefIdeal.τ).loc Cert.GradsRefIdeal.main_arg2)
      ∧ r.2.mem ((c.tc : Thread Cert.GradsRefIdeal.nD Cert.GradsRefIdeal.τ).loc Cert.GradsRefIdeal.main_arg3) = m ((c.tc : Thread Cert.GradsRefIdeal.nD Cert.GradsRefIdeal.τ).loc Cert.GradsRefIdeal.main_arg3)
      ∧ r.2.mem ((c.tc : Thread Cert.GradsRefIdeal.nD Cert.GradsRefIdeal.τ).loc Cert.GradsRefIdeal.main_arg4) = m ((c.tc : Thread Cert.GradsRefIdeal.nD Cert.GradsRefIdeal.τ).loc Cert.GradsRefIdeal.main_arg4)
      ∧ r.2.mem ((c.tc : Thread Cert.GradsRefIdeal.nD Cert.GradsRefIdeal.τ).loc Cert.GradsRefIdeal.main_arg5) = m ((c.tc : Thread Cert.GradsRefIdeal.nD Cert.GradsRefIdeal.τ).loc Cert.GradsRefIdeal.main_arg5))
      ∧ r.2.sem = fun _ => 0)

def quiescent_GradsRefIdeal_pre_rows_fit [hGradsRefIdeal : Cert.GradsRefIdeal.Facts] [hPre_rows_fit : Cert.Pre_rows_fit.Facts] : Prop :=
  ∀ (m : (ℓ : Loc Cert.GradsRefIdeal.nD Cert.GradsRefIdeal.τ Cert.GradsRefIdeal.sig) → Buf (Elt Ideal) ℓ) (g : Dev Cert.GradsRefIdeal.nD → PrngReg), Pre_GradsRefIdeal_rows_fit m →
    θ_run (Cert.GradsRefIdeal.defs (F := Ideal)) (onTc (τ := Cert.GradsRefIdeal.τ) (Cert.GradsRefIdeal.main (F := Ideal))) ⟨m, fun _ => 0, g⟩ (fun r => (∀ c : Dev Cert.GradsRefIdeal.nD,
      r.2.mem ((c.tc : Thread Cert.GradsRefIdeal.nD Cert.GradsRefIdeal.τ).loc Cert.GradsRefIdeal.main_arg0) = m ((c.tc : Thread Cert.GradsRefIdeal.nD Cert.GradsRefIdeal.τ).loc Cert.GradsRefIdeal.main_arg0)
      ∧ r.2.mem ((c.tc : Thread Cert.GradsRefIdeal.nD Cert.GradsRefIdeal.τ).loc Cert.GradsRefIdeal.main_arg1) = m ((c.tc : Thread Cert.GradsRefIdeal.nD Cert.GradsRefIdeal.τ).loc Cert.GradsRefIdeal.main_arg1)
      ∧ r.2.mem ((c.tc : Thread Cert.GradsRefIdeal.nD Cert.GradsRefIdeal.τ).loc Cert.GradsRefIdeal.main_arg2) = m ((c.tc : Thread Cert.GradsRefIdeal.nD Cert.GradsRefIdeal.τ).loc Cert.GradsRefIdeal.main_arg2)
      ∧ r.2.mem ((c.tc : Thread Cert.GradsRefIdeal.nD Cert.GradsRefIdeal.τ).loc Cert.GradsRefIdeal.main_arg3) = m ((c.tc : Thread Cert.GradsRefIdeal.nD Cert.GradsRefIdeal.τ).loc Cert.GradsRefIdeal.main_arg3)
      ∧ r.2.mem ((c.tc : Thread Cert.GradsRefIdeal.nD Cert.GradsRefIdeal.τ).loc Cert.GradsRefIdeal.main_arg4) = m ((c.tc : Thread Cert.GradsRefIdeal.nD Cert.GradsRefIdeal.τ).loc Cert.GradsRefIdeal.main_arg4)
      ∧ r.2.mem ((c.tc : Thread Cert.GradsRefIdeal.nD Cert.GradsRefIdeal.τ).loc Cert.GradsRefIdeal.main_arg5) = m ((c.tc : Thread Cert.GradsRefIdeal.nD Cert.GradsRefIdeal.τ).loc Cert.GradsRefIdeal.main_arg5))
      ∧ r.2.sem = fun _ => 0)

def quiescent_Heads [hHeads : Cert.Heads.Facts] [hPre_starts_fit : Cert.Pre_starts_fit.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7)
      ∧ r.2.mem ((c.tc : Thread Cert.Heads.nD Cert.Heads.τ).loc Cert.Heads.main_arg8) = m ((c.tc : Thread Cert.Heads.nD Cert.Heads.τ).loc Cert.Heads.main_arg8))
      ∧ r.2.sem = fun _ => 0)

def quiescent_HeadsIdeal [hHeadsIdeal : Cert.HeadsIdeal.Facts] [hPre_starts_fit : Cert.Pre_starts_fit.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
      ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6)
      ∧ r.2.mem ((c.tc : Thread Cert.HeadsRefIdeal.nD Cert.HeadsRefIdeal.τ).loc Cert.HeadsRefIdeal.main_arg7) = m ((c.tc : Thread Cert.HeadsRefIdeal.nD Cert.HeadsRefIdeal.τ).loc Cert.HeadsRefIdeal.main_arg7)
      ∧ r.2.mem ((c.tc : Thread Cert.HeadsRefIdeal.nD Cert.HeadsRefIdeal.τ).loc Cert.HeadsRefIdeal.main_arg8) = m ((c.tc : Thread Cert.HeadsRefIdeal.nD Cert.HeadsRefIdeal.τ).loc Cert.HeadsRefIdeal.main_arg8))
      ∧ r.2.sem = fun _ => 0)

def quiescent_HeadsRefIdeal_pre_starts_fit [hHeadsRefIdeal : Cert.HeadsRefIdeal.Facts] [hPre_starts_fit : Cert.Pre_starts_fit.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal_starts_fit m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6)
      ∧ r.2.mem ((c.tc : Thread Cert.HeadsRefIdeal.nD Cert.HeadsRefIdeal.τ).loc Cert.HeadsRefIdeal.main_arg7) = m ((c.tc : Thread Cert.HeadsRefIdeal.nD Cert.HeadsRefIdeal.τ).loc Cert.HeadsRefIdeal.main_arg7)
      ∧ r.2.mem ((c.tc : Thread Cert.HeadsRefIdeal.nD Cert.HeadsRefIdeal.τ).loc Cert.HeadsRefIdeal.main_arg8) = m ((c.tc : Thread Cert.HeadsRefIdeal.nD Cert.HeadsRefIdeal.τ).loc Cert.HeadsRefIdeal.main_arg8))
      ∧ r.2.sem = fun _ => 0)

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v3_0)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v3_0) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v5) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Grads_GradsIdeal : Prop :=
  True

def algebraic_GradsIdeal_GradsRefIdeal_pre_rows_fit [hGradsIdeal : Cert.GradsIdeal.Facts] [hGradsRefIdeal : Cert.GradsRefIdeal.Facts] [hPre_rows_fit : Cert.Pre_rows_fit.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsRefIdeal.nD Cert.GradsRefIdeal.τ Cert.GradsRefIdeal.sig) → Buf (Elt Ideal) ℓ) (g' : Dev Cert.GradsRefIdeal.nD → PrngReg), Pre_GradsIdeal_rows_fit m →
    (∀ c : Dev Cert.GradsIdeal.nD,
      m' ((c.tc : Thread Cert.GradsRefIdeal.nD Cert.GradsRefIdeal.τ).loc Cert.GradsRefIdeal.main_arg0) = m ((c.tc : Thread Cert.GradsIdeal.nD Cert.GradsIdeal.τ).loc Cert.GradsIdeal.main_arg0)
      ∧ m' ((c.tc : Thread Cert.GradsRefIdeal.nD Cert.GradsRefIdeal.τ).loc Cert.GradsRefIdeal.main_arg1) = m ((c.tc : Thread Cert.GradsIdeal.nD Cert.GradsIdeal.τ).loc Cert.GradsIdeal.main_arg1)
      ∧ m' ((c.tc : Thread Cert.GradsRefIdeal.nD Cert.GradsRefIdeal.τ).loc Cert.GradsRefIdeal.main_arg2) = m ((c.tc : Thread Cert.GradsIdeal.nD Cert.GradsIdeal.τ).loc Cert.GradsIdeal.main_arg2)
      ∧ m' ((c.tc : Thread Cert.GradsRefIdeal.nD Cert.GradsRefIdeal.τ).loc Cert.GradsRefIdeal.main_arg3) = m ((c.tc : Thread Cert.GradsIdeal.nD Cert.GradsIdeal.τ).loc Cert.GradsIdeal.main_arg3)
      ∧ m' ((c.tc : Thread Cert.GradsRefIdeal.nD Cert.GradsRefIdeal.τ).loc Cert.GradsRefIdeal.main_arg4) = m ((c.tc : Thread Cert.GradsIdeal.nD Cert.GradsIdeal.τ).loc Cert.GradsIdeal.main_arg4)
      ∧ m' ((c.tc : Thread Cert.GradsRefIdeal.nD Cert.GradsRefIdeal.τ).loc Cert.GradsRefIdeal.main_arg5) = m ((c.tc : Thread Cert.GradsIdeal.nD Cert.GradsIdeal.τ).loc Cert.GradsIdeal.main_arg5)) →
    ∃ (v0 : (c : Dev Cert.GradsIdeal.nD) → Buf (Elt Ideal) ((c.tc : Thread Cert.GradsIdeal.nD Cert.GradsIdeal.τ).loc Cert.GradsIdeal.main_v2_0)) (v1 : (c : Dev Cert.GradsIdeal.nD) → Buf (Elt Ideal) ((c.tc : Thread Cert.GradsIdeal.nD Cert.GradsIdeal.τ).loc Cert.GradsIdeal.main_v2_1)) (v2 : (c : Dev Cert.GradsIdeal.nD) → Buf (Elt Ideal) ((c.tc : Thread Cert.GradsIdeal.nD Cert.GradsIdeal.τ).loc Cert.GradsIdeal.main_v2_2)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v2_0) = v0 c
          ∧ r.2.mem ((c.tc : Thread Cert.GradsIdeal.nD Cert.GradsIdeal.τ).loc Cert.GradsIdeal.main_v2_1) = v1 c
          ∧ r.2.mem ((c.tc : Thread Cert.GradsIdeal.nD Cert.GradsIdeal.τ).loc Cert.GradsIdeal.main_v2_2) = v2 c
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0)
          ∧ r.2.mem ((c.tc : Thread Cert.GradsIdeal.nD Cert.GradsIdeal.τ).loc Cert.GradsIdeal.main_arg1) = m ((c.tc : Thread Cert.GradsIdeal.nD Cert.GradsIdeal.τ).loc Cert.GradsIdeal.main_arg1)
          ∧ r.2.mem ((c.tc : Thread Cert.GradsIdeal.nD Cert.GradsIdeal.τ).loc Cert.GradsIdeal.main_arg2) = m ((c.tc : Thread Cert.GradsIdeal.nD Cert.GradsIdeal.τ).loc Cert.GradsIdeal.main_arg2)
          ∧ r.2.mem ((c.tc : Thread Cert.GradsIdeal.nD Cert.GradsIdeal.τ).loc Cert.GradsIdeal.main_arg3) = m ((c.tc : Thread Cert.GradsIdeal.nD Cert.GradsIdeal.τ).loc Cert.GradsIdeal.main_arg3)
          ∧ r.2.mem ((c.tc : Thread Cert.GradsIdeal.nD Cert.GradsIdeal.τ).loc Cert.GradsIdeal.main_arg4) = m ((c.tc : Thread Cert.GradsIdeal.nD Cert.GradsIdeal.τ).loc Cert.GradsIdeal.main_arg4)
          ∧ r.2.mem ((c.tc : Thread Cert.GradsIdeal.nD Cert.GradsIdeal.τ).loc Cert.GradsIdeal.main_arg5) = m ((c.tc : Thread Cert.GradsIdeal.nD Cert.GradsIdeal.τ).loc Cert.GradsIdeal.main_arg5))
      ∧ θ_run (Cert.GradsRefIdeal.defs (F := Ideal)) (onTc (τ := Cert.GradsRefIdeal.τ) (Cert.GradsRefIdeal.main (F := Ideal))) ⟨m', fun _ => 0, g'⟩ (fun r => ∀ c : Dev Cert.GradsRefIdeal.nD,
          r.2.mem ((c.tc : Thread Cert.GradsRefIdeal.nD Cert.GradsRefIdeal.τ).loc Cert.GradsRefIdeal.main_v23) = v0 c
          ∧ r.2.mem ((c.tc : Thread Cert.GradsRefIdeal.nD Cert.GradsRefIdeal.τ).loc Cert.GradsRefIdeal.main_v26) = v1 c
          ∧ r.2.mem ((c.tc : Thread Cert.GradsRefIdeal.nD Cert.GradsRefIdeal.τ).loc Cert.GradsRefIdeal.main_v28) = v2 c
          ∧ r.2.mem ((c.tc : Thread Cert.GradsRefIdeal.nD Cert.GradsRefIdeal.τ).loc Cert.GradsRefIdeal.main_arg0) = m' ((c.tc : Thread Cert.GradsRefIdeal.nD Cert.GradsRefIdeal.τ).loc Cert.GradsRefIdeal.main_arg0)
          ∧ r.2.mem ((c.tc : Thread Cert.GradsRefIdeal.nD Cert.GradsRefIdeal.τ).loc Cert.GradsRefIdeal.main_arg1) = m' ((c.tc : Thread Cert.GradsRefIdeal.nD Cert.GradsRefIdeal.τ).loc Cert.GradsRefIdeal.main_arg1)
          ∧ r.2.mem ((c.tc : Thread Cert.GradsRefIdeal.nD Cert.GradsRefIdeal.τ).loc Cert.GradsRefIdeal.main_arg2) = m' ((c.tc : Thread Cert.GradsRefIdeal.nD Cert.GradsRefIdeal.τ).loc Cert.GradsRefIdeal.main_arg2)
          ∧ r.2.mem ((c.tc : Thread Cert.GradsRefIdeal.nD Cert.GradsRefIdeal.τ).loc Cert.GradsRefIdeal.main_arg3) = m' ((c.tc : Thread Cert.GradsRefIdeal.nD Cert.GradsRefIdeal.τ).loc Cert.GradsRefIdeal.main_arg3)
          ∧ r.2.mem ((c.tc : Thread Cert.GradsRefIdeal.nD Cert.GradsRefIdeal.τ).loc Cert.GradsRefIdeal.main_arg4) = m' ((c.tc : Thread Cert.GradsRefIdeal.nD Cert.GradsRefIdeal.τ).loc Cert.GradsRefIdeal.main_arg4)
          ∧ r.2.mem ((c.tc : Thread Cert.GradsRefIdeal.nD Cert.GradsRefIdeal.τ).loc Cert.GradsRefIdeal.main_arg5) = m' ((c.tc : Thread Cert.GradsRefIdeal.nD Cert.GradsRefIdeal.τ).loc Cert.GradsRefIdeal.main_arg5))

def preserves_Heads_HeadsIdeal : Prop :=
  True

def algebraic_HeadsIdeal_HeadsRefIdeal [hHeadsIdeal : Cert.HeadsIdeal.Facts] [hHeadsRefIdeal : Cert.HeadsRefIdeal.Facts] [hPre_starts_fit : Cert.Pre_starts_fit.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)
      ∧ m' ((c.tc : Thread Cert.HeadsRefIdeal.nD Cert.HeadsRefIdeal.τ).loc Cert.HeadsRefIdeal.main_arg5) = m ((c.tc : Thread Cert.HeadsIdeal.nD Cert.HeadsIdeal.τ).loc Cert.HeadsIdeal.main_arg5)
      ∧ m' ((c.tc : Thread Cert.HeadsRefIdeal.nD Cert.HeadsRefIdeal.τ).loc Cert.HeadsRefIdeal.main_arg6) = m ((c.tc : Thread Cert.HeadsIdeal.nD Cert.HeadsIdeal.τ).loc Cert.HeadsIdeal.main_arg6)
      ∧ m' ((c.tc : Thread Cert.HeadsRefIdeal.nD Cert.HeadsRefIdeal.τ).loc Cert.HeadsRefIdeal.main_arg7) = m ((c.tc : Thread Cert.HeadsIdeal.nD Cert.HeadsIdeal.τ).loc Cert.HeadsIdeal.main_arg7)
      ∧ m' ((c.tc : Thread Cert.HeadsRefIdeal.nD Cert.HeadsRefIdeal.τ).loc Cert.HeadsRefIdeal.main_arg8) = m ((c.tc : Thread Cert.HeadsIdeal.nD Cert.HeadsIdeal.τ).loc Cert.HeadsIdeal.main_arg8)) →
    ∃ (v0 : (c : Dev Cert.HeadsIdeal.nD) → Buf (Elt Ideal) ((c.tc : Thread Cert.HeadsIdeal.nD Cert.HeadsIdeal.τ).loc Cert.HeadsIdeal.main_v5_0)) (v1 : (c : Dev Cert.HeadsIdeal.nD) → Buf (Elt Ideal) ((c.tc : Thread Cert.HeadsIdeal.nD Cert.HeadsIdeal.τ).loc Cert.HeadsIdeal.main_v5_1)) (v2 : (c : Dev Cert.HeadsIdeal.nD) → Buf (Elt Ideal) ((c.tc : Thread Cert.HeadsIdeal.nD Cert.HeadsIdeal.τ).loc Cert.HeadsIdeal.main_v5_2)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v5_0) = v0 c
          ∧ r.2.mem ((c.tc : Thread Cert.HeadsIdeal.nD Cert.HeadsIdeal.τ).loc Cert.HeadsIdeal.main_v5_1) = v1 c
          ∧ r.2.mem ((c.tc : Thread Cert.HeadsIdeal.nD Cert.HeadsIdeal.τ).loc Cert.HeadsIdeal.main_v5_2) = v2 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
          ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v3_0) = v0 c
          ∧ r.2.mem ((c.tc : Thread Cert.HeadsRefIdeal.nD Cert.HeadsRefIdeal.τ).loc Cert.HeadsRefIdeal.main_v3_1) = v1 c
          ∧ r.2.mem ((c.tc : Thread Cert.HeadsRefIdeal.nD Cert.HeadsRefIdeal.τ).loc Cert.HeadsRefIdeal.main_v3_2) = v2 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5)
          ∧ r.2.mem ((c.tc : Thread Cert.HeadsRefIdeal.nD Cert.HeadsRefIdeal.τ).loc Cert.HeadsRefIdeal.main_arg6) = m' ((c.tc : Thread Cert.HeadsRefIdeal.nD Cert.HeadsRefIdeal.τ).loc Cert.HeadsRefIdeal.main_arg6)
          ∧ r.2.mem ((c.tc : Thread Cert.HeadsRefIdeal.nD Cert.HeadsRefIdeal.τ).loc Cert.HeadsRefIdeal.main_arg7) = m' ((c.tc : Thread Cert.HeadsRefIdeal.nD Cert.HeadsRefIdeal.τ).loc Cert.HeadsRefIdeal.main_arg7)
          ∧ r.2.mem ((c.tc : Thread Cert.HeadsRefIdeal.nD Cert.HeadsRefIdeal.τ).loc Cert.HeadsRefIdeal.main_arg8) = m' ((c.tc : Thread Cert.HeadsRefIdeal.nD Cert.HeadsRefIdeal.τ).loc Cert.HeadsRefIdeal.main_arg8))

def Claim : Prop :=
  ∃ (hFwd : Cert.Fwd.Facts) (hFwdIdeal : Cert.FwdIdeal.Facts) (hFwdRefIdeal : Cert.FwdRefIdeal.Facts) (hKernel : Cert.Kernel.Facts) (hKernelIdeal : Cert.KernelIdeal.Facts) (hReferenceIdeal : Cert.ReferenceIdeal.Facts) (hGrads : Cert.Grads.Facts) (hGradsIdeal : Cert.GradsIdeal.Facts) (hGradsRefIdeal : Cert.GradsRefIdeal.Facts) (hHeads : Cert.Heads.Facts) (hHeadsIdeal : Cert.HeadsIdeal.Facts) (hHeadsRefIdeal : Cert.HeadsRefIdeal.Facts) (hPre_bases_fit : Cert.Pre_bases_fit.Facts) (hPre_rows_fit : Cert.Pre_rows_fit.Facts) (hPre_starts_fit : Cert.Pre_starts_fit.Facts),
    quiescent_Fwd (hFwd := hFwd)
    ∧ quiescent_FwdIdeal (hFwdIdeal := hFwdIdeal)
    ∧ quiescent_FwdRefIdeal (hFwdRefIdeal := hFwdRefIdeal)
    ∧ quiescent_Kernel (hKernel := hKernel)
    ∧ quiescent_KernelIdeal (hKernelIdeal := hKernelIdeal)
    ∧ quiescent_ReferenceIdeal (hReferenceIdeal := hReferenceIdeal)
    ∧ quiescent_Grads (hGrads := hGrads) (hPre_bases_fit := hPre_bases_fit)
    ∧ quiescent_GradsIdeal (hGradsIdeal := hGradsIdeal) (hPre_bases_fit := hPre_bases_fit)
    ∧ quiescent_GradsIdeal_pre_rows_fit (hGradsIdeal := hGradsIdeal) (hPre_rows_fit := hPre_rows_fit)
    ∧ quiescent_GradsRefIdeal (hGradsRefIdeal := hGradsRefIdeal)
    ∧ quiescent_GradsRefIdeal_pre_rows_fit (hGradsRefIdeal := hGradsRefIdeal) (hPre_rows_fit := hPre_rows_fit)
    ∧ quiescent_Heads (hHeads := hHeads) (hPre_starts_fit := hPre_starts_fit)
    ∧ quiescent_HeadsIdeal (hHeadsIdeal := hHeadsIdeal) (hPre_starts_fit := hPre_starts_fit)
    ∧ quiescent_HeadsRefIdeal (hHeadsRefIdeal := hHeadsRefIdeal)
    ∧ quiescent_HeadsRefIdeal_pre_starts_fit (hHeadsRefIdeal := hHeadsRefIdeal) (hPre_starts_fit := hPre_starts_fit)
    ∧ preserves_Fwd_FwdIdeal
    ∧ algebraic_FwdIdeal_FwdRefIdeal (hFwdIdeal := hFwdIdeal) (hFwdRefIdeal := hFwdRefIdeal)
    ∧ preserves_Kernel_KernelIdeal
    ∧ algebraic_KernelIdeal_ReferenceIdeal (hKernelIdeal := hKernelIdeal) (hReferenceIdeal := hReferenceIdeal)
    ∧ preserves_Grads_GradsIdeal
    ∧ algebraic_GradsIdeal_GradsRefIdeal_pre_rows_fit (hGradsIdeal := hGradsIdeal) (hGradsRefIdeal := hGradsRefIdeal) (hPre_rows_fit := hPre_rows_fit)
    ∧ preserves_Heads_HeadsIdeal
    ∧ algebraic_HeadsIdeal_HeadsRefIdeal (hHeadsIdeal := hHeadsIdeal) (hHeadsRefIdeal := hHeadsRefIdeal) (hPre_starts_fit := hPre_starts_fit)
-- ==== Pre_bases_fit.lean ====
abbrev S5 : Shape := ⟨1, ![5]⟩
abbrev S256x2048 : Shape := ⟨2, ![256, 2048]⟩
abbrev S5x256 : Shape := ⟨2, ![5, 256]⟩
abbrev S1792x2048 : Shape := ⟨2, ![1792, 2048]⟩
abbrev S5x256x2048 : Shape := ⟨3, ![5, 256, 2048]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel

variable [Facts]

def fn {F : FTy → Type} [FloatOps F] (main_arg0 : IVec S5 32) (main_arg1 : IVec S5 32) (main_arg2 : FVec F S256x2048 .bf16) (main_arg3 : IVec S5x256 32) (main_arg4 : FVec F S1792x2048 .f32) (main_arg5 : FVec F S5x256x2048 .f32) : IVec S_ 1 :=
  let main_c : IVec S_ 32 := constantI S_ 32 0#32
  let main_v0 : IVec S5 32 := broadcastInDim S5 ![] bcast_S_S5 main_c
  let main_v1 : IVec S5 1 := cmpi .sge main_arg0 main_v0
  let main_c_0 : IVec S_ 32 := constantI S_ 32 1536#32
  let main_v2 : IVec S5 32 := broadcastInDim S5 ![] bcast_S_S5 main_c_0
  let main_v3 : IVec S5 1 := cmpi .sle main_arg0 main_v2
  let main_v4 : IVec S5 1 := andi main_v1 main_v3
  let main_c_1 : IVec S_ 32 := constantI S_ 32 15#32
  let main_v5 : IVec S5 32 := broadcastInDim S5 ![] bcast_S_S5 main_c_1
  let main_v6 : IVec S5 32 := andi main_arg0 main_v5
  let main_c_2 : IVec S_ 32 := constantI S_ 32 0#32
  let main_v7 : IVec S5 32 := broadcastInDim S5 ![] bcast_S_S5 main_c_2
  let main_v8 : IVec S5 1 := cmpi .eq main_v6 main_v7
  let main_v9 : IVec S5 1 := andi main_v4 main_v8
  let main_c_3 : IVec S_ 1 := constantI S_ 1 1#1
  let main_v10 : IVec S_ 1 := (fun x v => Host.reduce IntOp.andi x v reducesTo_S5_S_d0 h_S_) main_v9 main_c_3
  main_v10
-- ==== Pre_rows_fit.lean ====
abbrev S5 : Shape := ⟨1, ![5]⟩
abbrev S256x2048 : Shape := ⟨2, ![256, 2048]⟩
abbrev S5x256 : Shape := ⟨2, ![5, 256]⟩
abbrev S1792x2048 : Shape := ⟨2, ![1792, 2048]⟩
abbrev S5x256x2048 : Shape := ⟨3, ![5, 256, 2048]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel
  bcast_S_S1792x2048 : S_.BroadcastsInDim S1792x2048 (![] : Fin 0 → Fin S1792x2048.rank)
  reducesTo_S1792x2048_S_d0_1 : S1792x2048.ReducesTo [0, 1] S_

variable [Facts]

def fn {F : FTy → Type} [FloatOps F] (main_arg0 : IVec S5 32) (main_arg1 : IVec S5 32) (main_arg2 : FVec F S256x2048 .bf16) (main_arg3 : IVec S5x256 32) (main_arg4 : FVec F S1792x2048 .f32) (main_arg5 : FVec F S5x256x2048 .f32) : IVec S_ 1 :=
  let main_c : IVec S_ 32 := constantI S_ 32 0#32
  let main_v0 : IVec S5 32 := broadcastInDim S5 ![] bcast_S_S5 main_c
  let main_v1 : IVec S5 1 := cmpi .sge main_arg0 main_v0
  let main_c_0 : IVec S_ 32 := constantI S_ 32 1536#32
  let main_v2 : IVec S5 32 := broadcastInDim S5 ![] bcast_S_S5 main_c_0
  let main_v3 : IVec S5 1 := cmpi .sle main_arg0 main_v2
  let main_v4 : IVec S5 1 := andi main_v1 main_v3
  let main_c_1 : IVec S_ 32 := constantI S_ 32 15#32
  let main_v5 : IVec S5 32 := broadcastInDim S5 ![] bcast_S_S5 main_c_1
  let main_v6 : IVec S5 32 := andi main_arg0 main_v5
  let main_c_2 : IVec S_ 32 := constantI S_ 32 0#32
  let main_v7 : IVec S5 32 := broadcastInDim S5 ![] bcast_S_S5 main_c_2
  let main_v8 : IVec S5 1 := cmpi .eq main_v6 main_v7
  let main_v9 : IVec S5 1 := andi main_v4 main_v8
  let main_c_3 : IVec S_ 1 := constantI S_ 1 1#1
  let main_v10 : IVec S_ 1 := (fun x v => Host.reduce IntOp.andi x v reducesTo_S5_S_d0 h_S_) main_v9 main_c_3
  let main_v11 : FVec F S1792x2048 .f32 := Host.absf main_arg4
  let main_cst : FVec F S_ .f32 := constant S_ .f32 0x7F800000#32
  let main_v12 : FVec F S1792x2048 .f32 := broadcastInDim S1792x2048 ![] bcast_S_S1792x2048 main_cst
  let main_v13 : IVec S1792x2048 1 := cmpf .olt main_v11 main_v12
  let main_c_4 : IVec S_ 1 := constantI S_ 1 1#1
  let main_v14 : IVec S_ 1 := (fun x v => Host.reduce IntOp.andi x v reducesTo_S1792x2048_S_d0_1 h_S_) main_v13 main_c_4
  let main_v15 : IVec S_ 1 := andi main_v10 main_v14
  main_v15
-- ==== Pre_starts_fit.lean ====
abbrev S5 : Shape := ⟨1, ![5]⟩
abbrev S2x128x2048 : Shape := ⟨3, ![2, 128, 2048]⟩
abbrev S2x128 : Shape := ⟨2, ![2, 128]⟩
abbrev S5x2048x2048 : Shape := ⟨3, ![5, 2048, 2048]⟩
abbrev S5x2048 : Shape := ⟨2, ![5, 2048]⟩
abbrev S5x256 : Shape := ⟨2, ![5, 256]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel

variable [Facts]

def fn {F : FTy → Type} [FloatOps F] (main_arg0 : IVec S5 32) (main_arg1 : IVec S5 32) (main_arg2 : FVec F S5 .f32) (main_arg3 : FVec F S2x128x2048 .fp8e4m3) (main_arg4 : FVec F S2x128 .f32) (main_arg5 : FVec F S5x2048x2048 .bf16) (main_arg6 : FVec F S5x2048 .f32) (main_arg7 : IVec S5x256 32) (main_arg8 : IVec S5x256 32) : IVec S_ 1 :=
  let main_c : IVec S_ 32 := constantI S_ 32 0#32
  let main_v0 : IVec S5 32 := broadcastInDim S5 ![] bcast_S_S5 main_c
  let main_v1 : IVec S5 1 := cmpi .sge main_arg0 main_v0
  let main_c_0 : IVec S_ 32 := constantI S_ 32 1536#32
  let main_v2 : IVec S5 32 := broadcastInDim S5 ![] bcast_S_S5 main_c_0
  let main_v3 : IVec S5 1 := cmpi .sle main_arg0 main_v2
  let main_v4 : IVec S5 1 := andi main_v1 main_v3
  let main_c_1 : IVec S_ 32 := constantI S_ 32 15#32
  let main_v5 : IVec S5 32 := broadcastInDim S5 ![] bcast_S_S5 main_c_1
  let main_v6 : IVec S5 32 := andi main_arg0 main_v5
  let main_c_2 : IVec S_ 32 := constantI S_ 32 0#32
  let main_v7 : IVec S5 32 := broadcastInDim S5 ![] bcast_S_S5 main_c_2
  let main_v8 : IVec S5 1 := cmpi .eq main_v6 main_v7
  let main_v9 : IVec S5 1 := andi main_v4 main_v8
  let main_c_3 : IVec S_ 1 := constantI S_ 1 1#1
  let main_v10 : IVec S_ 1 := (fun x v => Host.reduce IntOp.andi x v reducesTo_S5_S_d0 h_S_) main_v9 main_c_3
  main_v10
-- ==== Fwd.lean ====
abbrev S1792x2048 : Shape := ⟨2, ![1792, 2048]⟩
abbrev S1792x128 : Shape := ⟨2, ![1792, 128]⟩
abbrev S2048x100352 : Shape := ⟨2, ![2048, 100352]⟩
abbrev S32x1568 : Shape := ⟨2, ![32, 1568]⟩
abbrev S32x1568x64 : Shape := ⟨3, ![32, 1568, 64]⟩
abbrev S32x100352 : Shape := ⟨2, ![32, 100352]⟩
abbrev S1792x100352 : Shape := ⟨2, ![1792, 100352]⟩
abbrev S896x2048 : Shape := ⟨2, ![896, 2048]⟩
abbrev S896x128 : Shape := ⟨2, ![896, 128]⟩
abbrev S2048x2048 : Shape := ⟨2, ![2048, 2048]⟩
abbrev S32x2048 : Shape := ⟨2, ![32, 2048]⟩
abbrev S896x1 : Shape := ⟨2, ![896, 1]⟩
abbrev S2048x512 : Shape := ⟨2, ![2048, 512]⟩
abbrev S32x512 : Shape := ⟨2, ![32, 512]⟩
abbrev S32x64x512 : Shape := ⟨3, ![32, 64, 512]⟩
abbrev S32x1x512 : Shape := ⟨3, ![32, 1, 512]⟩
abbrev S896x512 : Shape := ⟨2, ![896, 512]⟩
abbrev S16x128 : Shape := ⟨2, ![16, 128]⟩
abbrev S16x1 : Shape := ⟨2, ![16, 1]⟩
abbrev S896 : Shape := ⟨1, ![896]⟩

abbrev nBuf : Space → Nat
  | .hbm => 10
  | .vmem => 21
  | .smem => 0
  | _ => 0

abbrev bufTy : (tb : Table) → Fin (tcTables nBuf tb) → BufTy
  | .hbm, ⟨0, _⟩ => ⟨S1792x2048, .bf16⟩
  | .hbm, ⟨1, _⟩ => ⟨S1792x128, .f32⟩
  | .hbm, ⟨2, _⟩ => ⟨S2048x100352, .fp8e4m3⟩
  | .hbm, ⟨3, _⟩ => ⟨S32x1568, .f32⟩
  | .hbm, ⟨4, _⟩ => ⟨S32x1568, .bf16⟩
  | .hbm, ⟨5, _⟩ => ⟨S32x1568x64, .bf16⟩
  | .hbm, ⟨6, _⟩ => ⟨S32x100352, .bf16⟩
  | .hbm, ⟨7, _⟩ => ⟨S1792x100352, .f32⟩
  | .hbm, ⟨8, _⟩ => ⟨S1792x128, .f32⟩
  | .hbm, ⟨9, _⟩ => ⟨S1792x128, .f32⟩
  | .local _ .vmem, ⟨0, _⟩ => ⟨S896x2048, .bf16⟩
  | .local _ .vmem, ⟨1, _⟩ => ⟨S896x2048, .bf16⟩
  | .local _ .vmem, ⟨2, _⟩ => ⟨S896x128, .f32⟩
  | .local _ .vmem, ⟨3, _⟩ => ⟨S896x128, .f32⟩
  | .local _ .vmem, ⟨4, _⟩ => ⟨S2048x2048, .fp8e4m3⟩
  | .local _ .vmem, ⟨5, _⟩ => ⟨S2048x2048, .fp8e4m3⟩
  | .local _ .vmem, ⟨6, _⟩ => ⟨S32x2048, .bf16⟩
  | .local _ .vmem, ⟨7, _⟩ => ⟨S32x2048, .bf16⟩
  | .local _ .vmem, ⟨8, _⟩ => ⟨S896x2048, .f32⟩
  | .local _ .vmem, ⟨9, _⟩ => ⟨S896x2048, .f32⟩
  | .local _ .vmem, ⟨10, _⟩ => ⟨S896x128, .f32⟩
  | .local _ .vmem, ⟨11, _⟩ => ⟨S896x128, .f32⟩
  | .local _ .vmem, ⟨12, _⟩ => ⟨S896x128, .f32⟩
  | .local _ .vmem, ⟨13, _⟩ => ⟨S896x128, .f32⟩
  | .local _ .vmem, ⟨14, _⟩ => ⟨S2048x2048, .bf16⟩
  | .local _ .vmem, ⟨15, _⟩ => ⟨S896x128, .f32⟩
  | .local _ .vmem, ⟨16, _⟩ => ⟨S896x128, .f32⟩
  | .local _ .vmem, ⟨17, _⟩ => ⟨S896x128, .f32⟩
  | .local _ .vmem, ⟨18, _⟩ => ⟨S896x128, .f32⟩
  | .local _ .vmem, ⟨19, _⟩ => ⟨S896x128, .f32⟩
  | .local _ .vmem, ⟨20, _⟩ => ⟨S896x128, .f32⟩
  | _, _ => ⟨S1792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 49], ![false, false]⟩

@[reducible] def k0_t1_loop : Scf.Loop 32 :=
  let c0_i32_36 : BitVec 32 := 0#32
  let c56_i32 : BitVec 32 := 56#32
  let v70 : BitVec 32 := Scalar.addi c0_i32_36 c56_i32
  let c1_i32_37 : BitVec 32 := 1#32
  ⟨c0_i32_36, v70, c1_i32_37⟩
def k0_mult1 (k0_t1 : Fin k0_t1_loop.trips) : BitVec 32 :=
  let c0_i32_36 : BitVec 32 := 0#32
  let c1_i32_37 : BitVec 32 := 1#32
  let arg16 : BitVec 32 := Scf.iv c0_i32_36 c1_i32_37 k0_t1
  let c16_i32 : BitVec 32 := 16#32
  let v152 : BitVec 32 := Scalar.muli arg16 c16_i32
  v152
def k0_off1 (k0_t1 : Fin k0_t1_loop.trips) : Fin 2 → Nat :=
  let c0_i32_36 : BitVec 32 := 0#32
  let c1_i32_37 : BitVec 32 := 1#32
  let arg16 : BitVec 32 := Scf.iv c0_i32_36 c1_i32_37 k0_t1
  let c16_i32 : BitVec 32 := 16#32
  let v152 : BitVec 32 := Scalar.muli arg16 c16_i32
  let v153 : BitVec 32 := v152
  let v155 : Index := Scalar.indexCast v153
  let c1 : Index := 1#32
  ![v155.toNat, 1]
def k0_off2 (k0_t1 : Fin k0_t1_loop.trips) : Fin 2 → Nat :=
  let c0_i32_36 : BitVec 32 := 0#32
  let c1_i32_37 : BitVec 32 := 1#32
  let arg16 : BitVec 32 := Scf.iv c0_i32_36 c1_i32_37 k0_t1
  let c16_i32 : BitVec 32 := 16#32
  let v152 : BitVec 32 := Scalar.muli arg16 c16_i32
  let v153 : BitVec 32 := v152
  let v163 : Index := Scalar.indexCast v153
  let c0_98 : Index := 0#32
  ![v163.toNat, 0]
def k0_off3 (k0_t1 : Fin k0_t1_loop.trips) : Fin 2 → Nat :=
  let c0_i32_36 : BitVec 32 := 0#32
  let c1_i32_37 : BitVec 32 := 1#32
  let arg16 : BitVec 32 := Scf.iv c0_i32_36 c1_i32_37 k0_t1
  let c16_i32 : BitVec 32 := 16#32
  let v152 : BitVec 32 := Scalar.muli arg16 c16_i32
  let v153 : BitVec 32 := v152
  let v171 : Index := Scalar.indexCast v153
  let c0_102 : Index := 0#32
  ![v171.toNat, 0]
def k0_off4 (k0_t1 : Fin k0_t1_loop.trips) : Fin 2 → Nat :=
  let c0_i32_36 : BitVec 32 := 0#32
  let c1_i32_37 : BitVec 32 := 1#32
  let arg16 : BitVec 32 := Scf.iv c0_i32_36 c1_i32_37 k0_t1
  let c16_i32 : BitVec 32 := 16#32
  let v152 : BitVec 32 := Scalar.muli arg16 c16_i32
  let v153 : BitVec 32 := v152
  let v191 : Index := Scalar.indexCast v153
  let c128 : Index := 128#32
  ![v191.toNat, 128]
def k0_off5 (k0_t1 : Fin k0_t1_loop.trips) : Fin 2 → Nat :=
  let c0_i32_36 : BitVec 32 := 0#32
  let c1_i32_37 : BitVec 32 := 1#32
  let arg16 : BitVec 32 := Scf.iv c0_i32_36 c1_i32_37 k0_t1
  let c16_i32 : BitVec 32 := 16#32
  let v152 : BitVec 32 := Scalar.muli arg16 c16_i32
  let v153 : BitVec 32 := v152
  let v211 : Index := Scalar.indexCast v153
  let c256 : Index := 256#32
  ![v211.toNat, 256]
def k0_off6 (k0_t1 : Fin k0_t1_loop.trips) : Fin 2 → Nat :=
  let c0_i32_36 : BitVec 32 := 0#32
  let c1_i32_37 : BitVec 32 := 1#32
  let arg16 : BitVec 32 := Scf.iv c0_i32_36 c1_i32_37 k0_t1
  let c16_i32 : BitVec 32 := 16#32
  let v152 : BitVec 32 := Scalar.muli arg16 c16_i32
  let v153 : BitVec 32 := v152
  let v231 : Index := Scalar.indexCast v153
  let c384 : Index := 384#32
  ![v231.toNat, 384]
@[reducible] def k0_t2_loop : Scf.Loop 32 :=
  let c0_i32_51 : BitVec 32 := 0#32
  let c56_i32_52 : BitVec 32 := 56#32
  let v89 : BitVec 32 := Scalar.addi c0_i32_51 c56_i32_52
  let c1_i32_53 : BitVec 32 := 1#32
  ⟨c0_i32_51, v89, c1_i32_53⟩
def k0_mult2 (k0_t2 : Fin k0_t2_loop.trips) : BitVec 32 :=
  let c0_i32_51 : BitVec 32 := 0#32
  let c1_i32_53 : BitVec 32 := 1#32
  let arg16 : BitVec 32 := Scf.iv c0_i32_51 c1_i32_53 k0_t2
  let c16_i32 : BitVec 32 := 16#32
  let v152 : BitVec 32 := Scalar.muli arg16 c16_i32
  v152
def k0_off7 (k0_t2 : Fin k0_t2_loop.trips) : Fin 2 → Nat :=
  let c0_i32_51 : BitVec 32 := 0#32
  let c1_i32_53 : BitVec 32 := 1#32
  let arg16 : BitVec 32 := Scf.iv c0_i32_51 c1_i32_53 k0_t2
  let c16_i32 : BitVec 32 := 16#32
  let v152 : BitVec 32 := Scalar.muli arg16 c16_i32
  let v153 : BitVec 32 := v152
  let v155 : Index := Scalar.indexCast v153
  let c1 : Index := 1#32
  ![v155.toNat, 1]
def k0_off8 (k0_t2 : Fin k0_t2_loop.trips) : Fin 2 → Nat :=
  let c0_i32_51 : BitVec 32 := 0#32
  let c1_i32_53 : BitVec 32 := 1#32
  let arg16 : BitVec 32 := Scf.iv c0_i32_51 c1_i32_53 k0_t2
  let c16_i32 : BitVec 32 := 16#32
  let v152 : BitVec 32 := Scalar.muli arg16 c16_i32
  let v153 : BitVec 32 := v152
  let v163 : Index := Scalar.indexCast v153
  let c0_98 : Index := 0#32
  ![v163.toNat, 0]
def k0_off9 (k0_t2 : Fin k0_t2_loop.trips) : Fin 2 → Nat :=
  let c0_i32_51 : BitVec 32 := 0#32
  let c1_i32_53 : BitVec 32 := 1#32
  let arg16 : BitVec 32 := Scf.iv c0_i32_51 c1_i32_53 k0_t2
  let c16_i32 : BitVec 32 := 16#32
  let v152 : BitVec 32 := Scalar.muli arg16 c16_i32
  let v153 : BitVec 32 := v152
  let v171 : Index := Scalar.indexCast v153
  let c512_102 : Index := 512#32
  ![v171.toNat, 512]
def k0_off10 (k0_t2 : Fin k0_t2_loop.trips) : Fin 2 → Nat :=
  let c0_i32_51 : BitVec 32 := 0#32
  let c1_i32_53 : BitVec 32 := 1#32
  let arg16 : BitVec 32 := Scf.iv c0_i32_51 c1_i32_53 k0_t2
  let c16_i32 : BitVec 32 := 16#32
  let v152 : BitVec 32 := Scalar.muli arg16 c16_i32
  let v153 : BitVec 32 := v152
  let v191 : Index := Scalar.indexCast v153
  let c640 : Index := 640#32
  ![v191.toNat, 640]
def k0_off11 (k0_t2 : Fin k0_t2_loop.trips) : Fin 2 → Nat :=
  let c0_i32_51 : BitVec 32 := 0#32
  let c1_i32_53 : BitVec 32 := 1#32
  let arg16 : BitVec 32 := Scf.iv c0_i32_51 c1_i32_53 k0_t2
  let c16_i32 : BitVec 32 := 16#32
  let v152 : BitVec 32 := Scalar.muli arg16 c16_i32
  let v153 : BitVec 32 := v152
  let v211 : Index := Scalar.indexCast v153
  let c768 : Index := 768#32
  ![v211.toNat, 768]
def k0_off12 (k0_t2 : Fin k0_t2_loop.trips) : Fin 2 → Nat :=
  let c0_i32_51 : BitVec 32 := 0#32
  let c1_i32_53 : BitVec 32 := 1#32
  let arg16 : BitVec 32 := Scf.iv c0_i32_51 c1_i32_53 k0_t2
  let c16_i32 : BitVec 32 := 16#32
  let v152 : BitVec 32 := Scalar.muli arg16 c16_i32
  let v153 : BitVec 32 := v152
  let v231 : Index := Scalar.indexCast v153
  let c896 : Index := 896#32
  ![v231.toNat, 896]
@[reducible] def k0_t3_loop : Scf.Loop 32 :=
  let c0_i32_67 : BitVec 32 := 0#32
  let c56_i32_68 : BitVec 32 := 56#32
  let v108 : BitVec 32 := Scalar.addi c0_i32_67 c56_i32_68
  let c1_i32_69 : BitVec 32 := 1#32
  ⟨c0_i32_67, v108, c1_i32_69⟩
def k0_mult3 (k0_t3 : Fin k0_t3_loop.trips) : BitVec 32 :=
  let c0_i32_67 : BitVec 32 := 0#32
  let c1_i32_69 : BitVec 32 := 1#32
  let arg16 : BitVec 32 := Scf.iv c0_i32_67 c1_i32_69 k0_t3
  let c16_i32 : BitVec 32 := 16#32
  let v152 : BitVec 32 := Scalar.muli arg16 c16_i32
  v152
def k0_off13 (k0_t3 : Fin k0_t3_loop.trips) : Fin 2 → Nat :=
  let c0_i32_67 : BitVec 32 := 0#32
  let c1_i32_69 : BitVec 32 := 1#32
  let arg16 : BitVec 32 := Scf.iv c0_i32_67 c1_i32_69 k0_t3
  let c16_i32 : BitVec 32 := 16#32
  let v152 : BitVec 32 := Scalar.muli arg16 c16_i32
  let v153 : BitVec 32 := v152
  let v155 : Index := Scalar.indexCast v153
  let c1 : Index := 1#32
  ![v155.toNat, 1]
def k0_off14 (k0_t3 : Fin k0_t3_loop.trips) : Fin 2 → Nat :=
  let c0_i32_67 : BitVec 32 := 0#32
  let c1_i32_69 : BitVec 32 := 1#32
  let arg16 : BitVec 32 := Scf.iv c0_i32_67 c1_i32_69 k0_t3
  let c16_i32 : BitVec 32 := 16#32
  let v152 : BitVec 32 := Scalar.muli arg16 c16_i32
  let v153 : BitVec 32 := v152
  let v163 : Index := Scalar.indexCast v153
  let c0_98 : Index := 0#32
  ![v163.toNat, 0]
def k0_off15 (k0_t3 : Fin k0_t3_loop.trips) : Fin 2 → Nat :=
  let c0_i32_67 : BitVec 32 := 0#32
  let c1_i32_69 : BitVec 32 := 1#32
  let arg16 : BitVec 32 := Scf.iv c0_i32_67 c1_i32_69 k0_t3
  let c16_i32 : BitVec 32 := 16#32
  let v152 : BitVec 32 := Scalar.muli arg16 c16_i32
  let v153 : BitVec 32 := v152
  let v171 : Index := Scalar.indexCast v153
  let c1024_102 : Index := 1024#32
  ![v171.toNat, 1024]
def k0_off16 (k0_t3 : Fin k0_t3_loop.trips) : Fin 2 → Nat :=
  let c0_i32_67 : BitVec 32 := 0#32
  let c1_i32_69 : BitVec 32 := 1#32
  let arg16 : BitVec 32 := Scf.iv c0_i32_67 c1_i32_69 k0_t3
  let c16_i32 : BitVec 32 := 16#32
  let v152 : BitVec 32 := Scalar.muli arg16 c16_i32
  let v153 : BitVec 32 := v152
  let v191 : Index := Scalar.indexCast v153
  let c1152 : Index := 1152#32
  ![v191.toNat, 1152]
def k0_off17 (k0_t3 : Fin k0_t3_loop.trips) : Fin 2 → Nat :=
  let c0_i32_67 : BitVec 32 := 0#32
  let c1_i32_69 : BitVec 32 := 1#32
  let arg16 : BitVec 32 := Scf.iv c0_i32_67 c1_i32_69 k0_t3
  let c16_i32 : BitVec 32 := 16#32
  let v152 : BitVec 32 := Scalar.muli arg16 c16_i32
  let v153 : BitVec 32 := v152
  let v211 : Index := Scalar.indexCast v153
  let c1280 : Index := 1280#32
  ![v211.toNat, 1280]
def k0_off18 (k0_t3 : Fin k0_t3_loop.trips) : Fin 2 → Nat :=
  let c0_i32_67 : BitVec 32 := 0#32
  let c1_i32_69 : BitVec 32 := 1#32
  let arg16 : BitVec 32 := Scf.iv c0_i32_67 c1_i32_69 k0_t3
  let c16_i32 : BitVec 32 := 16#32
  let v152 : BitVec 32 := Scalar.muli arg16 c16_i32
  let v153 : BitVec 32 := v152
  let v231 : Index := Scalar.indexCast v153
  let c1408 : Index := 1408#32
  ![v231.toNat, 1408]
@[reducible] def k0_t4_loop : Scf.Loop 32 :=
  let c0_i32_83 : BitVec 32 := 0#32
  let c56_i32_84 : BitVec 32 := 56#32
  let v127 : BitVec 32 := Scalar.addi c0_i32_83 c56_i32_84
  let c1_i32_85 : BitVec 32 := 1#32
  ⟨c0_i32_83, v127, c1_i32_85⟩
def k0_mult4 (k0_t4 : Fin k0_t4_loop.trips) : BitVec 32 :=
  let c0_i32_83 : BitVec 32 := 0#32
  let c1_i32_85 : BitVec 32 := 1#32
  let arg16 : BitVec 32 := Scf.iv c0_i32_83 c1_i32_85 k0_t4
  let c16_i32 : BitVec 32 := 16#32
  let v152 : BitVec 32 := Scalar.muli arg16 c16_i32
  v152
def k0_off19 (k0_t4 : Fin k0_t4_loop.trips) : Fin 2 → Nat :=
  let c0_i32_83 : BitVec 32 := 0#32
  let c1_i32_85 : BitVec 32 := 1#32
  let arg16 : BitVec 32 := Scf.iv c0_i32_83 c1_i32_85 k0_t4
  let c16_i32 : BitVec 32 := 16#32
  let v152 : BitVec 32 := Scalar.muli arg16 c16_i32
  let v153 : BitVec 32 := v152
  let v155 : Index := Scalar.indexCast v153
  let c1 : Index := 1#32
  ![v155.toNat, 1]
def k0_off20 (k0_t4 : Fin k0_t4_loop.trips) : Fin 2 → Nat :=
  let c0_i32_83 : BitVec 32 := 0#32
  let c1_i32_85 : BitVec 32 := 1#32
  let arg16 : BitVec 32 := Scf.iv c0_i32_83 c1_i32_85 k0_t4
  let c16_i32 : BitVec 32 := 16#32
  let v152 : BitVec 32 := Scalar.muli arg16 c16_i32
  let v153 : BitVec 32 := v152
  let v163 : Index := Scalar.indexCast v153
  let c0_98 : Index := 0#32
  ![v163.toNat, 0]
def k0_off21 (k0_t4 : Fin k0_t4_loop.trips) : Fin 2 → Nat :=
  let c0_i32_83 : BitVec 32 := 0#32
  let c1_i32_85 : BitVec 32 := 1#32
  let arg16 : BitVec 32 := Scf.iv c0_i32_83 c1_i32_85 k0_t4
  let c16_i32 : BitVec 32 := 16#32
  let v152 : BitVec 32 := Scalar.muli arg16 c16_i32
  let v153 : BitVec 32 := v152
  let v171 : Index := Scalar.indexCast v153
  let c1536_102 : Index := 1536#32
  ![v171.toNat, 1536]
def k0_off22 (k0_t4 : Fin k0_t4_loop.trips) : Fin 2 → Nat :=
  let c0_i32_83 : BitVec 32 := 0#32
  let c1_i32_85 : BitVec 32 := 1#32
  let arg16 : BitVec 32 := Scf.iv c0_i32_83 c1_i32_85 k0_t4
  let c16_i32 : BitVec 32 := 16#32
  let v152 : BitVec 32 := Scalar.muli arg16 c16_i32
  let v153 : BitVec 32 := v152
  let v191 : Index := Scalar.indexCast v153
  let c1664 : Index := 1664#32
  ![v191.toNat, 1664]
def k0_off23 (k0_t4 : Fin k0_t4_loop.trips) : Fin 2 → Nat :=
  let c0_i32_83 : BitVec 32 := 0#32
  let c1_i32_85 : BitVec 32 := 1#32
  let arg16 : BitVec 32 := Scf.iv c0_i32_83 c1_i32_85 k0_t4
  let c16_i32 : BitVec 32 := 16#32
  let v152 : BitVec 32 := Scalar.muli arg16 c16_i32
  let v153 : BitVec 32 := v152
  let v211 : Index := Scalar.indexCast v153
  let c1792 : Index := 1792#32
  ![v211.toNat, 1792]
def k0_off24 (k0_t4 : Fin k0_t4_loop.trips) : Fin 2 → Nat :=
  let c0_i32_83 : BitVec 32 := 0#32
  let c1_i32_85 : BitVec 32 := 1#32
  let arg16 : BitVec 32 := Scf.iv c0_i32_83 c1_i32_85 k0_t4
  let c16_i32 : BitVec 32 := 16#32
  let v152 : BitVec 32 := Scalar.muli arg16 c16_i32
  let v153 : BitVec 32 := v152
  let v231 : Index := Scalar.indexCast v153
  let c1920 : Index := 1920#32
  ![v231.toNat, 1920]
def k0_cond2 (i : grid0.Coords) : BitVec 1 :=
  let arg1 : BitVec 32 := BitVec.ofNat 32 (i 1).val
  let c48_i32 : BitVec 32 := 48#32
  let v149 : BitVec 1 := Scalar.cmpi .eq arg1 c48_i32
  let v150 : BitVec 32 := Scalar.extui v149
  let c0_i32_97 : BitVec 32 := 0#32
  let v151 : BitVec 1 := Scalar.cmpi .ne v150 c0_i32_97
  v151

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S896x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S896x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S896x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S896x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S896x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FwdRefIdeal.lean ====
abbrev S1792x2048 : Shape := ⟨2, ![1792, 2048]⟩
abbrev S1792x128 : Shape := ⟨2, ![1792, 128]⟩
abbrev S2048x100352 : Shape := ⟨2, ![2048, 100352]⟩
abbrev S32x1568 : Shape := ⟨2, ![32, 1568]⟩
abbrev S32x1x1568x1 : Shape := ⟨4, ![32, 1, 1568, 1]⟩
abbrev S32x64x1568x64 : Shape := ⟨4, ![32, 64, 1568, 64]⟩
abbrev S1792x1 : Shape := ⟨2, ![1792, 1]⟩
abbrev S1792x100352 : Shape := ⟨2, ![1792, 100352]⟩

abbrev nBuf : Space → Nat
  | .hbm => 10
  | .vmem => 5
  | .smem => 0
  | _ => 0

abbrev bufTy : (tb : Table) → Fin (tcTables nBuf tb) → BufTy
  | .hbm, ⟨0, _⟩ => ⟨S1792x2048, .bf16⟩
  | .hbm, ⟨1, _⟩ => ⟨S1792x128, .f32⟩
  | .hbm, ⟨2, _⟩ => ⟨S2048x100352, .fp8e4m3⟩
  | .hbm, ⟨3, _⟩ => ⟨S32x1568, .f32⟩
  | .hbm, ⟨4, _⟩ => ⟨S32x1568, .bf16⟩
  | .hbm, ⟨5, _⟩ => ⟨S32x1x1568x1, .bf16⟩
  | .hbm, ⟨6, _⟩ => ⟨S32x64x1568x64, .bf16⟩
  | .hbm, ⟨7, _⟩ => ⟨S2048x100352, .bf16⟩
  | .hbm, ⟨8, _⟩ => ⟨S1792x1, .f32⟩
  | .hbm, ⟨9, _⟩ => ⟨S1792x100352, .f32⟩
  | .local _ .vmem, ⟨0, _⟩ => ⟨S1792x2048, .bf16⟩
  | .local _ .vmem, ⟨1, _⟩ => ⟨S1792x1, .f32⟩
  | .local _ .vmem, ⟨2, _⟩ => ⟨S2048x100352, .fp8e4m3⟩
  | .local _ .vmem, ⟨3, _⟩ => ⟨S2048x100352, .bf16⟩
  | .local _ .vmem, ⟨4, _⟩ => ⟨S1792x100352, .f32⟩
  | _, _ => ⟨S1792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1792x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x100352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x100352 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x100352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Kernel.lean ====
abbrev S1792x100352 : Shape := ⟨2, ![1792, 100352]⟩
abbrev S1792x128 : Shape := ⟨2, ![1792, 128]⟩
abbrev S2048x100352 : Shape := ⟨2, ![2048, 100352]⟩
abbrev S32x1568 : Shape := ⟨2, ![32, 1568]⟩
abbrev S32x1568x64 : Shape := ⟨3, ![32, 1568, 64]⟩
abbrev S32x100352 : Shape := ⟨2, ![32, 100352]⟩
abbrev S1792x2048 : Shape := ⟨2, ![1792, 2048]⟩
abbrev S896x2048 : Shape := ⟨2, ![896, 2048]⟩
abbrev S896x128 : Shape := ⟨2, ![896, 128]⟩
abbrev S2048x2048 : Shape := ⟨2, ![2048, 2048]⟩
abbrev S32x2048 : Shape := ⟨2, ![32, 2048]⟩
abbrev S16x128 : Shape := ⟨2, ![16, 128]⟩
abbrev S2048x512 : Shape := ⟨2, ![2048, 512]⟩
abbrev S32x512 : Shape := ⟨2, ![32, 512]⟩
abbrev S32x64x512 : Shape := ⟨3, ![32, 64, 512]⟩
abbrev S32x1x512 : Shape := ⟨3, ![32, 1, 512]⟩
abbrev S16 : Shape := ⟨1, ![16]⟩
abbrev S16x1 : Shape := ⟨2, ![16, 1]⟩
abbrev S896x512 : Shape := ⟨2, ![896, 512]⟩

abbrev nBuf : Space → Nat
  | .hbm => 10
  | .vmem => 16
  | .smem => 0
  | _ => 0

abbrev bufTy : (tb : Table) → Fin (tcTables nBuf tb) → BufTy
  | .hbm, ⟨0, _⟩ => ⟨S1792x100352, .f32⟩
  | .hbm, ⟨1, _⟩ => ⟨S1792x128, .f32⟩
  | .hbm, ⟨2, _⟩ => ⟨S1792x128, .f32⟩
  | .hbm, ⟨3, _⟩ => ⟨S1792x128, .f32⟩
  | .hbm, ⟨4, _⟩ => ⟨S2048x100352, .fp8e4m3⟩
  | .hbm, ⟨5, _⟩ => ⟨S32x1568, .f32⟩
  | .hbm, ⟨6, _⟩ => ⟨S32x1568, .bf16⟩
  | .hbm, ⟨7, _⟩ => ⟨S32x1568x64, .bf16⟩
  | .hbm, ⟨8, _⟩ => ⟨S32x100352, .bf16⟩
  | .hbm, ⟨9, _⟩ => ⟨S1792x2048, .f32⟩
  | .local _ .vmem, ⟨0, _⟩ => ⟨S896x2048, .f32⟩
  | .local _ .vmem, ⟨1, _⟩ => ⟨S896x2048, .f32⟩
  | .local _ .vmem, ⟨2, _⟩ => ⟨S896x128, .f32⟩
  | .local _ .vmem, ⟨3, _⟩ => ⟨S896x128, .f32⟩
  | .local _ .vmem, ⟨4, _⟩ => ⟨S896x128, .f32⟩
  | .local _ .vmem, ⟨5, _⟩ => ⟨S896x128, .f32⟩
  | .local _ .vmem, ⟨6, _⟩ => ⟨S896x128, .f32⟩
  | .local _ .vmem, ⟨7, _⟩ => ⟨S896x128, .f32⟩
  | .local _ .vmem, ⟨8, _⟩ => ⟨S2048x2048, .fp8e4m3⟩
  | .local _ .vmem, ⟨9, _⟩ => ⟨S2048x2048, .fp8e4m3⟩
  | .local _ .vmem, ⟨10, _⟩ => ⟨S32x2048, .bf16⟩
  | .local _ .vmem, ⟨11, _⟩ => ⟨S32x2048, .bf16⟩
  | .local _ .vmem, ⟨12, _⟩ => ⟨S896x2048, .f32⟩
  | .local _ .vmem, ⟨13, _⟩ => ⟨S896x2048, .f32⟩
  | .local _ .vmem, ⟨14, _⟩ => ⟨S2048x2048, .bf16⟩
  | .local _ .vmem, ⟨15, _⟩ => ⟨S896x2048, .bf16⟩
  | _, _ => ⟨S1792x100352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 49], ![false, false]⟩

@[reducible] def k0_t1_loop : Scf.Loop 32 :=
  let c0_i32_22 : BitVec 32 := 0#32
  let c56_i32 : BitVec 32 := 56#32
  let v56 : BitVec 32 := Scalar.addi c0_i32_22 c56_i32
  let c1_i32_23 : BitVec 32 := 1#32
  ⟨c0_i32_22, v56, c1_i32_23⟩
def k0_mult1 (k0_t1 : Fin k0_t1_loop.trips) : BitVec 32 :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  v124
def k0_off1 (k0_t1 : Fin k0_t1_loop.trips) : Fin 2 → Nat :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  let v125 : BitVec 32 := v124
  let v126 : Index := Scalar.indexCast v125
  let c0_87 : Index := 0#32
  ![v126.toNat, 0]
def k0_off2 (k0_t1 : Fin k0_t1_loop.trips) : Fin 2 → Nat :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  let v125 : BitVec 32 := v124
  let v144 : Index := Scalar.indexCast v125
  let c0_92 : Index := 0#32
  ![v144.toNat, 0]
def k0_off3 (k0_t1 : Fin k0_t1_loop.trips) : Fin 2 → Nat :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  let v125 : BitVec 32 := v124
  let v148 : Index := Scalar.indexCast v125
  let c2 : Index := 2#32
  ![v148.toNat, 2]
def k0_off4 (k0_t1 : Fin k0_t1_loop.trips) : Fin 2 → Nat :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  let v125 : BitVec 32 := v124
  let v152 : Index := Scalar.indexCast v125
  let c1 : Index := 1#32
  ![v152.toNat, 1]
def k0_off5 (k0_t1 : Fin k0_t1_loop.trips) : Fin 2 → Nat :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  let v125 : BitVec 32 := v124
  let v164 : Index := Scalar.indexCast v125
  let c0_94 : Index := 0#32
  ![v164.toNat, 0]
def k0_off6 (k0_t1 : Fin k0_t1_loop.trips) : Fin 2 → Nat :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  let v125 : BitVec 32 := v124
  let v192 : Index := Scalar.indexCast v125
  let c128 : Index := 128#32
  ![v192.toNat, 128]
def k0_off7 (k0_t1 : Fin k0_t1_loop.trips) : Fin 2 → Nat :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  let v125 : BitVec 32 := v124
  let v220 : Index := Scalar.indexCast v125
  let c256 : Index := 256#32
  ![v220.toNat, 256]
def k0_off8 (k0_t1 : Fin k0_t1_loop.trips) : Fin 2 → Nat :=
  let c0_i32_22 : BitVec 32 := 0#32
  let c1_i32_23 : BitVec 32 := 1#32
  let arg11 : BitVec 32 := Scf.iv c0_i32_22 c1_i32_23 k0_t1
  let c16_i32 : BitVec 32 := 16#32
  let v124 : BitVec 32 := Scalar.muli arg11 c16_i32
  let v125 : BitVec 32 := v124
  let v248 : Index := Scalar.indexCast v125
  let c384 : Index := 384#32
  ![v248.toNat, 384]
@[reducible] def k0_t2_loop : Scf.Loop 32 :=
  let c0_i32_38 : BitVec 32 := 0#32
  let c56_i32_39 : BitVec 32 := 56#32
  let v76 : BitVec 32 := Scalar.addi c0_i32_38 c56_i32_39
  let c1_i32_40 : BitVec 32 := 1#32
  ⟨c0_i32_38, v76, c1_i32_40⟩
def k0_mult2 (k0_t2 : Fin k0_t2_loop.trips) : BitVec 32 :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  v124
def k0_off9 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  let v125 : BitVec 32 := v124
  let v126 : Index := Scalar.indexCast v125
  let c0_87 : Index := 0#32
  ![v126.toNat, 0]
def k0_off10 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  let v125 : BitVec 32 := v124
  let v144 : Index := Scalar.indexCast v125
  let c0_92 : Index := 0#32
  ![v144.toNat, 0]
def k0_off11 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  let v125 : BitVec 32 := v124
  let v148 : Index := Scalar.indexCast v125
  let c2 : Index := 2#32
  ![v148.toNat, 2]
def k0_off12 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  let v125 : BitVec 32 := v124
  let v152 : Index := Scalar.indexCast v125
  let c1 : Index := 1#32
  ![v152.toNat, 1]
def k0_off13 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  let v125 : BitVec 32 := v124
  let v164 : Index := Scalar.indexCast v125
  let c512_93 : Index := 512#32
  ![v164.toNat, 512]
def k0_off14 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  let v125 : BitVec 32 := v124
  let v192 : Index := Scalar.indexCast v125
  let c640 : Index := 640#32
  ![v192.toNat, 640]
def k0_off15 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  let v125 : BitVec 32 := v124
  let v220 : Index := Scalar.indexCast v125
  let c768 : Index := 768#32
  ![v220.toNat, 768]
def k0_off16 (k0_t2 : Fin k0_t2_loop.trips) : Fin 2 → Nat :=
  let c0_i32_38 : BitVec 32 := 0#32
  let c1_i32_40 : BitVec 32 := 1#32
  let arg11 : BitVec 32 := Scf.iv c0_i32_38 c1_i32_40 k0_t2
  let c16_i32 : BitVec 32 := 16#32
  let v124 : BitVec 32 := Scalar.muli arg11 c16_i32
  let v125 : BitVec 32 := v124
  let v248 : Index := Scalar.indexCast v125
  let c896 : Index := 896#32
  ![v248.toNat, 896]
@[reducible] def k0_t3_loop : Scf.Loop 32 :=
  let c0_i32_56 : BitVec 32 := 0#32
  let c56_i32_57 : BitVec 32 := 56#32
  let v96 : BitVec 32 := Scalar.addi c0_i32_56 c56_i32_57
  let c1_i32_58 : BitVec 32 := 1#32
  ⟨c0_i32_56, v96, c1_i32_58⟩
def k0_mult3 (k0_t3 : Fin k0_t3_loop.trips) : BitVec 32 :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  v124
def k0_off17 (k0_t3 : Fin k0_t3_loop.trips) : Fin 2 → Nat :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  let v125 : BitVec 32 := v124
  let v126 : Index := Scalar.indexCast v125
  let c0_87 : Index := 0#32
  ![v126.toNat, 0]
def k0_off18 (k0_t3 : Fin k0_t3_loop.trips) : Fin 2 → Nat :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  let v125 : BitVec 32 := v124
  let v144 : Index := Scalar.indexCast v125
  let c0_92 : Index := 0#32
  ![v144.toNat, 0]
def k0_off19 (k0_t3 : Fin k0_t3_loop.trips) : Fin 2 → Nat :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  let v125 : BitVec 32 := v124
  let v148 : Index := Scalar.indexCast v125
  let c2 : Index := 2#32
  ![v148.toNat, 2]
def k0_off20 (k0_t3 : Fin k0_t3_loop.trips) : Fin 2 → Nat :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  let v125 : BitVec 32 := v124
  let v152 : Index := Scalar.indexCast v125
  let c1 : Index := 1#32
  ![v152.toNat, 1]
def k0_off21 (k0_t3 : Fin k0_t3_loop.trips) : Fin 2 → Nat :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  let v125 : BitVec 32 := v124
  let v164 : Index := Scalar.indexCast v125
  let c1024_93 : Index := 1024#32
  ![v164.toNat, 1024]
def k0_off22 (k0_t3 : Fin k0_t3_loop.trips) : Fin 2 → Nat :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  let v125 : BitVec 32 := v124
  let v192 : Index := Scalar.indexCast v125
  let c1152 : Index := 1152#32
  ![v192.toNat, 1152]
def k0_off23 (k0_t3 : Fin k0_t3_loop.trips) : Fin 2 → Nat :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  let v125 : BitVec 32 := v124
  let v220 : Index := Scalar.indexCast v125
  let c1280 : Index := 1280#32
  ![v220.toNat, 1280]
def k0_off24 (k0_t3 : Fin k0_t3_loop.trips) : Fin 2 → Nat :=
  let c0_i32_56 : BitVec 32 := 0#32
  let c1_i32_58 : BitVec 32 := 1#32
  let arg11 : BitVec 32 := Scf.iv c0_i32_56 c1_i32_58 k0_t3
  let c16_i32 : BitVec 32 := 16#32
  let v124 : BitVec 32 := Scalar.muli arg11 c16_i32
  let v125 : BitVec 32 := v124
  let v248 : Index := Scalar.indexCast v125
  let c1408 : Index := 1408#32
  ![v248.toNat, 1408]
@[reducible] def k0_t4_loop : Scf.Loop 32 :=
  let c0_i32_74 : BitVec 32 := 0#32
  let c56_i32_75 : BitVec 32 := 56#32
  let v116 : BitVec 32 := Scalar.addi c0_i32_74 c56_i32_75
  let c1_i32_76 : BitVec 32 := 1#32
  ⟨c0_i32_74, v116, c1_i32_76⟩
def k0_mult4 (k0_t4 : Fin k0_t4_loop.trips) : BitVec 32 :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  v124
def k0_off25 (k0_t4 : Fin k0_t4_loop.trips) : Fin 2 → Nat :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  let v125 : BitVec 32 := v124
  let v126 : Index := Scalar.indexCast v125
  let c0_87 : Index := 0#32
  ![v126.toNat, 0]
def k0_off26 (k0_t4 : Fin k0_t4_loop.trips) : Fin 2 → Nat :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  let v125 : BitVec 32 := v124
  let v144 : Index := Scalar.indexCast v125
  let c0_92 : Index := 0#32
  ![v144.toNat, 0]
def k0_off27 (k0_t4 : Fin k0_t4_loop.trips) : Fin 2 → Nat :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  let v125 : BitVec 32 := v124
  let v148 : Index := Scalar.indexCast v125
  let c2 : Index := 2#32
  ![v148.toNat, 2]
def k0_off28 (k0_t4 : Fin k0_t4_loop.trips) : Fin 2 → Nat :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  let v125 : BitVec 32 := v124
  let v152 : Index := Scalar.indexCast v125
  let c1 : Index := 1#32
  ![v152.toNat, 1]
def k0_off29 (k0_t4 : Fin k0_t4_loop.trips) : Fin 2 → Nat :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  let v125 : BitVec 32 := v124
  let v164 : Index := Scalar.indexCast v125
  let c1536_93 : Index := 1536#32
  ![v164.toNat, 1536]
def k0_off30 (k0_t4 : Fin k0_t4_loop.trips) : Fin 2 → Nat :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  let v125 : BitVec 32 := v124
  let v192 : Index := Scalar.indexCast v125
  let c1664 : Index := 1664#32
  ![v192.toNat, 1664]
def k0_off31 (k0_t4 : Fin k0_t4_loop.trips) : Fin 2 → Nat :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  let v125 : BitVec 32 := v124
  let v220 : Index := Scalar.indexCast v125
  let c1792 : Index := 1792#32
  ![v220.toNat, 1792]
def k0_off32 (k0_t4 : Fin k0_t4_loop.trips) : Fin 2 → Nat :=
  let c0_i32_74 : BitVec 32 := 0#32
  let c1_i32_76 : BitVec 32 := 1#32
  let arg11 : BitVec 32 := Scf.iv c0_i32_74 c1_i32_76 k0_t4
  let c16_i32 : BitVec 32 := 16#32
  let v124 : BitVec 32 := Scalar.muli arg11 c16_i32
  let v125 : BitVec 32 := v124
  let v248 : Index := Scalar.indexCast v125
  let c1920 : Index := 1920#32
  ![v248.toNat, 1920]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S896x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S896x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S896x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S896x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S896x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S1792x100352 : Shape := ⟨2, ![1792, 100352]⟩
abbrev S1792x128 : Shape := ⟨2, ![1792, 128]⟩
abbrev S2048x100352 : Shape := ⟨2, ![2048, 100352]⟩
abbrev S32x1568 : Shape := ⟨2, ![32, 1568]⟩
abbrev S1792x1 : Shape := ⟨2, ![1792, 1]⟩
abbrev S1792 : Shape := ⟨1, ![1792]⟩
abbrev S100352 : Shape := ⟨1, ![100352]⟩
abbrev S1x100352 : Shape := ⟨2, ![1, 100352]⟩
abbrev S1792x32 : Shape := ⟨2, ![1792, 32]⟩
abbrev S1792x32x1 : Shape := ⟨3, ![1792, 32, 1]⟩
abbrev S1792x32x3136 : Shape := ⟨3, ![1792, 32, 3136]⟩
abbrev S32x1x1568x1 : Shape := ⟨4, ![32, 1, 1568, 1]⟩
abbrev S32x64x1568x64 : Shape := ⟨4, ![32, 64, 1568, 64]⟩
abbrev S1792x2048 : Shape := ⟨2, ![1792, 2048]⟩

abbrev nBuf : Space → Nat
  | .hbm => 37
  | .vmem => 5
  | .smem => 0
  | _ => 0

abbrev bufTy : (tb : Table) → Fin (tcTables nBuf tb) → BufTy
  | .hbm, ⟨0, _⟩ => ⟨S1792x100352, .f32⟩
  | .hbm, ⟨1, _⟩ => ⟨S1792x128, .f32⟩
  | .hbm, ⟨2, _⟩ => ⟨S1792x128, .f32⟩
  | .hbm, ⟨3, _⟩ => ⟨S1792x128, .f32⟩
  | .hbm, ⟨4, _⟩ => ⟨S2048x100352, .fp8e4m3⟩
  | .hbm, ⟨5, _⟩ => ⟨S32x1568, .f32⟩
  | .hbm, ⟨6, _⟩ => ⟨S1792x1, .f32⟩
  | .hbm, ⟨7, _⟩ => ⟨S1792, .f32⟩
  | .hbm, ⟨8, _⟩ => ⟨S1792, .i32⟩
  | .hbm, ⟨9, _⟩ => ⟨S1792x1, .f32⟩
  | .hbm, ⟨10, _⟩ => ⟨S1792, .f32⟩
  | .hbm, ⟨11, _⟩ => ⟨S1792x1, .f32⟩
  | .hbm, ⟨12, _⟩ => ⟨S1792, .f32⟩
  | .hbm, ⟨13, _⟩ => ⟨S1792x1, .f32⟩
  | .hbm, ⟨14, _⟩ => ⟨S1792x100352, .f32⟩
  | .hbm, ⟨15, _⟩ => ⟨S1792x100352, .f32⟩
  | .hbm, ⟨16, _⟩ => ⟨S1792x100352, .f32⟩
  | .hbm, ⟨17, _⟩ => ⟨S100352, .i32⟩
  | .hbm, ⟨18, _⟩ => ⟨S1x100352, .i32⟩
  | .hbm, ⟨19, _⟩ => ⟨S1792x1, .i32⟩
  | .hbm, ⟨20, _⟩ => ⟨S1792x100352, .i32⟩
  | .hbm, ⟨21, _⟩ => ⟨S1792x100352, .i32⟩
  | .hbm, ⟨22, _⟩ => ⟨S1792x100352, .i1⟩
  | .hbm, ⟨23, _⟩ => ⟨S1792x100352, .f32⟩
  | .hbm, ⟨24, _⟩ => ⟨S1792x1, .f32⟩
  | .hbm, ⟨25, _⟩ => ⟨S1792x100352, .f32⟩
  | .hbm, ⟨26, _⟩ => ⟨S1792x100352, .f32⟩
  | .hbm, ⟨27, _⟩ => ⟨S1792x100352, .f32⟩
  | .hbm, ⟨28, _⟩ => ⟨S1792x32, .f32⟩
  | .hbm, ⟨29, _⟩ => ⟨S1792x32x1, .f32⟩
  | .hbm, ⟨30, _⟩ => ⟨S1792x32x3136, .f32⟩
  | .hbm, ⟨31, _⟩ => ⟨S1792x100352, .f32⟩
  | .hbm, ⟨32, _⟩ => ⟨S32x1568, .bf16⟩
  | .hbm, ⟨33, _⟩ => ⟨S32x1x1568x1, .bf16⟩
  | .hbm, ⟨34, _⟩ => ⟨S32x64x1568x64, .bf16⟩
  | .hbm, ⟨35, _⟩ => ⟨S2048x100352, .bf16⟩
  | .hbm, ⟨36, _⟩ => ⟨S1792x2048, .f32⟩
  | .local _ .vmem, ⟨0, _⟩ => ⟨S1792x100352, .f32⟩
  | .local _ .vmem, ⟨1, _⟩ => ⟨S1792x100352, .f32⟩
  | .local _ .vmem, ⟨2, _⟩ => ⟨S2048x100352, .fp8e4m3⟩
  | .local _ .vmem, ⟨3, _⟩ => ⟨S2048x100352, .bf16⟩
  | .local _ .vmem, ⟨4, _⟩ => ⟨S1792x2048, .f32⟩
  | _, _ => ⟨S1792x100352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1792x100352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x100352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x100352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x100352 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Grads.lean ====
abbrev S5 : Shape := ⟨1, ![5]⟩
abbrev S256x2048 : Shape := ⟨2, ![256, 2048]⟩
abbrev S5x256 : Shape := ⟨2, ![5, 256]⟩
abbrev S1792x2048 : Shape := ⟨2, ![1792, 2048]⟩
abbrev S5x256x2048 : Shape := ⟨3, ![5, 256, 2048]⟩
abbrev S5x1x256 : Shape := ⟨3, ![5, 1, 256]⟩
abbrev S2048x256 : Shape := ⟨2, ![2048, 256]⟩
abbrev S5x1x2048 : Shape := ⟨3, ![5, 1, 2048]⟩
abbrev S5x2048x2048 : Shape := ⟨3, ![5, 2048, 2048]⟩
abbrev S512x256 : Shape := ⟨2, ![512, 256]⟩
abbrev S1x1x256 : Shape := ⟨3, ![1, 1, 256]⟩
abbrev S1x256x2048 : Shape := ⟨3, ![1, 256, 2048]⟩
abbrev S1x1x2048 : Shape := ⟨3, ![1, 1, 2048]⟩
abbrev S1x512x2048 : Shape := ⟨3, ![1, 512, 2048]⟩
abbrev S1 : Shape := ⟨1, ![1]⟩
abbrev S256x256 : Shape := ⟨2, ![256, 256]⟩
abbrev S1x256 : Shape := ⟨2, ![1, 256]⟩
abbrev S2048 : Shape := ⟨1, ![2048]⟩
abbrev S1x2048 : Shape := ⟨2, ![1, 2048]⟩
abbrev S512x2048 : Shape := ⟨2, ![512, 2048]⟩

abbrev nBuf : Space → Nat
  | .hbm => 11
  | .vmem => 14
  | .smem => 2
  | _ => 0

abbrev bufTy : (tb : Table) → Fin (tcTables nBuf tb) → BufTy
  | .hbm, ⟨0, _⟩ => ⟨S5, .i32⟩
  | .hbm, ⟨1, _⟩ => ⟨S5, .i32⟩
  | .hbm, ⟨2, _⟩ => ⟨S256x2048, .bf16⟩
  | .hbm, ⟨3, _⟩ => ⟨S5x256, .i32⟩
  | .hbm, ⟨4, _⟩ => ⟨S1792x2048, .f32⟩
  | .hbm, ⟨5, _⟩ => ⟨S5x256x2048, .f32⟩
  | .hbm, ⟨6, _⟩ => ⟨S5x1x256, .i32⟩
  | .hbm, ⟨7, _⟩ => ⟨S2048x256, .bf16⟩
  | .hbm, ⟨8, _⟩ => ⟨S5x256x2048, .bf16⟩
  | .hbm, ⟨9, _⟩ => ⟨S5x1x2048, .f32⟩
  | .hbm, ⟨10, _⟩ => ⟨S5x2048x2048, .f32⟩
  | .local _ .vmem, ⟨0, _⟩ => ⟨S512x256, .bf16⟩
  | .local _ .vmem, ⟨1, _⟩ => ⟨S512x256, .bf16⟩
  | .local _ .vmem, ⟨2, _⟩ => ⟨S1x1x256, .i32⟩
  | .local _ .vmem, ⟨3, _⟩ => ⟨S1x1x256, .i32⟩
  | .local _ .vmem, ⟨4, _⟩ => ⟨S1792x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .bf16⟩
  | .local _ .vmem, ⟨8, _⟩ => ⟨S1x256x2048, .bf16⟩
  | .local _ .vmem, ⟨9, _⟩ => ⟨S1x1x2048, .f32⟩
  | .local _ .vmem, ⟨10, _⟩ => ⟨S1x1x2048, .f32⟩
  | .local _ .vmem, ⟨11, _⟩ => ⟨S1x512x2048, .f32⟩
  | .local _ .vmem, ⟨12, _⟩ => ⟨S1x512x2048, .f32⟩
  | .local _ .vmem, ⟨13, _⟩ => ⟨S256x2048, .bf16⟩
  | .local _ .smem, ⟨0, _⟩ => ⟨S5, .i32⟩
  | .local _ .smem, ⟨1, _⟩ => ⟨S5, .i32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg0 : BitVec 32 := BitVec.ofNat 32 (i 0).val
  let v10 : Index := Scalar.indexCast arg0
  ![v10.toNat]
def k0_mult1 (v11 : BitVec 32) : BitVec 32 :=
  v11

def k0_off2 (i : grid0.Coords) : Fin 1 → Nat :=
  let arg0 : BitVec 32 := BitVec.ofNat 32 (i 0).val
  let v14 : Index := Scalar.indexCast arg0
  ![v14.toNat]
def k0_off3 (v11 : BitVec 32) : Fin 2 → Nat :=
  let v12 : BitVec 32 := v11
  let v18 : Index := Scalar.indexCast v12
  let c0_7 : Index := 0#32
  ![v18.toNat, 0]

def k0_chk1 (i : grid0.Coords) (v11 : BitVec 32) : Prop :=
  (∀ (k0_h1 : k0_cond1 i = 1#1), 16 ∣ (k0_mult1 v11).toNat) ∧
  (∀ (k0_h1 : k0_cond1 i = 1#1), ∀ a, (k0_off3 v11) a + S256x2048.size a ≤ S1792x2048.size a)
theorem k0_mult1_dvd : ∀ (i : grid0.Coords) (v11 : BitVec 32) (k0_hw1 : k0_chk1 i v11), ∀ (k0_h1 : k0_cond1 i = 1#1), 16 ∣ (k0_mult1 v11).toNat := fun i v11 k0_hw1 k0_h1 => k0_hw1.1 k0_h1
theorem k0_off3_inb : ∀ (i : grid0.Coords) (v11 : BitVec 32) (k0_hw1 : k0_chk1 i v11), ∀ (k0_h1 : k0_cond1 i = 1#1), ∀ a, (k0_off3 v11) a + S256x2048.size a ≤ S1792x2048.size a := fun i v11 k0_hw1 k0_h1 => k0_hw1.2 k0_h1

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S5 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1792x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GradsRefIdeal.lean ====
abbrev S5 : Shape := ⟨1, ![5]⟩
abbrev S256x2048 : Shape := ⟨2, ![256, 2048]⟩
abbrev S5x256 : Shape := ⟨2, ![5, 256]⟩
abbrev S1792x2048 : Shape := ⟨2, ![1792, 2048]⟩
abbrev S5x256x2048 : Shape := ⟨3, ![5, 256, 2048]⟩
abbrev S_ : Shape := ⟨0, ![]⟩
abbrev S5x1 : Shape := ⟨2, ![5, 1]⟩
abbrev S5x256x1 : Shape := ⟨3, ![5, 256, 1]⟩
abbrev S5x2048 : Shape := ⟨2, ![5, 2048]⟩
abbrev S5x1x2048 : Shape := ⟨3, ![5, 1, 2048]⟩
abbrev S5x2048x2048 : Shape := ⟨3, ![5, 2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S5, .i32⟩
  | .hbm, ⟨1, _⟩ => ⟨S5, .i32⟩
  | .hbm, ⟨2, _⟩ => ⟨S256x2048, .bf16⟩
  | .hbm, ⟨3, _⟩ => ⟨S5x256, .i32⟩
  | .hbm, ⟨4, _⟩ => ⟨S1792x2048, .f32⟩
  | .hbm, ⟨5, _⟩ => ⟨S5x256x2048, .f32⟩
  | .hbm, ⟨6, _⟩ => ⟨S_, .i32⟩
  | .hbm, ⟨7, _⟩ => ⟨S5x256, .i32⟩
  | .hbm, ⟨8, _⟩ => ⟨S5x256, .i1⟩
  | .hbm, ⟨9, _⟩ => ⟨S5x1, .i32⟩
  | .hbm, ⟨10, _⟩ => ⟨S5x256, .i32⟩
  | .hbm, ⟨11, _⟩ => ⟨S5x256, .i1⟩
  | .hbm, ⟨12, _⟩ => ⟨S5x256, .i1⟩
  | .hbm, ⟨13, _⟩ => ⟨S_, .i32⟩
  | .hbm, ⟨14, _⟩ => ⟨S5x256, .i32⟩
  | .hbm, ⟨15, _⟩ => ⟨S5x256, .i1⟩
  | .hbm, ⟨16, _⟩ => ⟨S5x256, .i1⟩
  | .hbm, ⟨17, _⟩ => ⟨S5x1, .i32⟩
  | .hbm, ⟨18, _⟩ => ⟨S5x256, .i32⟩
  | .hbm, ⟨19, _⟩ => ⟨S5x256, .i32⟩
  | .hbm, ⟨20, _⟩ => ⟨S_, .i32⟩
  | .hbm, ⟨21, _⟩ => ⟨S_, .i32⟩
  | .hbm, ⟨22, _⟩ => ⟨S5x256, .i32⟩
  | .hbm, ⟨23, _⟩ => ⟨S5x256, .i32⟩
  | .hbm, ⟨24, _⟩ => ⟨S5x256x1, .i1⟩
  | .hbm, ⟨25, _⟩ => ⟨S_, .i32⟩
  | .hbm, ⟨26, _⟩ => ⟨S5x256, .i32⟩
  | .hbm, ⟨27, _⟩ => ⟨S5x256, .i1⟩
  | .hbm, ⟨28, _⟩ => ⟨S_, .i32⟩
  | .hbm, ⟨29, _⟩ => ⟨S5x256, .i32⟩
  | .hbm, ⟨30, _⟩ => ⟨S5x256, .i32⟩
  | .hbm, ⟨31, _⟩ => ⟨S5x256, .i32⟩
  | .hbm, ⟨32, _⟩ => ⟨S5x256x1, .i32⟩
  | .hbm, ⟨33, _⟩ => ⟨S5x256x2048, .f32⟩
  | .hbm, ⟨34, _⟩ => ⟨S_, .f32⟩
  | .hbm, ⟨35, _⟩ => ⟨S_, .f32⟩
  | .hbm, ⟨36, _⟩ => ⟨S5x256x2048, .i1⟩
  | .hbm, ⟨37, _⟩ => ⟨S5x256x2048, .f32⟩
  | .hbm, ⟨38, _⟩ => ⟨S5x256x2048, .f32⟩
  | .hbm, ⟨39, _⟩ => ⟨S5x256x2048, .f32⟩
  | .hbm, ⟨40, _⟩ => ⟨S5x256x2048, .bf16⟩
  | .hbm, ⟨41, _⟩ => ⟨S5x256x2048, .f32⟩
  | .hbm, ⟨42, _⟩ => ⟨S_, .f32⟩
  | .hbm, ⟨43, _⟩ => ⟨S5x2048, .f32⟩
  | .hbm, ⟨44, _⟩ => ⟨S5x1x2048, .f32⟩
  | .hbm, ⟨45, _⟩ => ⟨S5x2048x2048, .f32⟩
  | .hbm, ⟨46, _⟩ => ⟨S5x2048x2048, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Heads.lean ====
abbrev S5 : Shape := ⟨1, ![5]⟩
abbrev S2x128x2048 : Shape := ⟨3, ![2, 128, 2048]⟩
abbrev S2x128 : Shape := ⟨2, ![2, 128]⟩
abbrev S5x2048x2048 : Shape := ⟨3, ![5, 2048, 2048]⟩
abbrev S5x2048 : Shape := ⟨2, ![5, 2048]⟩
abbrev S5x256 : Shape := ⟨2, ![5, 256]⟩
abbrev S256x2048 : Shape := ⟨2, ![256, 2048]⟩
abbrev S256x1 : Shape := ⟨2, ![256, 1]⟩
abbrev S5x1x256 : Shape := ⟨3, ![5, 1, 256]⟩
abbrev S5x1x2048 : Shape := ⟨3, ![5, 1, 2048]⟩
abbrev S5x256x2048 : Shape := ⟨3, ![5, 256, 2048]⟩
abbrev S1792x2048 : Shape := ⟨2, ![1792, 2048]⟩
abbrev S1792x128 : Shape := ⟨2, ![1792, 128]⟩
abbrev S1x2048x2048 : Shape := ⟨3, ![1, 2048, 2048]⟩
abbrev S1x1x2048 : Shape := ⟨3, ![1, 1, 2048]⟩
abbrev S1x1x256 : Shape := ⟨3, ![1, 1, 256]⟩
abbrev S1x256x2048 : Shape := ⟨3, ![1, 256, 2048]⟩
abbrev S2048x2048 : Shape := ⟨2, ![2048, 2048]⟩
abbrev S1x2048 : Shape := ⟨2, ![1, 2048]⟩
abbrev S256 : Shape := ⟨1, ![256]⟩
abbrev S256x128 : Shape := ⟨2, ![256, 128]⟩
abbrev S128x256 : Shape := ⟨2, ![128, 256]⟩
abbrev S1x256 : Shape := ⟨2, ![1, 256]⟩
abbrev S256x256 : Shape := ⟨2, ![256, 256]⟩
abbrev S1 : Shape := ⟨1, ![1]⟩

abbrev nBuf : Space → Nat
  | .hbm => 19
  | .vmem => 18
  | .smem => 3
  | _ => 0

abbrev bufTy : (tb : Table) → Fin (tcTables nBuf tb) → BufTy
  | .hbm, ⟨0, _⟩ => ⟨S5, .i32⟩
  | .hbm, ⟨1, _⟩ => ⟨S5, .i32⟩
  | .hbm, ⟨2, _⟩ => ⟨S5, .f32⟩
  | .hbm, ⟨3, _⟩ => ⟨S2x128x2048, .fp8e4m3⟩
  | .hbm, ⟨4, _⟩ => ⟨S2x128, .f32⟩
  | .hbm, ⟨5, _⟩ => ⟨S5x2048x2048, .bf16⟩
  | .hbm, ⟨6, _⟩ => ⟨S5x2048, .f32⟩
  | .hbm, ⟨7, _⟩ => ⟨S5x256, .i32⟩
  | .hbm, ⟨8, _⟩ => ⟨S5x256, .i32⟩
  | .hbm, ⟨9, _⟩ => ⟨S256x2048, .fp8e4m3⟩
  | .hbm, ⟨10, _⟩ => ⟨S256x1, .f32⟩
  | .hbm, ⟨11, _⟩ => ⟨S5x1x256, .i32⟩
  | .hbm, ⟨12, _⟩ => ⟨S5x1x2048, .f32⟩
  | .hbm, ⟨13, _⟩ => ⟨S5x1x256, .i32⟩
  | .hbm, ⟨14, _⟩ => ⟨S5x256x2048, .fp8e4m3⟩
  | .hbm, ⟨15, _⟩ => ⟨S5x1x256, .f32⟩
  | .hbm, ⟨16, _⟩ => ⟨S5x256x2048, .f32⟩
  | .hbm, ⟨17, _⟩ => ⟨S1792x2048, .bf16⟩
  | .hbm, ⟨18, _⟩ => ⟨S1792x128, .f32⟩
  | .local _ .vmem, ⟨0, _⟩ => ⟨S256x2048, .fp8e4m3⟩
  | .local _ .vmem, ⟨1, _⟩ => ⟨S256x1, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1x256, .i32⟩
  | .local _ .vmem, ⟨7, _⟩ => ⟨S1x1x256, .i32⟩
  | .local _ .vmem, ⟨8, _⟩ => ⟨S1x1x256, .i32⟩
  | .local _ .vmem, ⟨9, _⟩ => ⟨S1x1x256, .i32⟩
  | .local _ .vmem, ⟨10, _⟩ => ⟨S1x256x2048, .fp8e4m3⟩
  | .local _ .vmem, ⟨11, _⟩ => ⟨S1x256x2048, .fp8e4m3⟩
  | .local _ .vmem, ⟨12, _⟩ => ⟨S1x1x256, .f32⟩
  | .local _ .vmem, ⟨13, _⟩ => ⟨S1x1x256, .f32⟩
  | .local _ .vmem, ⟨14, _⟩ => ⟨S1x256x2048, .f32⟩
  | .local _ .vmem, ⟨15, _⟩ => ⟨S1x256x2048, .f32⟩
  | .local _ .vmem, ⟨16, _⟩ => ⟨S1792x2048, .bf16⟩
  | .local _ .vmem, ⟨17, _⟩ => ⟨S1792x128, .f32⟩
  | .local _ .smem, ⟨0, _⟩ => ⟨S5, .i32⟩
  | .local _ .smem, ⟨1, _⟩ => ⟨S5, .i32⟩
  | .local _ .smem, ⟨2, _⟩ => ⟨S5, .f32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![5], ![false]⟩

def k0_off1 (i : grid0.Coords) : Fin 1 → Nat :=
  let arg0 : BitVec 32 := BitVec.ofNat 32 (i 0).val
  let v138 : Index := Scalar.indexCast arg0
  ![v138.toNat]
def k0_mult1 (v139 : BitVec 32) : BitVec 32 :=
  v139

def k0_off2 (v139 : BitVec 32) : Fin 2 → Nat :=
  let v140 : BitVec 32 := v139
  let v144 : Index := Scalar.indexCast v140
  let c0_46 : Index := 0#32
  ![v144.toNat, 0]
def k0_off3 (i : grid0.Coords) : Fin 1 → Nat :=
  let arg0 : BitVec 32 := BitVec.ofNat 32 (i 0).val
  let v159 : Index := Scalar.indexCast arg0
  ![v159.toNat]
def k0_off4 (v139 : BitVec 32) : Fin 2 → Nat :=
  let v140 : BitVec 32 := v139
  let v176 : Index := Scalar.indexCast v140
  let c0_56 : Index := 0#32
  ![v176.toNat, 0]

def k0_chk1 (v139 : BitVec 32) : Prop :=
  (16 ∣ (k0_mult1 v139).toNat) ∧
  (∀ a, (k0_off2 v139) a + S256x2048.size a ≤ S1792x2048.size a) ∧
  (∀ (hinb : ∀ a, (k0_off2 v139) a + S256x2048.size a ≤ S1792x2048.size a), (Rect.unit (s := S1792x2048) (k0_off2 v139) S256x2048.size hinb).PackedRows (EltTy.packing .bf16)) ∧
  (∀ a, (k0_off4 v139) a + S256x128.size a ≤ S1792x128.size a)
theorem k0_mult1_dvd : ∀ (v139 : BitVec 32) (k0_hw1 : k0_chk1 v139), 16 ∣ (k0_mult1 v139).toNat := fun v139 k0_hw1 => k0_hw1.1
theorem k0_off2_inb : ∀ (v139 : BitVec 32) (k0_hw1 : k0_chk1 v139), ∀ a, (k0_off2 v139) a + S256x2048.size a ≤ S1792x2048.size a := fun v139 k0_hw1 => k0_hw1.2.1
theorem k0_off2_packedbf16 : ∀ (v139 : BitVec 32) (k0_hw1 : k0_chk1 v139), (Rect.unit (s := S1792x2048) (k0_off2 v139) S256x2048.size (k0_off2_inb v139 k0_hw1)).PackedRows (EltTy.packing .bf16) := fun v139 k0_hw1 => k0_hw1.2.2.1 (k0_off2_inb v139 k0_hw1)
theorem k0_off4_inb : ∀ (v139 : BitVec 32) (k0_hw1 : k0_chk1 v139), ∀ a, (k0_off4 v139) a + S256x128.size a ≤ S1792x128.size a := fun v139 k0_hw1 => k0_hw1.2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S5 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1792x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1792x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== HeadsRefIdeal.lean ====
abbrev S5 : Shape := ⟨1, ![5]⟩
abbrev S2x128x2048 : Shape := ⟨3, ![2, 128, 2048]⟩
abbrev S2x128 : Shape := ⟨2, ![2, 128]⟩
abbrev S5x2048x2048 : Shape := ⟨3, ![5, 2048, 2048]⟩
abbrev S5x2048 : Shape := ⟨2, ![5, 2048]⟩
abbrev S5x256 : Shape := ⟨2, ![5, 256]⟩
abbrev S1x256x2048 : Shape := ⟨3, ![1, 256, 2048]⟩
abbrev S1x256x1 : Shape := ⟨3, ![1, 256, 1]⟩
abbrev S5x1x2048 : Shape := ⟨3, ![5, 1, 2048]⟩
abbrev S5x256x2048 : Shape := ⟨3, ![5, 256, 2048]⟩
abbrev S5x1x256 : Shape := ⟨3, ![5, 1, 256]⟩
abbrev S5x256x1 : Shape := ⟨3, ![5, 256, 1]⟩
abbrev S5x256x256 : Shape := ⟨3, ![5, 256, 256]⟩

abbrev nBuf : Space → Nat
  | .hbm => 15
  | .vmem => 7
  | .smem => 0
  | _ => 0

abbrev bufTy : (tb : Table) → Fin (tcTables nBuf tb) → BufTy
  | .hbm, ⟨0, _⟩ => ⟨S5, .i32⟩
  | .hbm, ⟨1, _⟩ => ⟨S5, .i32⟩
  | .hbm, ⟨2, _⟩ => ⟨S5, .f32⟩
  | .hbm, ⟨3, _⟩ => ⟨S2x128x2048, .fp8e4m3⟩
  | .hbm, ⟨4, _⟩ => ⟨S2x128, .f32⟩
  | .hbm, ⟨5, _⟩ => ⟨S5x2048x2048, .bf16⟩
  | .hbm, ⟨6, _⟩ => ⟨S5x2048, .f32⟩
  | .hbm, ⟨7, _⟩ => ⟨S5x256, .i32⟩
  | .hbm, ⟨8, _⟩ => ⟨S5x256, .i32⟩
  | .hbm, ⟨9, _⟩ => ⟨S1x256x2048, .fp8e4m3⟩
  | .hbm, ⟨10, _⟩ => ⟨S1x256x1, .f32⟩
  | .hbm, ⟨11, _⟩ => ⟨S5x1x2048, .f32⟩
  | .hbm, ⟨12, _⟩ => ⟨S5x256x2048, .fp8e4m3⟩
  | .hbm, ⟨13, _⟩ => ⟨S5x1x256, .f32⟩
  | .hbm, ⟨14, _⟩ => ⟨S5x256x2048, .f32⟩
  | .local _ .vmem, ⟨0, _⟩ => ⟨S1x256x2048, .fp8e4m3⟩
  | .local _ .vmem, ⟨1, _⟩ => ⟨S1x256x1, .f32⟩
  | .local _ .vmem, ⟨2, _⟩ => ⟨S5x2048x2048, .bf16⟩
  | .local _ .vmem, ⟨3, _⟩ => ⟨S5x1x2048, .f32⟩
  | .local _ .vmem, ⟨4, _⟩ => ⟨S5x256x2048, .fp8e4m3⟩
  | .local _ .vmem, ⟨5, _⟩ => ⟨S5x1x256, .f32⟩
  | .local _ .vmem, ⟨6, _⟩ => ⟨S5x256x2048, .f32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x256x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x256x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.GRun.lean ====
module

public import proofs.«01_k».proof.Proof.Gen.Fwd.Frame
public import proofs.«01_k».proof.Proof.Gen.Fwd.Loops
public import proofs.«01_k».proof.Proof.Gen.Fwd.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Fwd.Val

open Idealize.ShloMosaic Idealize.ShloMosaic.TcCoe Idealize.ShloMosaic.Tactic
open Idealize.SL Idealize.SL.RA Idealize.SL.BI
open Cert.Fwd Cert.Fwd.Gen
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's first branch: the point is the first of its row block. -/
abbrev first (i : grid0.Coords) : Prop := (Scalar.cmpi .ne (Scalar.extui (Scalar.cmpi .eq (BitVec.ofNat 32 (i 1).val) 0#32)) 0#32) = 1#1

set_option backward.proofsInPublic true in
set_option maxHeartbeats 4000000 in
/-- The body at any point, whichever branches it takes, leaves in the logits' block the pieces `L` that its four stores
    write, the inputs as they were, and the other outputs and the scratch at some contents. -/
noncomputable def run (c : Dev nD) (i : grid0.Coords) (arg2 : Memref sig .tc .vmem S896x2048 .bf16) (harg2 : arg2.IsWhole) (arg3 : Memref sig .tc .vmem S896x128 .f32) (harg3 : arg3.IsWhole) (arg4 : Memref sig .tc .vmem S2048x2048 .fp8e4m3) (harg4 : arg4.IsWhole) (arg5 : Memref sig .tc .vmem S32x2048 .bf16) (harg5 : arg5.IsWhole) (arg6 : Memref sig .tc .vmem S896x2048 .f32) (harg6 : arg6.IsWhole) (arg7 : Memref sig .tc .vmem S896x128 .f32) (harg7 : arg7.IsWhole) (arg8 : Memref sig .tc .vmem S896x128 .f32) (harg8 : arg8.IsWhole) (arg9 : Memref sig .tc .vmem S2048x2048 .bf16) (harg9 : arg9.IsWhole) (arg10 : Memref sig .tc .vmem S896x128 .f32) (harg10 : arg10.IsWhole) (arg11 : Memref sig .tc .vmem S896x128 .f32) (harg11 : arg11.IsWhole) (arg12 : Memref sig .tc .vmem S896x128 .f32) (harg12 : arg12.IsWhole) (arg13 : Memref sig .tc .vmem S896x128 .f32) (harg13 : arg13.IsWhole) (arg14 : Memref sig .tc .vmem S896x128 .f32) (harg14 : arg14.IsWhole) (arg15 : Memref sig .tc .vmem S896x128 .f32) (harg15 : arg15.IsWhole)
    (x0 : Vec F S896x2048 .bf16) (x1 : Vec F S896x128 .f32) (x2 : Vec F S2048x2048 .fp8e4m3) (x3 : Vec F S32x2048 .bf16) :
    { L : List (View.Piece (Elt F) S896x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_fwd_eq_skeleton]; unfold cc0_fwd_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f2, %hf2, H2⟩, ⟨%f3, %hf3, H3⟩, ⟨%f4, %hf4, H4⟩, ⟨%f5, %hf5, H5⟩, ⟨%d6, %e6, -, H6⟩, ⟨%d7, %e7, -, H7⟩, ⟨%d8, %e8, -, H8⟩, ⟨%d9, %e9, -, H9⟩, ⟨%d10, %e10, -, H10⟩, ⟨%d11, %e11, -, H11⟩, ⟨%d12, %e12, -, H12⟩, ⟨%d13, %e13, -, H13⟩, ⟨%d14, %e14, -, H14⟩, ⟨%d15, %e15, -, H15⟩, Hk⟩
    obtain rfl := harg2.eq_unread hf2; obtain rfl := harg3.eq_unread hf3; obtain rfl := harg4.eq_unread hf4; obtain rfl := harg5.eq_unread hf5
    by_cases hc0 : first i <;> by_cases hc1 : k0_cond2 i = 1#1
    all_goals
      sl_exec (disch := first | sl_exact hc0 | sl_exact hc1)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]; · iexists _; iexact H6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      iexists _, _; isplitr; swap; · iexact H15
      ipureintro; rfl
end Cert.Fwd.Val

end
-- ==== Proof.GFrame.lean ====
module

public import proofs.«01_k».proof.Proof.GRun
public import Idealize.ShloMosaic.Lib.Claim

@[expose] public section

set_option maxRecDepth 16384

noncomputable section

namespace Cert.Fwd.Val

open Idealize.ShloMosaic Idealize.ShloMosaic.TcCoe Idealize.ShloMosaic.Tactic
open Idealize.SL Idealize.SL.RA Idealize.SL.BI
open Cert.Fwd Cert.Fwd.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the logits' window, through which its contents are stated. -/
abbrev VO4 : View sig .tc .vmem S896x2048 .f32 := (Memref.whole cc0_stg4_0 : Memref sig .tc .vmem S896x2048 .f32).view

/-! ## The memrefs the body is called with at a point, each whole -/

abbrev ms0_0 (t : Fin cfg0.N) : Memref sig .tc .vmem S896x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S896x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S896x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S896x128 .f32 := win0_6.stage (cfg0.slots t 6)
abbrev hs0_6 (t : Fin cfg0.N) : (ms0_6 t).IsWhole := hstage0_6 ((cfg0.slots t 6).cast nbuf0_6)
abbrev scM0_0 : Memref sig .tc .vmem S2048x2048 .bf16 := Memref.whole cc0_scratch0
abbrev scM0_1 : Memref sig .tc .vmem S896x128 .f32 := Memref.whole cc0_scratch1
abbrev scM0_2 : Memref sig .tc .vmem S896x128 .f32 := Memref.whole cc0_scratch2
abbrev scM0_3 : Memref sig .tc .vmem S896x128 .f32 := Memref.whole cc0_scratch3
abbrev scM0_4 : Memref sig .tc .vmem S896x128 .f32 := Memref.whole cc0_scratch4
abbrev scM0_5 : Memref sig .tc .vmem S896x128 .f32 := Memref.whole cc0_scratch5
abbrev scM0_6 : Memref sig .tc .vmem S896x128 .f32 := Memref.whole cc0_scratch6

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The pieces the body stores in the logits' block at point `t`, over the point's input blocks. -/
def pieces (c : Dev nD) (t : Fin cfg0.N) (x0 : Vec F S896x2048 .bf16) (x1 : Vec F S896x128 .f32) (x2 : Vec F S2048x2048 .fp8e4m3) (x3 : Vec F S32x2048 .bf16) : List (View.Piece (Elt F) S896x2048 .f32) :=
  (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) x0 x1 x2 x3).1

/-- The four pieces tile the block, so they cover it. -/
theorem cover (c : Dev nD) (t : Fin cfg0.N) (x0 : Vec F S896x2048 .bf16) (x1 : Vec F S896x128 .f32) (x2 : Vec F S2048x2048 .fp8e4m3) (x3 : Vec F S32x2048 .bf16) (y : S896x2048.Idx) : ∃ pc ∈ pieces c t x0 x1 x2 x3, y ∈ pc.1.set :=
  View.cover_of_tiledL (pieces c t x0 x1 x2 x3) S896x512.size (by sl_kernel_rfl) y

/-- What the body leaves in the logits' block: its pieces read back. -/
def left (c : Dev nD) (t : Fin cfg0.N) (x0 : Vec F S896x2048 .bf16) (x1 : Vec F S896x128 .f32) (x2 : Vec F S2048x2048 .fp8e4m3) (x3 : Vec F S32x2048 .bf16) : Vec F S896x2048 .f32 :=
  VO4.read (Elt F) (VO4.writes (Elt F) VO4.junk (pieces c t x0 x1 x2 x3))

/-! ## The pipeline's proof data -/

/-- The two outputs nothing is stated of: the softmax statistics and the gradient scales. -/
def forgets0 : Fin 7 → Bool := fun w => w.val == 5 || w.val == 6

/-- The proof data: the arrays as the region finds them; after the body each input at its block, the logits' block at
    `left`, the two other outputs at nothing named; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left c t (iblk m c 0 t) (iblk m c 1 t) (iblk m c 2 t) (iblk m c 3 t)
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = left c t (iblk m c 0 t) (iblk m c 1 t) (iblk m c 2 t) (iblk m c 3 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 2400000 in
/-- The body at any point: the run applies to the point's blocks, and the pieces it leaves cover the logits' block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold left
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, ⟨%e4, H4⟩, H5, H6, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover c t _ _ _ _)
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every array of the pipeline not forgotten ends at what the proof data says, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the logits end at what the pipeline's write-backs leave, the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(Dat.toRForget_arrAt_iff (dats m 0 c) (w := 4) rfl cfg0.N _).mp ((h.1 c).1 4),
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c)⟩)
    (run_main_quiescent m ρ)

/-- The frame: the run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_blocks m ρ)) ((θ_run defs _ _).mono (fun _ h => h.2) (run_main_quiescent m ρ))

end Cert.Fwd.Val

end
-- ==== Proof.FRun.lean ====
module

public import proofs.«01_k».proof.Proof.Gen.FwdIdeal.Frame
public import proofs.«01_k».proof.Proof.Gen.FwdIdeal.Loops
public import proofs.«01_k».proof.Proof.Gen.FwdIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FwdIdeal.Val

open Idealize.ShloMosaic Idealize.ShloMosaic.TcCoe Idealize.ShloMosaic.Tactic
open Idealize.SL Idealize.SL.RA Idealize.SL.BI
open Cert.FwdIdeal Cert.FwdIdeal.Gen
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's first branch: the point is the first of its row block. -/
abbrev first (i : grid0.Coords) : Prop := (Scalar.cmpi .ne (Scalar.extui (Scalar.cmpi .eq (BitVec.ofNat 32 (i 1).val) 0#32)) 0#32) = 1#1

set_option backward.proofsInPublic true in
set_option maxHeartbeats 4000000 in
/-- The body at any point, whichever branches it takes, leaves in the logits' block the pieces `L` that its four stores
    write, the inputs as they were, and the other outputs and the scratch at some contents. -/
noncomputable def run (c : Dev nD) (i : grid0.Coords) (arg2 : Memref sig .tc .vmem S896x2048 .bf16) (harg2 : arg2.IsWhole) (arg3 : Memref sig .tc .vmem S896x128 .f32) (harg3 : arg3.IsWhole) (arg4 : Memref sig .tc .vmem S2048x2048 .fp8e4m3) (harg4 : arg4.IsWhole) (arg5 : Memref sig .tc .vmem S32x2048 .bf16) (harg5 : arg5.IsWhole) (arg6 : Memref sig .tc .vmem S896x2048 .f32) (harg6 : arg6.IsWhole) (arg7 : Memref sig .tc .vmem S896x128 .f32) (harg7 : arg7.IsWhole) (arg8 : Memref sig .tc .vmem S896x128 .f32) (harg8 : arg8.IsWhole) (arg9 : Memref sig .tc .vmem S2048x2048 .bf16) (harg9 : arg9.IsWhole) (arg10 : Memref sig .tc .vmem S896x128 .f32) (harg10 : arg10.IsWhole) (arg11 : Memref sig .tc .vmem S896x128 .f32) (harg11 : arg11.IsWhole) (arg12 : Memref sig .tc .vmem S896x128 .f32) (harg12 : arg12.IsWhole) (arg13 : Memref sig .tc .vmem S896x128 .f32) (harg13 : arg13.IsWhole) (arg14 : Memref sig .tc .vmem S896x128 .f32) (harg14 : arg14.IsWhole) (arg15 : Memref sig .tc .vmem S896x128 .f32) (harg15 : arg15.IsWhole)
    (x0 : Vec F S896x2048 .bf16) (x1 : Vec F S896x128 .f32) (x2 : Vec F S2048x2048 .fp8e4m3) (x3 : Vec F S32x2048 .bf16) :
    { L : List (View.Piece (Elt F) S896x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_fwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_fwd_eq_skeleton]; unfold cc0_fwd_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%f2, %hf2, H2⟩, ⟨%f3, %hf3, H3⟩, ⟨%f4, %hf4, H4⟩, ⟨%f5, %hf5, H5⟩, ⟨%d6, %e6, -, H6⟩, ⟨%d7, %e7, -, H7⟩, ⟨%d8, %e8, -, H8⟩, ⟨%d9, %e9, -, H9⟩, ⟨%d10, %e10, -, H10⟩, ⟨%d11, %e11, -, H11⟩, ⟨%d12, %e12, -, H12⟩, ⟨%d13, %e13, -, H13⟩, ⟨%d14, %e14, -, H14⟩, ⟨%d15, %e15, -, H15⟩, Hk⟩
    obtain rfl := harg2.eq_unread hf2; obtain rfl := harg3.eq_unread hf3; obtain rfl := harg4.eq_unread hf4; obtain rfl := harg5.eq_unread hf5
    by_cases hc0 : first i <;> by_cases hc1 : k0_cond2 i = 1#1
    all_goals
      sl_exec (disch := first | sl_exact hc0 | sl_exact hc1)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]; · iexists _; iexact H6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      iexists _, _; isplitr; swap; · iexact H15
      ipureintro; rfl
end Cert.FwdIdeal.Val

end
-- ==== Proof.FFrame.lean ====
module

public import proofs.«01_k».proof.Proof.FRun
public import Idealize.ShloMosaic.Lib.Claim

@[expose] public section

set_option maxRecDepth 16384

noncomputable section

namespace Cert.FwdIdeal.Val

open Idealize.ShloMosaic Idealize.ShloMosaic.TcCoe Idealize.ShloMosaic.Tactic
open Idealize.SL Idealize.SL.RA Idealize.SL.BI
open Cert.FwdIdeal Cert.FwdIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the logits' window, through which its contents are stated. -/
abbrev VO4 : View sig .tc .vmem S896x2048 .f32 := (Memref.whole cc0_stg4_0 : Memref sig .tc .vmem S896x2048 .f32).view

/-! ## The memrefs the body is called with at a point, each whole -/

abbrev ms0_0 (t : Fin cfg0.N) : Memref sig .tc .vmem S896x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S896x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S896x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S896x128 .f32 := win0_6.stage (cfg0.slots t 6)
abbrev hs0_6 (t : Fin cfg0.N) : (ms0_6 t).IsWhole := hstage0_6 ((cfg0.slots t 6).cast nbuf0_6)
abbrev scM0_0 : Memref sig .tc .vmem S2048x2048 .bf16 := Memref.whole cc0_scratch0
abbrev scM0_1 : Memref sig .tc .vmem S896x128 .f32 := Memref.whole cc0_scratch1
abbrev scM0_2 : Memref sig .tc .vmem S896x128 .f32 := Memref.whole cc0_scratch2
abbrev scM0_3 : Memref sig .tc .vmem S896x128 .f32 := Memref.whole cc0_scratch3
abbrev scM0_4 : Memref sig .tc .vmem S896x128 .f32 := Memref.whole cc0_scratch4
abbrev scM0_5 : Memref sig .tc .vmem S896x128 .f32 := Memref.whole cc0_scratch5
abbrev scM0_6 : Memref sig .tc .vmem S896x128 .f32 := Memref.whole cc0_scratch6

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The pieces the body stores in the logits' block at point `t`, over the point's input blocks. -/
def pieces (c : Dev nD) (t : Fin cfg0.N) (x0 : Vec F S896x2048 .bf16) (x1 : Vec F S896x128 .f32) (x2 : Vec F S2048x2048 .fp8e4m3) (x3 : Vec F S32x2048 .bf16) : List (View.Piece (Elt F) S896x2048 .f32) :=
  (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) x0 x1 x2 x3).1

/-- The four pieces tile the block, so they cover it. -/
theorem cover (c : Dev nD) (t : Fin cfg0.N) (x0 : Vec F S896x2048 .bf16) (x1 : Vec F S896x128 .f32) (x2 : Vec F S2048x2048 .fp8e4m3) (x3 : Vec F S32x2048 .bf16) (y : S896x2048.Idx) : ∃ pc ∈ pieces c t x0 x1 x2 x3, y ∈ pc.1.set :=
  View.cover_of_tiledL (pieces c t x0 x1 x2 x3) S896x512.size (by sl_kernel_rfl) y

/-- What the body leaves in the logits' block: its pieces read back. -/
def left (c : Dev nD) (t : Fin cfg0.N) (x0 : Vec F S896x2048 .bf16) (x1 : Vec F S896x128 .f32) (x2 : Vec F S2048x2048 .fp8e4m3) (x3 : Vec F S32x2048 .bf16) : Vec F S896x2048 .f32 :=
  VO4.read (Elt F) (VO4.writes (Elt F) VO4.junk (pieces c t x0 x1 x2 x3))

/-! ## The pipeline's proof data -/

/-- The two outputs nothing is stated of: the softmax statistics and the gradient scales. -/
def forgets0 : Fin 7 → Bool := fun w => w.val == 5 || w.val == 6

/-- The proof data: the arrays as the region finds them; after the body each input at its block, the logits' block at
    `left`, the two other outputs at nothing named; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left c t (iblk m c 0 t) (iblk m c 1 t) (iblk m c 2 t) (iblk m c 3 t)
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = left c t (iblk m c 0 t) (iblk m c 1 t) (iblk m c 2 t) (iblk m c 3 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 2400000 in
/-- The body at any point: the run applies to the point's blocks, and the pieces it leaves cover the logits' block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold left
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, ⟨%e4, H4⟩, H5, H6, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover c t _ _ _ _)
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every array of the pipeline not forgotten ends at what the proof data says, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: the logits end at what the pipeline's write-backs leave, the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(Dat.toRForget_arrAt_iff (dats m 0 c) (w := 4) rfl cfg0.N _).mp ((h.1 c).1 4),
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c)⟩)
    (run_main_quiescent m ρ)

/-- The frame: the run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_blocks m ρ)) ((θ_run defs _ _).mono (fun _ h => h.2) (run_main_quiescent m ρ))

end Cert.FwdIdeal.Val

end
-- ==== Proof.FValue.lean ====
module

public import proofs.«01_k».proof.Proof.FFrame
public import Idealize.ShloMosaic.Lib.Pipeline.ValueKit
public import Idealize.ShloMosaic.Lib.Pointwise

@[expose] public section

set_option maxRecDepth 16384

noncomputable section

namespace Cert.FwdIdeal.Val

open Idealize.ShloMosaic Idealize.ShloMosaic.TcCoe Idealize.SL.Sem Cert.FwdIdeal Cert.FwdIdeal.Gen

variable (m : (ℓ : Loc nD τ sig) → Buf (Elt Ideal) ℓ)

/-- A load of exactly what was stored last. -/
theorem readCov_same {Val : EltTy → Type} [∀ e, Nonempty (Val e)] {sg : RefSig} {κ : Kind} {sp : Space} {s : Shape} {e : EltTy} (v : View sg κ sp s e)
    (r : Rect s) (w : r.shape.Idx → Val e) (L : List (View.Piece Val s e)) :
    v.readCov (⟨r, w⟩ :: L) r.toLoadRect = w := by
  funext x
  show v.read Val (v.writes Val v.junk (⟨r, w⟩ :: L)) (r.emb x) = w x
  rw [View.read_writes_apply_eq_canon v v.junk (r.emb x) (⟨r, w⟩ :: L) ⟨⟨r, w⟩, List.mem_cons_self, r.idx_mem x⟩, View.canon_cons_emb]

/-- One logit over a block's operands: the row's codes against the column's dequantised weights, then the row's scale. -/
def cell (x0 : Vec Ideal S896x2048 .bf16) (x1 : Vec Ideal S896x128 .f32) (x2 : Vec Ideal S2048x2048 .fp8e4m3) (x3 : Vec Ideal S32x2048 .bf16)
    (r : Fin 896) (k : Fin 2048) : EReal :=
  (∑ d : Fin 2048, x0 (ix2 r d) * (x2 (ix2 d k) * x3 (ix2 (n0 := 32) (n1 := 2048) ⟨d.val / 64, by have := d.isLt; omega⟩ k))) * x1 (ix2 r 0)

/-- A chunk of 512 columns, stored at column `off`, holds the logits of its columns. -/
theorem chunk (x0 : Vec Ideal S896x2048 .bf16) (x1 : Vec Ideal S896x128 .f32) (x2 : Vec Ideal S2048x2048 .fp8e4m3) (x3 : Vec Ideal S32x2048 .bf16)
    (off : ℕ) (ho : off + 512 ≤ 2048) (inb : ∀ a, (![0, off] : Fin 2 → ℕ) a + S896x512.size a ≤ S896x2048.size a)
    (inb2 : ∀ a, (![0, off] : Fin 2 → ℕ) a + S2048x512.size a ≤ S2048x2048.size a) (inb3 : ∀ a, (![0, off] : Fin 2 → ℕ) a + S32x512.size a ≤ S32x2048.size a)
    (r : Fin 896) (k : Fin 2048) (x : S896x512.Idx) (hx : (Rect.unit (s := S896x2048) ![0, off] S896x512.size inb).emb x = ix2 r k) :
    k0_pay141 (F := Ideal) (View.ld (Val := Elt Ideal) (e' := EltTy.f32) x1 (Rect.unit (s := S896x128) ![0, 0] S896x1.size inb_S896x128_S896x1_0_0)) x0
      (k0_pay140 (F := Ideal) (View.ld (Val := Elt Ideal) (e' := EltTy.fp8e4m3) x2 (Rect.unit (s := S2048x2048) ![0, off] S2048x512.size inb2))
        (View.ld (Val := Elt Ideal) (e' := EltTy.bf16) x3 (Rect.unit (s := S32x2048) ![0, off] S32x512.size inb3))) x
      = cell x0 x1 x2 x3 r k := by
  obtain ⟨r', k', rfl⟩ : ∃ (r' : Fin 896) (k' : Fin 512), x = ix2 r' k' := ⟨x 0, x 1, eq_ix2 x⟩
  have h0 : 0 + 1 * r'.val = r.val := congrArg Fin.val (congrFun hx 0)
  have h1 : off + 1 * k'.val = k.val := congrArg Fin.val (congrFun hx 1)
  obtain rfl : r' = r := Fin.ext (by omega)
  have hk := k'.isLt
  have ek : k = ⟨off + k'.val, by omega⟩ := Fin.ext (by show k.val = off + k'.val; omega)
  rw [ek]
  unfold cell
  pointwise [k0_pay141, k0_pay140]
  done

/-- What the body leaves at an element of the logits' block. -/
theorem left_at (c : Dev nD) (t : Fin cfg0.N) (r : Fin 896) (k : Fin 2048) :
    left c t (iblk m c 0 t) (iblk m c 1 t) (iblk m c 2 t) (iblk m c 3 t) (ix2 r k)
      = cell (iblk m c 0 t) (iblk m c 1 t) (iblk m c 2 t) (iblk m c 3 t) r k := by
  unfold left pieces run
  frame_out
  simp only [readCov_same]
  refine View.canon_eq_of_allAt _ _ _ ?_ fun p hp => ?_
  · exact View.cover_of_tiledL (s := S896x2048) _ S896x512.size (by sl_kernel_rfl) _
  simp only [List.mem_cons, List.not_mem_nil, or_false] at hp
  rcases hp with rfl | rfl | rfl | rfl
  · exact fun x hx => chunk _ _ _ _ 1536 (by decide) inb_S896x2048_S896x512_0_1536 inb_S2048x2048_S2048x512_0_1536 inb_S32x2048_S32x512_0_1536 r k x hx
  · exact fun x hx => chunk _ _ _ _ 1024 (by decide) inb_S896x2048_S896x512_0_1024 inb_S2048x2048_S2048x512_0_1024 inb_S32x2048_S32x512_0_1024 r k x hx
  · exact fun x hx => chunk _ _ _ _ 512 (by decide) inb_S896x2048_S896x512_0_512 inb_S2048x2048_S2048x512_0_512 inb_S32x2048_S32x512_0_512 r k x hx
  · exact fun x hx => chunk _ _ _ _ 0 (by decide) inb_S896x2048_S896x512_0_0 inb_S2048x2048_S2048x512_0_0 inb_S32x2048_S32x512_0_0 r k x hx

/-- The block each window holds at a grid point. -/
theorem idx : ∀ t : Fin cfg0.N, win0_0.index t = ![t.val / 49, 0] ∧ win0_1.index t = ![t.val / 49, 0] ∧ win0_2.index t = ![0, t.val % 49]
    ∧ win0_3.index t = ![0, t.val % 49] ∧ win0_4.index t = ![t.val / 49, t.val % 49] :=
  (by decide +kernel : ∀ t : Fin grid0.N, _)

/-- The scales the kernel's last operand holds: each column's is its block's. -/
theorem ws_at (c : Dev nD) (b : Fin 32) (v : Fin 100352) : V m c main_v2 (ix2 b v)
    = (m ((c : Thread nD τ).loc main_arg3) : Vec Ideal S32x1568 .f32) (ix2 (n0 := 32) (n1 := 1568) b ⟨v.val / 64, by have := v.isLt; omega⟩) := by
  unfold V; after_results
  pointwise

/-- One logit of the whole array. -/
def logit (X0 : Vec Ideal S1792x2048 .bf16) (X1 : Vec Ideal S1792x128 .f32) (X2 : Vec Ideal S2048x100352 .fp8e4m3) (X3 : Vec Ideal S32x1568 .f32)
    (R : Fin 1792) (v : Fin 100352) : EReal :=
  (∑ d : Fin 2048, X0 (ix2 R d) * (X2 (ix2 d v) * X3 (ix2 (n0 := 32) (n1 := 1568) ⟨d.val / 64, by have := d.isLt; omega⟩ ⟨v.val / 64, by have := v.isLt; omega⟩)))
    * X1 (ix2 R 0)

/-- The logits. -/
def logits (X0 : Vec Ideal S1792x2048 .bf16) (X1 : Vec Ideal S1792x128 .f32) (X2 : Vec Ideal S2048x100352 .fp8e4m3) (X3 : Vec Ideal S32x1568 .f32) :
    Vec Ideal S1792x100352 .f32 := fun i => logit X0 X1 X2 X3 (i 0) (i 1)

/-- A block's logit is the whole array's at the block's place. -/
theorem cell_at (c : Dev nD) (t : Fin cfg0.N) (r : Fin 896) (k : Fin 2048) (R : Fin 1792) (hR : R.val = t.val / 49 * 896 + r.val)
    (v : Fin 100352) (hv : v.val = t.val % 49 * 2048 + k.val) :
    cell (iblk m c 0 t) (iblk m c 1 t) (iblk m c 2 t) (iblk m c 3 t) r k
      = logit (m ((c : Thread nD τ).loc main_arg0)) (m ((c : Thread nD τ).loc main_arg1)) (m ((c : Thread nD τ).loc main_arg2)) (m ((c : Thread nD τ).loc main_arg3)) R v := by
  unfold cell logit
  have e0 : ∀ d : Fin 2048, iblk m c 0 t (ix2 (n0 := 896) (n1 := 2048) r d) = (m ((c : Thread nD τ).loc main_arg0) : Vec Ideal S1792x2048 .bf16) (ix2 (n0 := 1792) (n1 := 2048) R d) := fun d => by
    blk_ext [iblk, V, idx t]
  have e1 : iblk m c 1 t (ix2 (n0 := 896) (n1 := 128) r 0) = (m ((c : Thread nD τ).loc main_arg1) : Vec Ideal S1792x128 .f32) (ix2 (n0 := 1792) (n1 := 128) R 0) := by
    blk_ext [iblk, V, idx t]
  have e2 : ∀ d : Fin 2048, iblk m c 2 t (ix2 (n0 := 2048) (n1 := 2048) d k) = (m ((c : Thread nD τ).loc main_arg2) : Vec Ideal S2048x100352 .fp8e4m3) (ix2 (n0 := 2048) (n1 := 100352) d v) := fun d => by
    blk_ext [iblk, V, idx t]
  have e3 : ∀ d : Fin 32, iblk m c 3 t (ix2 (n0 := 32) (n1 := 2048) d k) = (m ((c : Thread nD τ).loc main_arg3) : Vec Ideal S32x1568 .f32) (ix2 (n0 := 32) (n1 := 1568) d ⟨v.val / 64, by have := v.isLt; omega⟩) := fun d =>
    (show iblk m c 3 t (ix2 (n0 := 32) (n1 := 2048) d k) = V m c main_v2 (ix2 (n0 := 32) (n1 := 100352) d v) by blk_ext [iblk, idx t]).trans (ws_at m c d v)
  simp only [e0, e1, e2, e3]

/-- What the kernel leaves in its result is the logits. -/
theorem final (c : Dev nD) : (dats m 0 c).arrAt 4 cfg0.N
    = logits (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, k, rfl⟩ : ∃ (r : Fin 896) (k : Fin 2048), y = ix2 r k := ⟨y 0, y 1, eq_ix2 y⟩
  blk_simp
  rw [after0_4]
  refine (left_at m c t r k).trans (cell_at m c t r k _ ?_ _ ?_)
  · blk_simp [idx t]
    done
  · blk_simp [idx t]
    done

end Cert.FwdIdeal.Val
end
-- ==== Proof.FRef.lean ====
module

public import proofs.«01_k».proof.Proof.Gen.FwdRefIdeal.Value
public import Idealize.ShloMosaic.Lib.Pipeline.ValueKit
public import Idealize.ShloMosaic.Lib.Pointwise
public import proofs.«01_k».proof.Proof.FValue
public import Idealize.ShloMosaic.Lib.Claim

@[expose] public section

set_option maxRecDepth 16384

noncomputable section

namespace Cert.FwdRefIdeal.Val

open Idealize.ShloMosaic Idealize.ShloMosaic.TcCoe Idealize.SL.Sem Cert.FwdRefIdeal Cert.FwdRefIdeal.Gen

variable (m : (ℓ : Loc nD τ sig) → Buf (Elt Ideal) ℓ)

theorem v3_at (c : Dev nD) (d : Fin 2048) (v : Fin 100352) : V m c main_v3 (ix2 d v)
    = (m ((c : Thread nD τ).loc main_arg3) : Vec Ideal S32x1568 .f32) (ix2 (n0 := 32) (n1 := 1568) ⟨d.val / 64, by have := d.isLt; omega⟩ ⟨v.val / 64, by have := v.isLt; omega⟩) := by
  unfold V; after_results
  pointwise

theorem v4_at (c : Dev nD) (R : Fin 1792) : V m c main_v4 (ix2 R 0)
    = (m ((c : Thread nD τ).loc main_arg1) : Vec Ideal S1792x128 .f32) (ix2 (n0 := 1792) (n1 := 128) R 0) := by
  unfold V; after_results
  pointwise

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- What the reference leaves in its result is the logits. -/
theorem final (c : Dev nD) : (dats m 0 c).arrAt 4 cfg0.N
    = Cert.FwdIdeal.Val.logits (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  obtain ⟨R, v, rfl⟩ : ∃ (R : Fin 1792) (v : Fin 100352), j = ix2 R v := ⟨j 0, j 1, eq_ix2 j⟩
  blk_simp; rw [after0_4]; frame_out
  pointwise [k0_pay1]
  have e0 : ∀ d : Fin 2048, iblk m c 0 t0_0 (ix2 (n0 := 1792) (n1 := 2048) R d) = (m ((c : Thread nD τ).loc main_arg0) : Vec Ideal S1792x2048 .bf16) (ix2 (n0 := 1792) (n1 := 2048) R d) := fun d => by
    blk_ext [iblk, V, idx t0_0]
  have e1 : iblk m c 1 t0_0 (ix2 (n0 := 1792) (n1 := 1) R 0) = (m ((c : Thread nD τ).loc main_arg1) : Vec Ideal S1792x128 .f32) (ix2 (n0 := 1792) (n1 := 128) R 0) :=
    (show iblk m c 1 t0_0 (ix2 (n0 := 1792) (n1 := 1) R 0) = V m c main_v4 (ix2 (n0 := 1792) (n1 := 1) R 0) by blk_ext [iblk, idx t0_0]).trans (v4_at m c R)
  have e2 : ∀ d : Fin 2048, iblk m c 2 t0_0 (ix2 (n0 := 2048) (n1 := 100352) d v) = (m ((c : Thread nD τ).loc main_arg2) : Vec Ideal S2048x100352 .fp8e4m3) (ix2 (n0 := 2048) (n1 := 100352) d v) := fun d => by
    blk_ext [iblk, V, idx t0_0]
  have e3 : ∀ d : Fin 2048, iblk m c 3 t0_0 (ix2 (n0 := 2048) (n1 := 100352) d v) = (m ((c : Thread nD τ).loc main_arg3) : Vec Ideal S32x1568 .f32) (ix2 (n0 := 32) (n1 := 1568) ⟨d.val / 64, by have := d.isLt; omega⟩ ⟨v.val / 64, by have := v.isLt; omega⟩) := fun d =>
    (show iblk m c 3 t0_0 (ix2 (n0 := 2048) (n1 := 100352) d v) = V m c main_v3 (ix2 (n0 := 2048) (n1 := 100352) d v) by blk_ext [iblk, idx t0_0]).trans (v3_at m c d v)
  simp only [e0, e1, e2, e3]
  rfl

end Cert.FwdRefIdeal.Val
end
-- ==== Proof.BRuns.lean ====
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Val

open Idealize.ShloMosaic Idealize.ShloMosaic.TcCoe Idealize.ShloMosaic.Tactic
open Idealize.SL Idealize.SL.RA Idealize.SL.BI
open Cert.Kernel Cert.Kernel.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rdat (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 49) — by arithmetic of the point. -/
theorem hcond0_0 : ∀ t : Fin cfg0.N, cond0_0 (grid0.coords t) ↔ t.val % 49 = 0 :=
  (fun t => by
    have ht : t.val < 98 := Nat.lt_of_lt_of_eq t.isLt N_0
    have e0 : (grid0.coords t 0).val = t.val / 49 % 2 := Pipeline.Grid.coords_val t 0 (by decide) rfl
    have e1 : (grid0.coords t 1).val = t.val / 1 % 49 := Pipeline.Grid.coords_val t 1 (by decide) rfl
    simp only [cond0_0, e0, e1]
    word_cmp
   : ∀ t : Fin grid0.N, cond0_0 (grid0.coords t) ↔ t.val % 49 = 0)

/-! ## The kernel body on any staging memrefs: a subtype the run finds -/

/-- Each window's current staging memref at point `t`, spelled as the pipeline passes it (`bodyAt0`), and its wholeness. -/
abbrev ms0_0 (t : Fin cfg0.N) : Memref sig .tc .vmem S896x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S896x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S896x2048 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2048x2048 .bf16 := Memref.whole cc0_scratch0
abbrev scM0_1 : Memref sig .tc .vmem S896x2048 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Val

end
-- ==== Proof.BRunA.lean ====
module

public import proofs.«01_k».proof.Proof.BRuns

@[expose] public section

-- membership in a rectangle of production extents (`View.cover_of_tiled`): the elaborator's structural look
-- recurses once per coordinate of the long axes
set_option maxRecDepth 16384

noncomputable section

namespace Cert.Kernel.Val

open Idealize.ShloMosaic Idealize.ShloMosaic.TcCoe Idealize.ShloMosaic.Tactic
open Idealize.SL Idealize.SL.RA Idealize.SL.BI
open Cert.Kernel Cert.Kernel.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 49): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (hc0 : cond0_0 i)
    (x0 : Vec F S896x2048 .f32) (x1 : Vec F S896x128 .f32) (x2 : Vec F S896x128 .f32) (x3 : Vec F S896x128 .f32) (x4 : Vec F S2048x2048 .fp8e4m3) (x5 : Vec F S32x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_bwd i arg2 harg2 arg3 harg3 arg4 harg4 arg5 harg5 arg6 harg6 arg7 harg7 arg8 harg8 arg9 harg9 arg10 harg10) K := by
    intro E K
    simp only [cc0_bwd_eq_skeleton]; unfold cc0_bwd_skel
    simp only [k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Val

end
-- ==== Proof.BRunB.lean ====
module

public import proofs.«01_k».proof.Proof.BRunA

@[expose] public section

-- membership in a rectangle of production extents (`View.cover_of_tiled`): the elaborator's structural look
-- recurses once per coordinate of the long axes
set_option maxRecDepth 16384

noncomputable section

namespace Cert.Kernel.Val

open Idealize.ShloMosaic Idealize.ShloMosaic.TcCoe Idealize.ShloMosaic.Tactic
open Idealize.SL Idealize.SL.RA Idealize.SL.BI
open Cert.Kernel Cert.Kernel.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 97: 96 of 98): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (hc0 : ¬cond0_0 i)
    (x0 : Vec F S896x2048 .f32) (x1 : Vec F S896x128 .f32) (x2 : Vec F S896x128 .f32) (x3 : Vec F S896x128 .f32) (x4 : Vec F S2048x2048 .fp8e4m3) (x5 : Vec F S32x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_bwd i arg2 harg2 arg3 harg3 arg4 harg4 arg5 harg5 arg6 harg6 arg7 harg7 arg8 harg8 arg9 harg9 arg10 harg10) K := by
    intro E K
    simp only [cc0_bwd_eq_skeleton]; unfold cc0_bwd_skel
    simp only [k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Val

end
-- ==== Proof.BFrame.lean ====
module

public import proofs.«01_k».proof.Proof.BRunB
public import Idealize.ShloMosaic.Lib.Claim

@[expose] public section

-- membership in a rectangle of production extents (`View.cover_of_tiled`): the elaborator's structural look
-- recurses once per coordinate of the long axes
set_option maxRecDepth 16384

noncomputable section

namespace Cert.Kernel.Val

open Idealize.ShloMosaic Idealize.ShloMosaic.TcCoe Idealize.ShloMosaic.Tactic
open Idealize.SL Idealize.SL.RA Idealize.SL.BI
open Cert.Kernel Cert.Kernel.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 98 := lt_of_lt_of_eq t.isLt (show cfg0.N = 98 from N_0)
  by_cases h0 : t.val % 49 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rdat m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Val

end
-- ==== Proof.Tiles.lean ====
module

public import proofs.«01_k».proof.Proof.Gen.KernelIdeal.Frame
public import proofs.«01_k».proof.Proof.Gen.KernelIdeal.Loops
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- What one group of sixteen rows stores into one vreg of the quantised tile, at lane offset `off` of the column block:
    the scale of the chunk the column lies in, the gradient over that scale, clipped, rounded to the code format and scaled back. -/
def qrow (off v0 v17 v36 v39 : BitVec 32) (v43 : IVec S16x128 32) (gs : Vec F S16x128 .f32) (lse coef lab : Vec F S16x1 .f32)
    (l : Vec F S16x128 .f32) : FVec F S16x128 .bf16 :=
  let s : FVec F S16x128 .f32 := select (cmpi .slt v43 (broadcast S16x128 (Scalar.subi v39 off))) (k0_pay5 v17 v43 gs) (k0_pay6 v36 v43 gs)
  let oh : FVec F S16x128 .f32 := select (cmpi .eq (k0_pay9 v0 v43 lab) (broadcast S16x128 off))
    (broadcast S16x128 (Scalar.ofBits .f32 0x3F800000#32)) (broadcast S16x128 (Scalar.ofBits .f32 0x00000000#32))
  let g : FVec F S16x128 .f32 := mulf (subf (exp (subf l (k0_pay7 lse))) oh) (divf (k0_pay8 coef) s)
  let cl : FVec F S16x128 .f32 := minimumf (broadcast S16x128 (Scalar.ofBits .f32 0x47600000#32))
    (maximumf (broadcast S16x128 (Scalar.ofBits .f32 0xC7600000#32)) g)
  shapeCast S16x128 (mulf (extf .bf16 (truncf .fp8e5m2 cl bitsLt_fp8e5m2_f32) bitsLt_fp8e5m2_bf16) (truncf .bf16 s bitsLt_bf16_f32))
    shapeCasts_S16x128_S16x128

/-- The quantised tile of a whole row tile, element by element: the element at row `r` and column `v` is the one its group of
    sixteen rows and its lane group of 128 columns store there. -/
def qv (v0 v17 v36 v39 : BitVec 32) (v43 : IVec S16x128 32) (x0 : Vec F S896x2048 .f32) (x1 x2 x3 : Vec F S896x128 .f32) :
    Vec F S896x2048 .bf16 := fun y =>
  have h0 : (y 0).val < 896 := (y 0).isLt
  have h1 : (y 1).val < 2048 := (y 1).isLt
  have hr : ∀ j : S16x128.Idx, (y 0).val / 16 * 16 + (j 0).val < 896 := fun j => by have : (j 0).val < 16 := (j 0).isLt; omega
  have hr' : ∀ j : S16x1.Idx, (y 0).val / 16 * 16 + (j 0).val < 896 := fun j => by have : (j 0).val < 16 := (j 0).isLt; omega
  have hc : ∀ j : S16x128.Idx, (y 1).val / 128 * 128 + (j 1).val < 2048 := fun j => by have : (j 1).val < 128 := (j 1).isLt; omega
  qrow (BitVec.ofNat 32 ((y 1).val / 128 * 128)) v0 v17 v36 v39 v43
    (fun j => x3 (ix2 (n0 := 896) (n1 := 128) ⟨_, hr j⟩ (j 1)))
    (fun j => x2 (ix2 (n0 := 896) (n1 := 128) ⟨_, hr' j⟩ 0))
    (fun j => x1 (ix2 (n0 := 896) (n1 := 128) ⟨_, hr' j⟩ 2))
    (fun j => x1 (ix2 (n0 := 896) (n1 := 128) ⟨_, hr' j⟩ 1))
    (fun j => x0 (ix2 (n0 := 896) (n1 := 2048) ⟨_, hr j⟩ ⟨_, hc j⟩))
    (ix2 (n0 := 16) (n1 := 128) ⟨(y 0).val % 16, by omega⟩ ⟨(y 1).val % 128, by omega⟩)

/-- One store's value is the tile's at the place it goes to. -/
theorem qv_emb (v0 v17 v36 v39 : BitVec 32) (v43 : IVec S16x128 32) (x0 : Vec F S896x2048 .f32) (x1 x2 x3 : Vec F S896x128 .f32)
    (k b : ℕ) (hb : b < 16) (o o1 o2 o3 o4 : Fin 2 → ℕ) (h : o = ![16 * k, b * 128]) (h1 : o1 = ![16 * k, 0]) (h2 : o2 = ![16 * k, 0])
    (h3 : o3 = ![16 * k, 2]) (h4 : o4 = ![16 * k, 1]) (inb : ∀ a, o a + S16x128.size a ≤ S896x2048.size a)
    (inb1 : ∀ a, o1 a + S16x128.size a ≤ S896x128.size a) (inb2 : ∀ a, o2 a + S16x1.size a ≤ S896x128.size a)
    (inb3 : ∀ a, o3 a + S16x1.size a ≤ S896x128.size a) (inb4 : ∀ a, o4 a + S16x1.size a ≤ S896x128.size a) (x : S16x128.Idx) :
    qrow (BitVec.ofNat 32 (b * 128)) v0 v17 v36 v39 v43 (fun j => x3 ((Rect.unit (s := S896x128) o1 S16x128.size inb1).toLoadRect.idx j))
      (fun j => x2 ((Rect.unit (s := S896x128) o2 S16x1.size inb2).toLoadRect.idx j))
      (fun j => x1 ((Rect.unit (s := S896x128) o3 S16x1.size inb3).toLoadRect.idx j))
      (fun j => x1 ((Rect.unit (s := S896x128) o4 S16x1.size inb4).toLoadRect.idx j))
      (fun j => x0 ((Rect.unit (s := S896x2048) o S16x128.size inb).toLoadRect.idx j)) x
      = qv v0 v17 v36 v39 v43 x0 x1 x2 x3 ((Rect.unit (s := S896x2048) o S16x128.size inb).emb x) := by
  subst h h1 h2 h3 h4
  have hx0 : (x 0).val < 16 := (x 0).isLt
  have hx1 : (x 1).val < 128 := (x 1).isLt
  have e0 : ((Rect.unit (s := S896x2048) ![16 * k, b * 128] S16x128.size inb).emb x 0).val = 16 * k + (x 0).val := by
    show 16 * k + 1 * (x 0).val = _; omega
  have e1 : ((Rect.unit (s := S896x2048) ![16 * k, b * 128] S16x128.size inb).emb x 1).val = b * 128 + (x 1).val := by
    show b * 128 + 1 * (x 1).val = _; omega
  unfold qv
  dsimp only
  have a0 : (16 * k + (x 0).val) / 16 * 16 = 16 * k := by omega
  have a1 : (16 * k + (x 0).val) % 16 = (x 0).val := by omega
  have a2 : (b * 128 + (x 1).val) / 128 * 128 = b * 128 := by omega
  have a3 : (b * 128 + (x 1).val) % 128 = (x 1).val := by omega
  simp only [e0, e1, a0, a1, a2, a3]
  have hx : ix2 (n0 := 16) (n1 := 128) ⟨(x 0).val, hx0⟩ ⟨(x 1).val, hx1⟩ = x := (eq_ix2 x).symm
  rw [hx]
  congr 1
  · funext j
    refine congrArg x3 (funext fun a => ?_)
    match a with
    | ⟨0, _⟩ => exact Fin.ext (show 16 * k + 1 * (j 0).val = 16 * k + (j 0).val by omega)
    | ⟨1, _⟩ => exact Fin.ext (show 0 + 1 * (j 1).val = (j 1).val by omega)
  · funext j
    have : (j 1).val < 1 := (j 1).isLt
    refine congrArg x2 (funext fun a => ?_)
    match a with
    | ⟨0, _⟩ => exact Fin.ext (show 16 * k + 1 * (j 0).val = 16 * k + (j 0).val by omega)
    | ⟨1, _⟩ => exact Fin.ext (show 0 + 1 * (j 1).val = 0 by omega)
  · funext j
    have : (j 1).val < 1 := (j 1).isLt
    refine congrArg x1 (funext fun a => ?_)
    match a with
    | ⟨0, _⟩ => exact Fin.ext (show 16 * k + 1 * (j 0).val = 16 * k + (j 0).val by omega)
    | ⟨1, _⟩ => exact Fin.ext (show 2 + 1 * (j 1).val = 2 by omega)
  · funext j
    have : (j 1).val < 1 := (j 1).isLt
    refine congrArg x1 (funext fun a => ?_)
    match a with
    | ⟨0, _⟩ => exact Fin.ext (show 16 * k + 1 * (j 0).val = 16 * k + (j 0).val by omega)
    | ⟨1, _⟩ => exact Fin.ext (show 1 + 1 * (j 1).val = 1 by omega)
  · funext j
    refine congrArg x0 (funext fun a => ?_)
    match a with
    | ⟨0, _⟩ => exact Fin.ext (show 16 * k + 1 * (j 0).val = 16 * k + (j 0).val by omega)
    | ⟨1, _⟩ => exact Fin.ext (show b * 128 + 1 * (j 1).val = b * 128 + (j 1).val by omega)

/-- The sixteen rows a trip covers, in one lane group. -/
theorem mem_group (k b : ℕ) (o : Fin 2 → ℕ) (h : o = ![16 * k, b * 128]) (inb : ∀ a, o a + S16x128.size a ≤ S896x2048.size a)
    (y : S896x2048.Idx) (h0 : (y 0).val / 16 = k) (h1 : (y 1).val / 128 = b) : y ∈ (Rect.unit (s := S896x2048) o S16x128.size inb).set := by
  subst h
  rw [Rect.mem_set_unit]
  intro a
  match a with
  | ⟨0, _⟩ => exact ⟨show 16 * k ≤ (y 0).val by omega, show (y 0).val < 16 * k + 16 by omega⟩
  | ⟨1, _⟩ => exact ⟨show b * 128 ≤ (y 1).val by omega, show (y 1).val < b * 128 + 128 by omega⟩

end Cert.KernelIdeal.Val
end
-- ==== Proof.Tiles1.lean ====
module

public import proofs.«01_k».proof.Proof.Tiles
public import proofs.«01_k».proof.Proof.Gen.KernelIdeal.Loops
public import Idealize.ShloMosaic.Lib.Pipeline.ValueKit
public import Idealize.ShloMosaic.Lib.Pipeline.CanonAppend

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

theorem off5_eq : ∀ k : Fin k0_t1_loop.trips, k0_off5 k = ![16 * k.val, 0] := by decide +kernel

theorem off6_eq : ∀ k : Fin k0_t1_loop.trips, k0_off6 k = ![16 * k.val, 128] := by decide +kernel

theorem off7_eq : ∀ k : Fin k0_t1_loop.trips, k0_off7 k = ![16 * k.val, 256] := by decide +kernel

theorem off8_eq : ∀ k : Fin k0_t1_loop.trips, k0_off8 k = ![16 * k.val, 384] := by decide +kernel

theorem off1_eq : ∀ k : Fin k0_t1_loop.trips, k0_off1 k = ![16 * k.val, 0] := by decide +kernel

theorem off2_eq : ∀ k : Fin k0_t1_loop.trips, k0_off2 k = ![16 * k.val, 0] := by decide +kernel

theorem off3_eq : ∀ k : Fin k0_t1_loop.trips, k0_off3 k = ![16 * k.val, 2] := by decide +kernel

theorem off4_eq : ∀ k : Fin k0_t1_loop.trips, k0_off4 k = ![16 * k.val, 1] := by decide +kernel

/-- The four stores of one trip of the row loop over column block 0. -/
theorem tripL1 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (arg1 v0 v17 v36 v38 v39 : BitVec 32) (v43 : IVec S16x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg1 v0 v17 v36 v38 v39 v43 X_arg2 X_arg3 X_arg4 X_arg5 k
      = [(⟨Rect.unit (s := S896x2048) (k0_off8 k) S16x128.size (k0_off8_inb k), qrow (BitVec.ofNat 32 (3 * 128)) v0 v17 v36 v39 v43
          (arg5.view.readAt (Elt F) (Rect.unit (s := S896x128) (k0_off1 k) S16x128.size (k0_off1_inb k)).toLoadRect X_arg5)
          (arg4.view.readAt (Elt F) (Rect.unit (s := S896x128) (k0_off2 k) S16x1.size (k0_off2_inb k)).toLoadRect X_arg4)
          (arg3.view.readAt (Elt F) (Rect.unit (s := S896x128) (k0_off3 k) S16x1.size (k0_off3_inb k)).toLoadRect X_arg3)
          (arg3.view.readAt (Elt F) (Rect.unit (s := S896x128) (k0_off4 k) S16x1.size (k0_off4_inb k)).toLoadRect X_arg3)
          (arg2.view.readAt (Elt F) (Rect.unit (s := S896x2048) (k0_off8 k) S16x128.size (k0_off8_inb k)).toLoadRect X_arg2)⟩ : View.Piece (Elt F) S896x2048 .bf16),
        (⟨Rect.unit (s := S896x2048) (k0_off7 k) S16x128.size (k0_off7_inb k), qrow (BitVec.ofNat 32 (2 * 128)) v0 v17 v36 v39 v43
          (arg5.view.readAt (Elt F) (Rect.unit (s := S896x128) (k0_off1 k) S16x128.size (k0_off1_inb k)).toLoadRect X_arg5)
          (arg4.view.readAt (Elt F) (Rect.unit (s := S896x128) (k0_off2 k) S16x1.size (k0_off2_inb k)).toLoadRect X_arg4)
          (arg3.view.readAt (Elt F) (Rect.unit (s := S896x128) (k0_off3 k) S16x1.size (k0_off3_inb k)).toLoadRect X_arg3)
          (arg3.view.readAt (Elt F) (Rect.unit (s := S896x128) (k0_off4 k) S16x1.size (k0_off4_inb k)).toLoadRect X_arg3)
          (arg2.view.readAt (Elt F) (Rect.unit (s := S896x2048) (k0_off7 k) S16x128.size (k0_off7_inb k)).toLoadRect X_arg2)⟩ : View.Piece (Elt F) S896x2048 .bf16),
        (⟨Rect.unit (s := S896x2048) (k0_off6 k) S16x128.size (k0_off6_inb k), qrow (BitVec.ofNat 32 (1 * 128)) v0 v17 v36 v39 v43
          (arg5.view.readAt (Elt F) (Rect.unit (s := S896x128) (k0_off1 k) S16x128.size (k0_off1_inb k)).toLoadRect X_arg5)
          (arg4.view.readAt (Elt F) (Rect.unit (s := S896x128) (k0_off2 k) S16x1.size (k0_off2_inb k)).toLoadRect X_arg4)
          (arg3.view.readAt (Elt F) (Rect.unit (s := S896x128) (k0_off3 k) S16x1.size (k0_off3_inb k)).toLoadRect X_arg3)
          (arg3.view.readAt (Elt F) (Rect.unit (s := S896x128) (k0_off4 k) S16x1.size (k0_off4_inb k)).toLoadRect X_arg3)
          (arg2.view.readAt (Elt F) (Rect.unit (s := S896x2048) (k0_off6 k) S16x128.size (k0_off6_inb k)).toLoadRect X_arg2)⟩ : View.Piece (Elt F) S896x2048 .bf16),
        (⟨Rect.unit (s := S896x2048) (k0_off5 k) S16x128.size (k0_off5_inb k), qrow (BitVec.ofNat 32 (0 * 128)) v0 v17 v36 v39 v43
          (arg5.view.readAt (Elt F) (Rect.unit (s := S896x128) (k0_off1 k) S16x128.size (k0_off1_inb k)).toLoadRect X_arg5)
          (arg4.view.readAt (Elt F) (Rect.unit (s := S896x128) (k0_off2 k) S16x1.size (k0_off2_inb k)).toLoadRect X_arg4)
          (arg3.view.readAt (Elt F) (Rect.unit (s := S896x128) (k0_off3 k) S16x1.size (k0_off3_inb k)).toLoadRect X_arg3)
          (arg3.view.readAt (Elt F) (Rect.unit (s := S896x128) (k0_off4 k) S16x1.size (k0_off4_inb k)).toLoadRect X_arg3)
          (arg2.view.readAt (Elt F) (Rect.unit (s := S896x2048) (k0_off5 k) S16x128.size (k0_off5_inb k)).toLoadRect X_arg2)⟩ : View.Piece (Elt F) S896x2048 .bf16)] := by
  unfold tripL_k0_t1 trip_k0_t1
  rfl

/-- Every store of the row loop over column block 0 writes the tile's values. -/
theorem pieces1 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (arg1 v0 v17 v36 v38 v39 : BitVec 32) (v43 : IVec S16x128 32) (x0 : Vec F S896x2048 .f32) (x1 x2 x3 : Vec F S896x128 .f32) :
    ∀ m : ℕ, m ≤ k0_t1_loop.trips → ∀ p ∈ pb_k0_t1 (F := F) 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) m, ∀ x : p.1.shape.Idx,
      p.2 x = qv v0 v17 v36 v39 v43 x0 x1 x2 x3 (p.1.emb x)
  | 0, _, p, hp, _ => absurd hp (by rw [pb_k0_t1.eq_1]; exact List.not_mem_nil)
  | m + 1, hm, p, hp, x => by
    have h := pb_k0_t1_succ (F := F) 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) ⟨m, hm⟩
    rw [h] at hp
    rcases List.mem_append.mp hp with hp | hp
    · rw [tripL1] at hp
      simp only [List.mem_cons, List.not_mem_nil, or_false] at hp
      have r0 := harg2.read_unread x0
      have r1 := harg3.read_unread x1
      have r2 := harg4.read_unread x2
      have r3 := harg5.read_unread x3
      rcases hp with rfl | rfl | rfl | rfl
      · have e := qv_emb v0 v17 v36 v39 v43 x0 x1 x2 x3 m 3 (by decide) _ _ _ _ _ (off8_eq ⟨m, hm⟩) (off1_eq ⟨m, hm⟩)
          (off2_eq ⟨m, hm⟩) (off3_eq ⟨m, hm⟩) (off4_eq ⟨m, hm⟩) (k0_off8_inb ⟨m, hm⟩) (k0_off1_inb ⟨m, hm⟩) (k0_off2_inb ⟨m, hm⟩)
          (k0_off3_inb ⟨m, hm⟩) (k0_off4_inb ⟨m, hm⟩) x
        refine Eq.trans ?_ e
        conv_rhs => rw [← r0, ← r1, ← r2, ← r3]
        rfl
      · have e := qv_emb v0 v17 v36 v39 v43 x0 x1 x2 x3 m 2 (by decide) _ _ _ _ _ (off7_eq ⟨m, hm⟩) (off1_eq ⟨m, hm⟩)
          (off2_eq ⟨m, hm⟩) (off3_eq ⟨m, hm⟩) (off4_eq ⟨m, hm⟩) (k0_off7_inb ⟨m, hm⟩) (k0_off1_inb ⟨m, hm⟩) (k0_off2_inb ⟨m, hm⟩)
          (k0_off3_inb ⟨m, hm⟩) (k0_off4_inb ⟨m, hm⟩) x
        refine Eq.trans ?_ e
        conv_rhs => rw [← r0, ← r1, ← r2, ← r3]
        rfl
      · have e := qv_emb v0 v17 v36 v39 v43 x0 x1 x2 x3 m 1 (by decide) _ _ _ _ _ (off6_eq ⟨m, hm⟩) (off1_eq ⟨m, hm⟩)
          (off2_eq ⟨m, hm⟩) (off3_eq ⟨m, hm⟩) (off4_eq ⟨m, hm⟩) (k0_off6_inb ⟨m, hm⟩) (k0_off1_inb ⟨m, hm⟩) (k0_off2_inb ⟨m, hm⟩)
          (k0_off3_inb ⟨m, hm⟩) (k0_off4_inb ⟨m, hm⟩) x
        refine Eq.trans ?_ e
        conv_rhs => rw [← r0, ← r1, ← r2, ← r3]
        rfl
      · have e := qv_emb v0 v17 v36 v39 v43 x0 x1 x2 x3 m 0 (by decide) _ _ _ _ _ (off5_eq ⟨m, hm⟩) (off1_eq ⟨m, hm⟩)
          (off2_eq ⟨m, hm⟩) (off3_eq ⟨m, hm⟩) (off4_eq ⟨m, hm⟩) (k0_off5_inb ⟨m, hm⟩) (k0_off1_inb ⟨m, hm⟩) (k0_off2_inb ⟨m, hm⟩)
          (k0_off3_inb ⟨m, hm⟩) (k0_off4_inb ⟨m, hm⟩) x
        refine Eq.trans ?_ e
        conv_rhs => rw [← r0, ← r1, ← r2, ← r3]
        rfl
    · exact pieces1 𝒱 c bd i arg2 harg2 arg3 harg3 arg4 harg4 arg5 harg5 arg6 harg6 arg7 harg7 arg8 harg8 arg9 harg9 arg10 harg10 arg1 v0 v17 v36 v38 v39 v43 x0 x1 x2 x3 m (Nat.le_of_succ_le hm) p hp x

/-- The store of trip `k` is among those of the first `m` trips. -/
theorem mem_pb1 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (arg1 v0 v17 v36 v38 v39 : BitVec 32) (v43 : IVec S16x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
    (p : View.Piece (Elt F) S896x2048 .bf16) (hp : p ∈ tripL_k0_t1 (F := F) 𝒱 c bd i arg2 harg2 arg3 harg3 arg4 harg4 arg5 harg5 arg6 harg6 arg7 harg7 arg8 harg8 arg9 harg9 arg10 harg10 arg1 v0 v17 v36 v38 v39 v43 X_arg2 X_arg3 X_arg4 X_arg5 k) :
    ∀ m : ℕ, k.val < m → m ≤ k0_t1_loop.trips → p ∈ pb_k0_t1 (F := F) 𝒱 c bd i arg2 harg2 arg3 harg3 arg4 harg4 arg5 harg5 arg6 harg6 arg7 harg7 arg8 harg8 arg9 harg9 arg10 harg10 arg1 v0 v17 v36 v38 v39 v43 X_arg2 X_arg3 X_arg4 X_arg5 m
  | 0, h, _ => absurd h (Nat.not_lt_zero _)
  | m + 1, h, hm => by
    have e := pb_k0_t1_succ (F := F) 𝒱 c bd i arg2 harg2 arg3 harg3 arg4 harg4 arg5 harg5 arg6 harg6 arg7 harg7 arg8 harg8 arg9 harg9 arg10 harg10 arg1 v0 v17 v36 v38 v39 v43 X_arg2 X_arg3 X_arg4 X_arg5 ⟨m, hm⟩
    rw [e]
    rcases Nat.lt_succ_iff_lt_or_eq.mp h with h | h
    · exact List.mem_append.mpr (Or.inr (mem_pb1 𝒱 c bd i arg2 harg2 arg3 harg3 arg4 harg4 arg5 harg5 arg6 harg6 arg7 harg7 arg8 harg8 arg9 harg9 arg10 harg10 arg1 v0 v17 v36 v38 v39 v43 X_arg2 X_arg3 X_arg4 X_arg5 k p hp m h (Nat.le_of_succ_le hm)))
    · refine List.mem_append.mpr (Or.inl ?_)
      have hk : k = ⟨m, hm⟩ := Fin.ext h
      rw [← hk]; exact hp

/-- What column block 0 of the tile reads after its row loop: the tile's values. -/
theorem rd1 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (arg1 v0 v17 v36 v38 v39 : BitVec 32) (v43 : IVec S16x128 32) (x0 : Vec F S896x2048 .f32) (x1 x2 x3 : Vec F S896x128 .f32)
    (F0 : arg10.view.ty.Contents (Elt F)) (L0 : List (View.Piece (Elt F) S896x2048 .bf16)) :
    arg10.view.readAt (Elt F) (Rect.unit (s := S896x2048) ![0, 0] S896x512.size inb_S896x2048_S896x512_0_0).toLoadRect
      (arg10.view.writes (Elt F) F0 (pb_k0_t1 (F := F) 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) (Scf.trips k0_t1_loop.lb k0_t1_loop.ub k0_t1_loop.st) ++ L0))
      = fun j => qv v0 v17 v36 v39 v43 x0 x1 x2 x3 ((Rect.unit (s := S896x2048) ![0, 0] S896x512.size inb_S896x2048_S896x512_0_0).toLoadRect.idx j) := by
  have : ∀ e, Nonempty (Elt F e) := fun e => inferInstance
  funext j
  have hj0 : (j 0).val < 896 := (j 0).isLt
  have hj1 : (j 1).val < 512 := (j 1).isLt
  set y := (Rect.unit (s := S896x2048) ![0, 0] S896x512.size inb_S896x2048_S896x512_0_0).toLoadRect.idx j with hy
  have y0 : (y 0).val = (j 0).val := (show 0 + 1 * (j 0).val = _ by omega)
  have y1 : (y 1).val = 0 + (j 1).val := (show 0 + 1 * (j 1).val = _ by omega)
  have hT : k0_t1_loop.trips = 56 := by decide +kernel
  have hcov : ∃ p ∈ pb_k0_t1 (F := F) 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) k0_t1_loop.trips, y ∈ p.1.set := by
    have hk : (y 0).val / 16 < k0_t1_loop.trips := by omega
    have hq : (y 1).val / 128 = 0 ∨ (y 1).val / 128 = 1 ∨ (y 1).val / 128 = 2 ∨ (y 1).val / 128 = 3 := by omega
    have tl := tripL1 (F := F) 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) ⟨_, hk⟩
    rcases hq with hq | hq | hq | hq
    · refine ⟨_, mem_pb1 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) ⟨_, hk⟩ _ (by rw [tl]; exact List.mem_cons_of_mem _ (List.mem_cons_of_mem _ (List.mem_cons_of_mem _ (List.mem_cons_self)))) _ hk le_rfl, ?_⟩
      exact mem_group _ 0 _ (off5_eq ⟨_, hk⟩) (k0_off5_inb ⟨_, hk⟩) y rfl hq
    · refine ⟨_, mem_pb1 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) ⟨_, hk⟩ _ (by rw [tl]; exact List.mem_cons_of_mem _ (List.mem_cons_of_mem _ (List.mem_cons_self))) _ hk le_rfl, ?_⟩
      exact mem_group _ 1 _ (off6_eq ⟨_, hk⟩) (k0_off6_inb ⟨_, hk⟩) y rfl hq
    · refine ⟨_, mem_pb1 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) ⟨_, hk⟩ _ (by rw [tl]; exact List.mem_cons_of_mem _ (List.mem_cons_self)) _ hk le_rfl, ?_⟩
      exact mem_group _ 2 _ (off7_eq ⟨_, hk⟩) (k0_off7_inb ⟨_, hk⟩) y rfl hq
    · refine ⟨_, mem_pb1 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) ⟨_, hk⟩ _ (by rw [tl]; exact List.mem_cons_self) _ hk le_rfl, ?_⟩
      exact mem_group _ 3 _ (off8_eq ⟨_, hk⟩) (k0_off8_inb ⟨_, hk⟩) y rfl hq
  rw [View.readAt_apply, View.read_writes_apply_eq_canon _ _ _ _ (by
    obtain ⟨p, hp, hpy⟩ := hcov
    exact ⟨p, List.mem_append.mpr (Or.inl hp), hpy⟩)]
  exact View.canon_append_of_pieces _ L0 _ (pieces1 𝒱 c bd i arg2 harg2 arg3 harg3 arg4 harg4 arg5 harg5 arg6 harg6 arg7 harg7 arg8 harg8 arg9 harg9 arg10 harg10 arg1 v0 v17 v36 v38 v39 v43 x0 x1 x2 x3 _ le_rfl) y hcov

/-- The same, the row loop's stores alone. -/
theorem rd1' (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (arg1 v0 v17 v36 v38 v39 : BitVec 32) (v43 : IVec S16x128 32) (x0 : Vec F S896x2048 .f32) (x1 x2 x3 : Vec F S896x128 .f32)
    (F0 : arg10.view.ty.Contents (Elt F)) :
    arg10.view.readAt (Elt F) (Rect.unit (s := S896x2048) ![0, 0] S896x512.size inb_S896x2048_S896x512_0_0).toLoadRect
      (arg10.view.writes (Elt F) F0 (pb_k0_t1 (F := F) 𝒱 c bd i arg2 harg2 arg3 harg3 arg4 harg4 arg5 harg5 arg6 harg6 arg7 harg7 arg8 harg8 arg9 harg9 arg10 harg10 arg1 v0 v17 v36 v38 v39 v43 (harg2.unread x0) (harg3.unread x1) (harg4.unread x2) (harg5.unread x3) (Scf.trips k0_t1_loop.lb k0_t1_loop.ub k0_t1_loop.st)))
      = fun j => qv v0 v17 v36 v39 v43 x0 x1 x2 x3 ((Rect.unit (s := S896x2048) ![0, 0] S896x512.size inb_S896x2048_S896x512_0_0).toLoadRect.idx j) := by
  have h := rd1 𝒱 c bd i arg2 harg2 arg3 harg3 arg4 harg4 arg5 harg5 arg6 harg6 arg7 harg7 arg8 harg8 arg9 harg9 arg10 harg10 arg1 v0 v17 v36 v38 v39 v43 x0 x1 x2 x3 F0 []
  rwa [List.append_nil] at h

end Cert.KernelIdeal.Val
end
-- ==== Proof.Tiles2.lean ====
module

public import proofs.«01_k».proof.Proof.Tiles
public import proofs.«01_k».proof.Proof.Gen.KernelIdeal.Loops
public import Idealize.ShloMosaic.Lib.Pipeline.ValueKit
public import Idealize.ShloMosaic.Lib.Pipeline.CanonAppend

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

theorem off13_eq : ∀ k : Fin k0_t2_loop.trips, k0_off13 k = ![16 * k.val, 512] := by decide +kernel

theorem off14_eq : ∀ k : Fin k0_t2_loop.trips, k0_off14 k = ![16 * k.val, 640] := by decide +kernel

theorem off15_eq : ∀ k : Fin k0_t2_loop.trips, k0_off15 k = ![16 * k.val, 768] := by decide +kernel

theorem off16_eq : ∀ k : Fin k0_t2_loop.trips, k0_off16 k = ![16 * k.val, 896] := by decide +kernel

theorem off9_eq : ∀ k : Fin k0_t2_loop.trips, k0_off9 k = ![16 * k.val, 0] := by decide +kernel

theorem off10_eq : ∀ k : Fin k0_t2_loop.trips, k0_off10 k = ![16 * k.val, 0] := by decide +kernel

theorem off11_eq : ∀ k : Fin k0_t2_loop.trips, k0_off11 k = ![16 * k.val, 2] := by decide +kernel

theorem off12_eq : ∀ k : Fin k0_t2_loop.trips, k0_off12 k = ![16 * k.val, 1] := by decide +kernel

/-- The four stores of one trip of the row loop over column block 1. -/
theorem tripL2 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t2_loop.trips) :
    tripL_k0_t2 (F := F) 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 k
      = [(⟨Rect.unit (s := S896x2048) (k0_off16 k) S16x128.size (k0_off16_inb k), qrow (BitVec.ofNat 32 (7 * 128)) v0 v17 v36 v39 v43
          (arg5.view.readAt (Elt F) (Rect.unit (s := S896x128) (k0_off9 k) S16x128.size (k0_off9_inb k)).toLoadRect X_arg5)
          (arg4.view.readAt (Elt F) (Rect.unit (s := S896x128) (k0_off10 k) S16x1.size (k0_off10_inb k)).toLoadRect X_arg4)
          (arg3.view.readAt (Elt F) (Rect.unit (s := S896x128) (k0_off11 k) S16x1.size (k0_off11_inb k)).toLoadRect X_arg3)
          (arg3.view.readAt (Elt F) (Rect.unit (s := S896x128) (k0_off12 k) S16x1.size (k0_off12_inb k)).toLoadRect X_arg3)
          (arg2.view.readAt (Elt F) (Rect.unit (s := S896x2048) (k0_off16 k) S16x128.size (k0_off16_inb k)).toLoadRect X_arg2)⟩ : View.Piece (Elt F) S896x2048 .bf16),
        (⟨Rect.unit (s := S896x2048) (k0_off15 k) S16x128.size (k0_off15_inb k), qrow (BitVec.ofNat 32 (6 * 128)) v0 v17 v36 v39 v43
          (arg5.view.readAt (Elt F) (Rect.unit (s := S896x128) (k0_off9 k) S16x128.size (k0_off9_inb k)).toLoadRect X_arg5)
          (arg4.view.readAt (Elt F) (Rect.unit (s := S896x128) (k0_off10 k) S16x1.size (k0_off10_inb k)).toLoadRect X_arg4)
          (arg3.view.readAt (Elt F) (Rect.unit (s := S896x128) (k0_off11 k) S16x1.size (k0_off11_inb k)).toLoadRect X_arg3)
          (arg3.view.readAt (Elt F) (Rect.unit (s := S896x128) (k0_off12 k) S16x1.size (k0_off12_inb k)).toLoadRect X_arg3)
          (arg2.view.readAt (Elt F) (Rect.unit (s := S896x2048) (k0_off15 k) S16x128.size (k0_off15_inb k)).toLoadRect X_arg2)⟩ : View.Piece (Elt F) S896x2048 .bf16),
        (⟨Rect.unit (s := S896x2048) (k0_off14 k) S16x128.size (k0_off14_inb k), qrow (BitVec.ofNat 32 (5 * 128)) v0 v17 v36 v39 v43
          (arg5.view.readAt (Elt F) (Rect.unit (s := S896x128) (k0_off9 k) S16x128.size (k0_off9_inb k)).toLoadRect X_arg5)
          (arg4.view.readAt (Elt F) (Rect.unit (s := S896x128) (k0_off10 k) S16x1.size (k0_off10_inb k)).toLoadRect X_arg4)
          (arg3.view.readAt (Elt F) (Rect.unit (s := S896x128) (k0_off11 k) S16x1.size (k0_off11_inb k)).toLoadRect X_arg3)
          (arg3.view.readAt (Elt F) (Rect.unit (s := S896x128) (k0_off12 k) S16x1.size (k0_off12_inb k)).toLoadRect X_arg3)
          (arg2.view.readAt (Elt F) (Rect.unit (s := S896x2048) (k0_off14 k) S16x128.size (k0_off14_inb k)).toLoadRect X_arg2)⟩ : View.Piece (Elt F) S896x2048 .bf16),
        (⟨Rect.unit (s := S896x2048) (k0_off13 k) S16x128.size (k0_off13_inb k), qrow (BitVec.ofNat 32 (4 * 128)) v0 v17 v36 v39 v43
          (arg5.view.readAt (Elt F) (Rect.unit (s := S896x128) (k0_off9 k) S16x128.size (k0_off9_inb k)).toLoadRect X_arg5)
          (arg4.view.readAt (Elt F) (Rect.unit (s := S896x128) (k0_off10 k) S16x1.size (k0_off10_inb k)).toLoadRect X_arg4)
          (arg3.view.readAt (Elt F) (Rect.unit (s := S896x128) (k0_off11 k) S16x1.size (k0_off11_inb k)).toLoadRect X_arg3)
          (arg3.view.readAt (Elt F) (Rect.unit (s := S896x128) (k0_off12 k) S16x1.size (k0_off12_inb k)).toLoadRect X_arg3)
          (arg2.view.readAt (Elt F) (Rect.unit (s := S896x2048) (k0_off13 k) S16x128.size (k0_off13_inb k)).toLoadRect X_arg2)⟩ : View.Piece (Elt F) S896x2048 .bf16)] := by
  unfold tripL_k0_t2 trip_k0_t2
  rfl

/-- Every store of the row loop over column block 1 writes the tile's values. -/
theorem pieces2 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (x0 : Vec F S896x2048 .f32) (x1 x2 x3 : Vec F S896x128 .f32) :
    ∀ m : ℕ, m ≤ k0_t2_loop.trips → ∀ p ∈ pb_k0_t2 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) m, ∀ x : p.1.shape.Idx,
      p.2 x = qv v0 v17 v36 v39 v43 x0 x1 x2 x3 (p.1.emb x)
  | 0, _, p, hp, _ => absurd hp (by rw [pb_k0_t2.eq_1]; exact List.not_mem_nil)
  | m + 1, hm, p, hp, x => by
    have h := pb_k0_t2_succ (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨m, hm⟩
    rw [h] at hp
    rcases List.mem_append.mp hp with hp | hp
    · rw [tripL2] at hp
      simp only [List.mem_cons, List.not_mem_nil, or_false] at hp
      have r0 := harg2.read_unread x0
      have r1 := harg3.read_unread x1
      have r2 := harg4.read_unread x2
      have r3 := harg5.read_unread x3
      rcases hp with rfl | rfl | rfl | rfl
      · have e := qv_emb v0 v17 v36 v39 v43 x0 x1 x2 x3 m 7 (by decide) _ _ _ _ _ (off16_eq ⟨m, hm⟩) (off9_eq ⟨m, hm⟩)
          (off10_eq ⟨m, hm⟩) (off11_eq ⟨m, hm⟩) (off12_eq ⟨m, hm⟩) (k0_off16_inb ⟨m, hm⟩) (k0_off9_inb ⟨m, hm⟩) (k0_off10_inb ⟨m, hm⟩)
          (k0_off11_inb ⟨m, hm⟩) (k0_off12_inb ⟨m, hm⟩) x
        refine Eq.trans ?_ e
        conv_rhs => rw [← r0, ← r1, ← r2, ← r3]
        rfl
      · have e := qv_emb v0 v17 v36 v39 v43 x0 x1 x2 x3 m 6 (by decide) _ _ _ _ _ (off15_eq ⟨m, hm⟩) (off9_eq ⟨m, hm⟩)
          (off10_eq ⟨m, hm⟩) (off11_eq ⟨m, hm⟩) (off12_eq ⟨m, hm⟩) (k0_off15_inb ⟨m, hm⟩) (k0_off9_inb ⟨m, hm⟩) (k0_off10_inb ⟨m, hm⟩)
          (k0_off11_inb ⟨m, hm⟩) (k0_off12_inb ⟨m, hm⟩) x
        refine Eq.trans ?_ e
        conv_rhs => rw [← r0, ← r1, ← r2, ← r3]
        rfl
      · have e := qv_emb v0 v17 v36 v39 v43 x0 x1 x2 x3 m 5 (by decide) _ _ _ _ _ (off14_eq ⟨m, hm⟩) (off9_eq ⟨m, hm⟩)
          (off10_eq ⟨m, hm⟩) (off11_eq ⟨m, hm⟩) (off12_eq ⟨m, hm⟩) (k0_off14_inb ⟨m, hm⟩) (k0_off9_inb ⟨m, hm⟩) (k0_off10_inb ⟨m, hm⟩)
          (k0_off11_inb ⟨m, hm⟩) (k0_off12_inb ⟨m, hm⟩) x
        refine Eq.trans ?_ e
        conv_rhs => rw [← r0, ← r1, ← r2, ← r3]
        rfl
      · have e := qv_emb v0 v17 v36 v39 v43 x0 x1 x2 x3 m 4 (by decide) _ _ _ _ _ (off13_eq ⟨m, hm⟩) (off9_eq ⟨m, hm⟩)
          (off10_eq ⟨m, hm⟩) (off11_eq ⟨m, hm⟩) (off12_eq ⟨m, hm⟩) (k0_off13_inb ⟨m, hm⟩) (k0_off9_inb ⟨m, hm⟩) (k0_off10_inb ⟨m, hm⟩)
          (k0_off11_inb ⟨m, hm⟩) (k0_off12_inb ⟨m, hm⟩) x
        refine Eq.trans ?_ e
        conv_rhs => rw [← r0, ← r1, ← r2, ← r3]
        rfl
    · exact pieces2 𝒱 c bd i arg2 harg2 arg3 harg3 arg4 harg4 arg5 harg5 arg6 harg6 arg7 harg7 arg8 harg8 arg9 harg9 arg10 harg10 v0 v17 v36 v39 v43 v68 v69 x0 x1 x2 x3 m (Nat.le_of_succ_le hm) p hp x

/-- The store of trip `k` is among those of the first `m` trips. -/
theorem mem_pb2 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t2_loop.trips)
    (p : View.Piece (Elt F) S896x2048 .bf16) (hp : p ∈ tripL_k0_t2 (F := F) 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 k) :
    ∀ m : ℕ, k.val < m → m ≤ k0_t2_loop.trips → p ∈ pb_k0_t2 (F := F) 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 m
  | 0, h, _ => absurd h (Nat.not_lt_zero _)
  | m + 1, h, hm => by
    have e := pb_k0_t2_succ (F := F) 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 ⟨m, hm⟩
    rw [e]
    rcases Nat.lt_succ_iff_lt_or_eq.mp h with h | h
    · exact List.mem_append.mpr (Or.inr (mem_pb2 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 k p hp m h (Nat.le_of_succ_le hm)))
    · refine List.mem_append.mpr (Or.inl ?_)
      have hk : k = ⟨m, hm⟩ := Fin.ext h
      rw [← hk]; exact hp

/-- What column block 1 of the tile reads after its row loop: the tile's values. -/
theorem rd2 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (x0 : Vec F S896x2048 .f32) (x1 x2 x3 : Vec F S896x128 .f32)
    (F0 : arg10.view.ty.Contents (Elt F)) (L0 : List (View.Piece (Elt F) S896x2048 .bf16)) :
    arg10.view.readAt (Elt F) (Rect.unit (s := S896x2048) ![0, 512] S896x512.size inb_S896x2048_S896x512_0_512).toLoadRect
      (arg10.view.writes (Elt F) F0 (pb_k0_t2 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) (Scf.trips k0_t2_loop.lb k0_t2_loop.ub k0_t2_loop.st) ++ L0))
      = fun j => qv v0 v17 v36 v39 v43 x0 x1 x2 x3 ((Rect.unit (s := S896x2048) ![0, 512] S896x512.size inb_S896x2048_S896x512_0_512).toLoadRect.idx j) := by
  have : ∀ e, Nonempty (Elt F e) := fun e => inferInstance
  funext j
  have hj0 : (j 0).val < 896 := (j 0).isLt
  have hj1 : (j 1).val < 512 := (j 1).isLt
  set y := (Rect.unit (s := S896x2048) ![0, 512] S896x512.size inb_S896x2048_S896x512_0_512).toLoadRect.idx j with hy
  have y0 : (y 0).val = (j 0).val := (show 0 + 1 * (j 0).val = _ by omega)
  have y1 : (y 1).val = 512 + (j 1).val := (show 512 + 1 * (j 1).val = _ by omega)
  have hT : k0_t2_loop.trips = 56 := by decide +kernel
  have hcov : ∃ p ∈ pb_k0_t2 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) k0_t2_loop.trips, y ∈ p.1.set := by
    have hk : (y 0).val / 16 < k0_t2_loop.trips := by omega
    have hq : (y 1).val / 128 = 4 ∨ (y 1).val / 128 = 5 ∨ (y 1).val / 128 = 6 ∨ (y 1).val / 128 = 7 := by omega
    have tl := tripL2 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩
    rcases hq with hq | hq | hq | hq
    · refine ⟨_, mem_pb2 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩ _ (by rw [tl]; exact List.mem_cons_of_mem _ (List.mem_cons_of_mem _ (List.mem_cons_of_mem _ (List.mem_cons_self)))) _ hk le_rfl, ?_⟩
      exact mem_group _ 4 _ (off13_eq ⟨_, hk⟩) (k0_off13_inb ⟨_, hk⟩) y rfl hq
    · refine ⟨_, mem_pb2 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩ _ (by rw [tl]; exact List.mem_cons_of_mem _ (List.mem_cons_of_mem _ (List.mem_cons_self))) _ hk le_rfl, ?_⟩
      exact mem_group _ 5 _ (off14_eq ⟨_, hk⟩) (k0_off14_inb ⟨_, hk⟩) y rfl hq
    · refine ⟨_, mem_pb2 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩ _ (by rw [tl]; exact List.mem_cons_of_mem _ (List.mem_cons_self)) _ hk le_rfl, ?_⟩
      exact mem_group _ 6 _ (off15_eq ⟨_, hk⟩) (k0_off15_inb ⟨_, hk⟩) y rfl hq
    · refine ⟨_, mem_pb2 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩ _ (by rw [tl]; exact List.mem_cons_self) _ hk le_rfl, ?_⟩
      exact mem_group _ 7 _ (off16_eq ⟨_, hk⟩) (k0_off16_inb ⟨_, hk⟩) y rfl hq
  rw [View.readAt_apply, View.read_writes_apply_eq_canon _ _ _ _ (by
    obtain ⟨p, hp, hpy⟩ := hcov
    exact ⟨p, List.mem_append.mpr (Or.inl hp), hpy⟩)]
  exact View.canon_append_of_pieces _ L0 _ (pieces2 𝒱 c bd i arg2 harg2 arg3 harg3 arg4 harg4 arg5 harg5 arg6 harg6 arg7 harg7 arg8 harg8 arg9 harg9 arg10 harg10 v0 v17 v36 v39 v43 v68 v69 x0 x1 x2 x3 _ le_rfl) y hcov

/-- The same, the row loop's stores alone. -/
theorem rd2' (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (x0 : Vec F S896x2048 .f32) (x1 x2 x3 : Vec F S896x128 .f32)
    (F0 : arg10.view.ty.Contents (Elt F)) :
    arg10.view.readAt (Elt F) (Rect.unit (s := S896x2048) ![0, 512] S896x512.size inb_S896x2048_S896x512_0_512).toLoadRect
      (arg10.view.writes (Elt F) F0 (pb_k0_t2 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) (Scf.trips k0_t2_loop.lb k0_t2_loop.ub k0_t2_loop.st)))
      = fun j => qv v0 v17 v36 v39 v43 x0 x1 x2 x3 ((Rect.unit (s := S896x2048) ![0, 512] S896x512.size inb_S896x2048_S896x512_0_512).toLoadRect.idx j) := by
  have h := rd2 𝒱 c bd i arg2 harg2 arg3 harg3 arg4 harg4 arg5 harg5 arg6 harg6 arg7 harg7 arg8 harg8 arg9 harg9 arg10 harg10 v0 v17 v36 v39 v43 v68 v69 x0 x1 x2 x3 F0 []
  rwa [List.append_nil] at h

end Cert.KernelIdeal.Val
end
-- ==== Proof.Tiles3.lean ====
module

public import proofs.«01_k».proof.Proof.Tiles
public import proofs.«01_k».proof.Proof.Gen.KernelIdeal.Loops
public import Idealize.ShloMosaic.Lib.Pipeline.ValueKit
public import Idealize.ShloMosaic.Lib.Pipeline.CanonAppend

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

theorem off21_eq : ∀ k : Fin k0_t3_loop.trips, k0_off21 k = ![16 * k.val, 1024] := by decide +kernel

theorem off22_eq : ∀ k : Fin k0_t3_loop.trips, k0_off22 k = ![16 * k.val, 1152] := by decide +kernel

theorem off23_eq : ∀ k : Fin k0_t3_loop.trips, k0_off23 k = ![16 * k.val, 1280] := by decide +kernel

theorem off24_eq : ∀ k : Fin k0_t3_loop.trips, k0_off24 k = ![16 * k.val, 1408] := by decide +kernel

theorem off17_eq : ∀ k : Fin k0_t3_loop.trips, k0_off17 k = ![16 * k.val, 0] := by decide +kernel

theorem off18_eq : ∀ k : Fin k0_t3_loop.trips, k0_off18 k = ![16 * k.val, 0] := by decide +kernel

theorem off19_eq : ∀ k : Fin k0_t3_loop.trips, k0_off19 k = ![16 * k.val, 2] := by decide +kernel

theorem off20_eq : ∀ k : Fin k0_t3_loop.trips, k0_off20 k = ![16 * k.val, 1] := by decide +kernel

/-- The four stores of one trip of the row loop over column block 2. -/
theorem tripL3 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t3_loop.trips) :
    tripL_k0_t3 (F := F) 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 k
      = [(⟨Rect.unit (s := S896x2048) (k0_off24 k) S16x128.size (k0_off24_inb k), qrow (BitVec.ofNat 32 (11 * 128)) v0 v17 v36 v39 v43
          (arg5.view.readAt (Elt F) (Rect.unit (s := S896x128) (k0_off17 k) S16x128.size (k0_off17_inb k)).toLoadRect X_arg5)
          (arg4.view.readAt (Elt F) (Rect.unit (s := S896x128) (k0_off18 k) S16x1.size (k0_off18_inb k)).toLoadRect X_arg4)
          (arg3.view.readAt (Elt F) (Rect.unit (s := S896x128) (k0_off19 k) S16x1.size (k0_off19_inb k)).toLoadRect X_arg3)
          (arg3.view.readAt (Elt F) (Rect.unit (s := S896x128) (k0_off20 k) S16x1.size (k0_off20_inb k)).toLoadRect X_arg3)
          (arg2.view.readAt (Elt F) (Rect.unit (s := S896x2048) (k0_off24 k) S16x128.size (k0_off24_inb k)).toLoadRect X_arg2)⟩ : View.Piece (Elt F) S896x2048 .bf16),
        (⟨Rect.unit (s := S896x2048) (k0_off23 k) S16x128.size (k0_off23_inb k), qrow (BitVec.ofNat 32 (10 * 128)) v0 v17 v36 v39 v43
          (arg5.view.readAt (Elt F) (Rect.unit (s := S896x128) (k0_off17 k) S16x128.size (k0_off17_inb k)).toLoadRect X_arg5)
          (arg4.view.readAt (Elt F) (Rect.unit (s := S896x128) (k0_off18 k) S16x1.size (k0_off18_inb k)).toLoadRect X_arg4)
          (arg3.view.readAt (Elt F) (Rect.unit (s := S896x128) (k0_off19 k) S16x1.size (k0_off19_inb k)).toLoadRect X_arg3)
          (arg3.view.readAt (Elt F) (Rect.unit (s := S896x128) (k0_off20 k) S16x1.size (k0_off20_inb k)).toLoadRect X_arg3)
          (arg2.view.readAt (Elt F) (Rect.unit (s := S896x2048) (k0_off23 k) S16x128.size (k0_off23_inb k)).toLoadRect X_arg2)⟩ : View.Piece (Elt F) S896x2048 .bf16),
        (⟨Rect.unit (s := S896x2048) (k0_off22 k) S16x128.size (k0_off22_inb k), qrow (BitVec.ofNat 32 (9 * 128)) v0 v17 v36 v39 v43
          (arg5.view.readAt (Elt F) (Rect.unit (s := S896x128) (k0_off17 k) S16x128.size (k0_off17_inb k)).toLoadRect X_arg5)
          (arg4.view.readAt (Elt F) (Rect.unit (s := S896x128) (k0_off18 k) S16x1.size (k0_off18_inb k)).toLoadRect X_arg4)
          (arg3.view.readAt (Elt F) (Rect.unit (s := S896x128) (k0_off19 k) S16x1.size (k0_off19_inb k)).toLoadRect X_arg3)
          (arg3.view.readAt (Elt F) (Rect.unit (s := S896x128) (k0_off20 k) S16x1.size (k0_off20_inb k)).toLoadRect X_arg3)
          (arg2.view.readAt (Elt F) (Rect.unit (s := S896x2048) (k0_off22 k) S16x128.size (k0_off22_inb k)).toLoadRect X_arg2)⟩ : View.Piece (Elt F) S896x2048 .bf16),
        (⟨Rect.unit (s := S896x2048) (k0_off21 k) S16x128.size (k0_off21_inb k), qrow (BitVec.ofNat 32 (8 * 128)) v0 v17 v36 v39 v43
          (arg5.view.readAt (Elt F) (Rect.unit (s := S896x128) (k0_off17 k) S16x128.size (k0_off17_inb k)).toLoadRect X_arg5)
          (arg4.view.readAt (Elt F) (Rect.unit (s := S896x128) (k0_off18 k) S16x1.size (k0_off18_inb k)).toLoadRect X_arg4)
          (arg3.view.readAt (Elt F) (Rect.unit (s := S896x128) (k0_off19 k) S16x1.size (k0_off19_inb k)).toLoadRect X_arg3)
          (arg3.view.readAt (Elt F) (Rect.unit (s := S896x128) (k0_off20 k) S16x1.size (k0_off20_inb k)).toLoadRect X_arg3)
          (arg2.view.readAt (Elt F) (Rect.unit (s := S896x2048) (k0_off21 k) S16x128.size (k0_off21_inb k)).toLoadRect X_arg2)⟩ : View.Piece (Elt F) S896x2048 .bf16)] := by
  unfold tripL_k0_t3 trip_k0_t3
  rfl

/-- Every store of the row loop over column block 2 writes the tile's values. -/
theorem pieces3 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (x0 : Vec F S896x2048 .f32) (x1 x2 x3 : Vec F S896x128 .f32) :
    ∀ m : ℕ, m ≤ k0_t3_loop.trips → ∀ p ∈ pb_k0_t3 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) m, ∀ x : p.1.shape.Idx,
      p.2 x = qv v0 v17 v36 v39 v43 x0 x1 x2 x3 (p.1.emb x)
  | 0, _, p, hp, _ => absurd hp (by rw [pb_k0_t3.eq_1]; exact List.not_mem_nil)
  | m + 1, hm, p, hp, x => by
    have h := pb_k0_t3_succ (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨m, hm⟩
    rw [h] at hp
    rcases List.mem_append.mp hp with hp | hp
    · rw [tripL3] at hp
      simp only [List.mem_cons, List.not_mem_nil, or_false] at hp
      have r0 := harg2.read_unread x0
      have r1 := harg3.read_unread x1
      have r2 := harg4.read_unread x2
      have r3 := harg5.read_unread x3
      rcases hp with rfl | rfl | rfl | rfl
      · have e := qv_emb v0 v17 v36 v39 v43 x0 x1 x2 x3 m 11 (by decide) _ _ _ _ _ (off24_eq ⟨m, hm⟩) (off17_eq ⟨m, hm⟩)
          (off18_eq ⟨m, hm⟩) (off19_eq ⟨m, hm⟩) (off20_eq ⟨m, hm⟩) (k0_off24_inb ⟨m, hm⟩) (k0_off17_inb ⟨m, hm⟩) (k0_off18_inb ⟨m, hm⟩)
          (k0_off19_inb ⟨m, hm⟩) (k0_off20_inb ⟨m, hm⟩) x
        refine Eq.trans ?_ e
        conv_rhs => rw [← r0, ← r1, ← r2, ← r3]
        rfl
      · have e := qv_emb v0 v17 v36 v39 v43 x0 x1 x2 x3 m 10 (by decide) _ _ _ _ _ (off23_eq ⟨m, hm⟩) (off17_eq ⟨m, hm⟩)
          (off18_eq ⟨m, hm⟩) (off19_eq ⟨m, hm⟩) (off20_eq ⟨m, hm⟩) (k0_off23_inb ⟨m, hm⟩) (k0_off17_inb ⟨m, hm⟩) (k0_off18_inb ⟨m, hm⟩)
          (k0_off19_inb ⟨m, hm⟩) (k0_off20_inb ⟨m, hm⟩) x
        refine Eq.trans ?_ e
        conv_rhs => rw [← r0, ← r1, ← r2, ← r3]
        rfl
      · have e := qv_emb v0 v17 v36 v39 v43 x0 x1 x2 x3 m 9 (by decide) _ _ _ _ _ (off22_eq ⟨m, hm⟩) (off17_eq ⟨m, hm⟩)
          (off18_eq ⟨m, hm⟩) (off19_eq ⟨m, hm⟩) (off20_eq ⟨m, hm⟩) (k0_off22_inb ⟨m, hm⟩) (k0_off17_inb ⟨m, hm⟩) (k0_off18_inb ⟨m, hm⟩)
          (k0_off19_inb ⟨m, hm⟩) (k0_off20_inb ⟨m, hm⟩) x
        refine Eq.trans ?_ e
        conv_rhs => rw [← r0, ← r1, ← r2, ← r3]
        rfl
      · have e := qv_emb v0 v17 v36 v39 v43 x0 x1 x2 x3 m 8 (by decide) _ _ _ _ _ (off21_eq ⟨m, hm⟩) (off17_eq ⟨m, hm⟩)
          (off18_eq ⟨m, hm⟩) (off19_eq ⟨m, hm⟩) (off20_eq ⟨m, hm⟩) (k0_off21_inb ⟨m, hm⟩) (k0_off17_inb ⟨m, hm⟩) (k0_off18_inb ⟨m, hm⟩)
          (k0_off19_inb ⟨m, hm⟩) (k0_off20_inb ⟨m, hm⟩) x
        refine Eq.trans ?_ e
        conv_rhs => rw [← r0, ← r1, ← r2, ← r3]
        rfl
    · exact pieces3 𝒱 c bd i arg2 harg2 arg3 harg3 arg4 harg4 arg5 harg5 arg6 harg6 arg7 harg7 arg8 harg8 arg9 harg9 arg10 harg10 v0 v17 v36 v39 v43 v68 v69 x0 x1 x2 x3 m (Nat.le_of_succ_le hm) p hp x

/-- The store of trip `k` is among those of the first `m` trips. -/
theorem mem_pb3 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t3_loop.trips)
    (p : View.Piece (Elt F) S896x2048 .bf16) (hp : p ∈ tripL_k0_t3 (F := F) 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 k) :
    ∀ m : ℕ, k.val < m → m ≤ k0_t3_loop.trips → p ∈ pb_k0_t3 (F := F) 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 m
  | 0, h, _ => absurd h (Nat.not_lt_zero _)
  | m + 1, h, hm => by
    have e := pb_k0_t3_succ (F := F) 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 ⟨m, hm⟩
    rw [e]
    rcases Nat.lt_succ_iff_lt_or_eq.mp h with h | h
    · exact List.mem_append.mpr (Or.inr (mem_pb3 𝒱 c bd i arg2 harg2 arg3 harg3 arg4 harg4 arg5 harg5 arg6 harg6 arg7 harg7 arg8 harg8 arg9 harg9 arg10 harg10 v0 v17 v36 v39 v43 v68 v69 X_arg2 X_arg3 X_arg4 X_arg5 k p hp m h (Nat.le_of_succ_le hm)))
    · refine List.mem_append.mpr (Or.inl ?_)
      have hk : k = ⟨m, hm⟩ := Fin.ext h
      rw [← hk]; exact hp

/-- What column block 2 of the tile reads after its row loop: the tile's values. -/
theorem rd3 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (x0 : Vec F S896x2048 .f32) (x1 x2 x3 : Vec F S896x128 .f32)
    (F0 : arg10.view.ty.Contents (Elt F)) (L0 : List (View.Piece (Elt F) S896x2048 .bf16)) :
    arg10.view.readAt (Elt F) (Rect.unit (s := S896x2048) ![0, 1024] S896x512.size inb_S896x2048_S896x512_0_1024).toLoadRect
      (arg10.view.writes (Elt F) F0 (pb_k0_t3 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) (Scf.trips k0_t3_loop.lb k0_t3_loop.ub k0_t3_loop.st) ++ L0))
      = fun j => qv v0 v17 v36 v39 v43 x0 x1 x2 x3 ((Rect.unit (s := S896x2048) ![0, 1024] S896x512.size inb_S896x2048_S896x512_0_1024).toLoadRect.idx j) := by
  have : ∀ e, Nonempty (Elt F e) := fun e => inferInstance
  funext j
  have hj0 : (j 0).val < 896 := (j 0).isLt
  have hj1 : (j 1).val < 512 := (j 1).isLt
  set y := (Rect.unit (s := S896x2048) ![0, 1024] S896x512.size inb_S896x2048_S896x512_0_1024).toLoadRect.idx j with hy
  have y0 : (y 0).val = (j 0).val := (show 0 + 1 * (j 0).val = _ by omega)
  have y1 : (y 1).val = 1024 + (j 1).val := (show 1024 + 1 * (j 1).val = _ by omega)
  have hT : k0_t3_loop.trips = 56 := by decide +kernel
  have hcov : ∃ p ∈ pb_k0_t3 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) k0_t3_loop.trips, y ∈ p.1.set := by
    have hk : (y 0).val / 16 < k0_t3_loop.trips := by omega
    have hq : (y 1).val / 128 = 8 ∨ (y 1).val / 128 = 9 ∨ (y 1).val / 128 = 10 ∨ (y 1).val / 128 = 11 := by omega
    have tl := tripL3 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩
    rcases hq with hq | hq | hq | hq
    · refine ⟨_, mem_pb3 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩ _ (by rw [tl]; exact List.mem_cons_of_mem _ (List.mem_cons_of_mem _ (List.mem_cons_of_mem _ (List.mem_cons_self)))) _ hk le_rfl, ?_⟩
      exact mem_group _ 8 _ (off21_eq ⟨_, hk⟩) (k0_off21_inb ⟨_, hk⟩) y rfl hq
    · refine ⟨_, mem_pb3 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩ _ (by rw [tl]; exact List.mem_cons_of_mem _ (List.mem_cons_of_mem _ (List.mem_cons_self))) _ hk le_rfl, ?_⟩
      exact mem_group _ 9 _ (off22_eq ⟨_, hk⟩) (k0_off22_inb ⟨_, hk⟩) y rfl hq
    · refine ⟨_, mem_pb3 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩ _ (by rw [tl]; exact List.mem_cons_of_mem _ (List.mem_cons_self)) _ hk le_rfl, ?_⟩
      exact mem_group _ 10 _ (off23_eq ⟨_, hk⟩) (k0_off23_inb ⟨_, hk⟩) y rfl hq
    · refine ⟨_, mem_pb3 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) ⟨_, hk⟩ _ (by rw [tl]; exact List.mem_cons_self) _ hk le_rfl, ?_⟩
      exact mem_group _ 11 _ (off24_eq ⟨_, hk⟩) (k0_off24_inb ⟨_, hk⟩) y rfl hq
  rw [View.readAt_apply, View.read_writes_apply_eq_canon _ _ _ _ (by
    obtain ⟨p, hp, hpy⟩ := hcov
    exact ⟨p, List.mem_append.mpr (Or.inl hp), hpy⟩)]
  exact View.canon_append_of_pieces _ L0 _ (pieces3 𝒱 c bd i arg2 harg2 arg3 harg3 arg4 harg4 arg5 harg5 arg6 harg6 arg7 harg7 arg8 harg8 arg9 harg9 arg10 harg10 v0 v17 v36 v39 v43 v68 v69 x0 x1 x2 x3 _ le_rfl) y hcov

/-- The same, the row loop's stores alone. -/
theorem rd3' (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (v68 : FVec F S32x64x512 .bf16) (v69 : FVec F S32x1x512 .bf16) (x0 : Vec F S896x2048 .f32) (x1 x2 x3 : Vec F S896x128 .f32)
    (F0 : arg10.view.ty.Contents (Elt F)) :
    arg10.view.readAt (Elt F) (Rect.unit (s := S896x2048) ![0, 1024] S896x512.size inb_S896x2048_S896x512_0_1024).toLoadRect
      (arg10.view.writes (Elt F) F0 (pb_k0_t3 (F := F) 𝒱 c bd i arg2 harg2 arg3 harg3 arg4 harg4 arg5 harg5 arg6 harg6 arg7 harg7 arg8 harg8 arg9 harg9 arg10 harg10 v0 v17 v36 v39 v43 v68 v69 (harg2.unread x0) (harg3.unread x1) (harg4.unread x2) (harg5.unread x3) (Scf.trips k0_t3_loop.lb k0_t3_loop.ub k0_t3_loop.st)))
      = fun j => qv v0 v17 v36 v39 v43 x0 x1 x2 x3 ((Rect.unit (s := S896x2048) ![0, 1024] S896x512.size inb_S896x2048_S896x512_0_1024).toLoadRect.idx j) := by
  have h := rd3 𝒱 c bd i arg2 harg2 arg3 harg3 arg4 harg4 arg5 harg5 arg6 harg6 arg7 harg7 arg8 harg8 arg9 harg9 arg10 harg10 v0 v17 v36 v39 v43 v68 v69 x0 x1 x2 x3 F0 []
  rwa [List.append_nil] at h

end Cert.KernelIdeal.Val
end
-- ==== Proof.Tiles4.lean ====
module

public import proofs.«01_k».proof.Proof.Tiles
public import proofs.«01_k».proof.Proof.Gen.KernelIdeal.Loops
public import Idealize.ShloMosaic.Lib.Pipeline.ValueKit
public import Idealize.ShloMosaic.Lib.Pipeline.CanonAppend

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

theorem off29_eq : ∀ k : Fin k0_t4_loop.trips, k0_off29 k = ![16 * k.val, 1536] := by decide +kernel

theorem off30_eq : ∀ k : Fin k0_t4_loop.trips, k0_off30 k = ![16 * k.val, 1664] := by decide +kernel

theorem off31_eq : ∀ k : Fin k0_t4_loop.trips, k0_off31 k = ![16 * k.val, 1792] := by decide +kernel

theorem off32_eq : ∀ k : Fin k0_t4_loop.trips, k0_off32 k = ![16 * k.val, 1920] := by decide +kernel

theorem off25_eq : ∀ k : Fin k0_t4_loop.trips, k0_off25 k = ![16 * k.val, 0] := by decide +kernel

theorem off26_eq : ∀ k : Fin k0_t4_loop.trips, k0_off26 k = ![16 * k.val, 0] := by decide +kernel

theorem off27_eq : ∀ k : Fin k0_t4_loop.trips, k0_off27 k = ![16 * k.val, 2] := by decide +kernel

theorem off28_eq : ∀ k : Fin k0_t4_loop.trips, k0_off28 k = ![16 * k.val, 1] := by decide +kernel

/-- The four stores of one trip of the row loop over column block 3. -/
theorem tripL4 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t4_loop.trips) :
    tripL_k0_t4 (F := F) 𝒱 c bd i arg2 harg2 arg3 harg3 arg4 harg4 arg5 harg5 arg6 harg6 arg7 harg7 arg8 harg8 arg9 harg9 arg10 harg10 v0 v17 v36 v39 v43 X_arg2 X_arg3 X_arg4 X_arg5 k
      = [(⟨Rect.unit (s := S896x2048) (k0_off32 k) S16x128.size (k0_off32_inb k), qrow (BitVec.ofNat 32 (15 * 128)) v0 v17 v36 v39 v43
          (arg5.view.readAt (Elt F) (Rect.unit (s := S896x128) (k0_off25 k) S16x128.size (k0_off25_inb k)).toLoadRect X_arg5)
          (arg4.view.readAt (Elt F) (Rect.unit (s := S896x128) (k0_off26 k) S16x1.size (k0_off26_inb k)).toLoadRect X_arg4)
          (arg3.view.readAt (Elt F) (Rect.unit (s := S896x128) (k0_off27 k) S16x1.size (k0_off27_inb k)).toLoadRect X_arg3)
          (arg3.view.readAt (Elt F) (Rect.unit (s := S896x128) (k0_off28 k) S16x1.size (k0_off28_inb k)).toLoadRect X_arg3)
          (arg2.view.readAt (Elt F) (Rect.unit (s := S896x2048) (k0_off32 k) S16x128.size (k0_off32_inb k)).toLoadRect X_arg2)⟩ : View.Piece (Elt F) S896x2048 .bf16),
        (⟨Rect.unit (s := S896x2048) (k0_off31 k) S16x128.size (k0_off31_inb k), qrow (BitVec.ofNat 32 (14 * 128)) v0 v17 v36 v39 v43
          (arg5.view.readAt (Elt F) (Rect.unit (s := S896x128) (k0_off25 k) S16x128.size (k0_off25_inb k)).toLoadRect X_arg5)
          (arg4.view.readAt (Elt F) (Rect.unit (s := S896x128) (k0_off26 k) S16x1.size (k0_off26_inb k)).toLoadRect X_arg4)
          (arg3.view.readAt (Elt F) (Rect.unit (s := S896x128) (k0_off27 k) S16x1.size (k0_off27_inb k)).toLoadRect X_arg3)
          (arg3.view.readAt (Elt F) (Rect.unit (s := S896x128) (k0_off28 k) S16x1.size (k0_off28_inb k)).toLoadRect X_arg3)
          (arg2.view.readAt (Elt F) (Rect.unit (s := S896x2048) (k0_off31 k) S16x128.size (k0_off31_inb k)).toLoadRect X_arg2)⟩ : View.Piece (Elt F) S896x2048 .bf16),
        (⟨Rect.unit (s := S896x2048) (k0_off30 k) S16x128.size (k0_off30_inb k), qrow (BitVec.ofNat 32 (13 * 128)) v0 v17 v36 v39 v43
          (arg5.view.readAt (Elt F) (Rect.unit (s := S896x128) (k0_off25 k) S16x128.size (k0_off25_inb k)).toLoadRect X_arg5)
          (arg4.view.readAt (Elt F) (Rect.unit (s := S896x128) (k0_off26 k) S16x1.size (k0_off26_inb k)).toLoadRect X_arg4)
          (arg3.view.readAt (Elt F) (Rect.unit (s := S896x128) (k0_off27 k) S16x1.size (k0_off27_inb k)).toLoadRect X_arg3)
          (arg3.view.readAt (Elt F) (Rect.unit (s := S896x128) (k0_off28 k) S16x1.size (k0_off28_inb k)).toLoadRect X_arg3)
          (arg2.view.readAt (Elt F) (Rect.unit (s := S896x2048) (k0_off30 k) S16x128.size (k0_off30_inb k)).toLoadRect X_arg2)⟩ : View.Piece (Elt F) S896x2048 .bf16),
        (⟨Rect.unit (s := S896x2048) (k0_off29 k) S16x128.size (k0_off29_inb k), qrow (BitVec.ofNat 32 (12 * 128)) v0 v17 v36 v39 v43
          (arg5.view.readAt (Elt F) (Rect.unit (s := S896x128) (k0_off25 k) S16x128.size (k0_off25_inb k)).toLoadRect X_arg5)
          (arg4.view.readAt (Elt F) (Rect.unit (s := S896x128) (k0_off26 k) S16x1.size (k0_off26_inb k)).toLoadRect X_arg4)
          (arg3.view.readAt (Elt F) (Rect.unit (s := S896x128) (k0_off27 k) S16x1.size (k0_off27_inb k)).toLoadRect X_arg3)
          (arg3.view.readAt (Elt F) (Rect.unit (s := S896x128) (k0_off28 k) S16x1.size (k0_off28_inb k)).toLoadRect X_arg3)
          (arg2.view.readAt (Elt F) (Rect.unit (s := S896x2048) (k0_off29 k) S16x128.size (k0_off29_inb k)).toLoadRect X_arg2)⟩ : View.Piece (Elt F) S896x2048 .bf16)] := by
  unfold tripL_k0_t4 trip_k0_t4
  rfl

/-- Every store of the row loop over column block 3 writes the tile's values. -/
theorem pieces4 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (x0 : Vec F S896x2048 .f32) (x1 x2 x3 : Vec F S896x128 .f32) :
    ∀ m : ℕ, m ≤ k0_t4_loop.trips → ∀ p ∈ pb_k0_t4 (F := F) 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) m, ∀ x : p.1.shape.Idx,
      p.2 x = qv v0 v17 v36 v39 v43 x0 x1 x2 x3 (p.1.emb x)
  | 0, _, p, hp, _ => absurd hp (by rw [pb_k0_t4.eq_1]; exact List.not_mem_nil)
  | m + 1, hm, p, hp, x => by
    have h := pb_k0_t4_succ (F := F) 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) ⟨m, hm⟩
    rw [h] at hp
    rcases List.mem_append.mp hp with hp | hp
    · rw [tripL4] at hp
      simp only [List.mem_cons, List.not_mem_nil, or_false] at hp
      have r0 := harg2.read_unread x0
      have r1 := harg3.read_unread x1
      have r2 := harg4.read_unread x2
      have r3 := harg5.read_unread x3
      rcases hp with rfl | rfl | rfl | rfl
      · have e := qv_emb v0 v17 v36 v39 v43 x0 x1 x2 x3 m 15 (by decide) _ _ _ _ _ (off32_eq ⟨m, hm⟩) (off25_eq ⟨m, hm⟩)
          (off26_eq ⟨m, hm⟩) (off27_eq ⟨m, hm⟩) (off28_eq ⟨m, hm⟩) (k0_off32_inb ⟨m, hm⟩) (k0_off25_inb ⟨m, hm⟩) (k0_off26_inb ⟨m, hm⟩)
          (k0_off27_inb ⟨m, hm⟩) (k0_off28_inb ⟨m, hm⟩) x
        refine Eq.trans ?_ e
        conv_rhs => rw [← r0, ← r1, ← r2, ← r3]
        rfl
      · have e := qv_emb v0 v17 v36 v39 v43 x0 x1 x2 x3 m 14 (by decide) _ _ _ _ _ (off31_eq ⟨m, hm⟩) (off25_eq ⟨m, hm⟩)
          (off26_eq ⟨m, hm⟩) (off27_eq ⟨m, hm⟩) (off28_eq ⟨m, hm⟩) (k0_off31_inb ⟨m, hm⟩) (k0_off25_inb ⟨m, hm⟩) (k0_off26_inb ⟨m, hm⟩)
          (k0_off27_inb ⟨m, hm⟩) (k0_off28_inb ⟨m, hm⟩) x
        refine Eq.trans ?_ e
        conv_rhs => rw [← r0, ← r1, ← r2, ← r3]
        rfl
      · have e := qv_emb v0 v17 v36 v39 v43 x0 x1 x2 x3 m 13 (by decide) _ _ _ _ _ (off30_eq ⟨m, hm⟩) (off25_eq ⟨m, hm⟩)
          (off26_eq ⟨m, hm⟩) (off27_eq ⟨m, hm⟩) (off28_eq ⟨m, hm⟩) (k0_off30_inb ⟨m, hm⟩) (k0_off25_inb ⟨m, hm⟩) (k0_off26_inb ⟨m, hm⟩)
          (k0_off27_inb ⟨m, hm⟩) (k0_off28_inb ⟨m, hm⟩) x
        refine Eq.trans ?_ e
        conv_rhs => rw [← r0, ← r1, ← r2, ← r3]
        rfl
      · have e := qv_emb v0 v17 v36 v39 v43 x0 x1 x2 x3 m 12 (by decide) _ _ _ _ _ (off29_eq ⟨m, hm⟩) (off25_eq ⟨m, hm⟩)
          (off26_eq ⟨m, hm⟩) (off27_eq ⟨m, hm⟩) (off28_eq ⟨m, hm⟩) (k0_off29_inb ⟨m, hm⟩) (k0_off25_inb ⟨m, hm⟩) (k0_off26_inb ⟨m, hm⟩)
          (k0_off27_inb ⟨m, hm⟩) (k0_off28_inb ⟨m, hm⟩) x
        refine Eq.trans ?_ e
        conv_rhs => rw [← r0, ← r1, ← r2, ← r3]
        rfl
    · exact pieces4 𝒱 c bd i arg2 harg2 arg3 harg3 arg4 harg4 arg5 harg5 arg6 harg6 arg7 harg7 arg8 harg8 arg9 harg9 arg10 harg10 v0 v17 v36 v39 v43 x0 x1 x2 x3 m (Nat.le_of_succ_le hm) p hp x

/-- The store of trip `k` is among those of the first `m` trips. -/
theorem mem_pb4 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t4_loop.trips)
    (p : View.Piece (Elt F) S896x2048 .bf16) (hp : p ∈ tripL_k0_t4 (F := F) 𝒱 c bd i arg2 harg2 arg3 harg3 arg4 harg4 arg5 harg5 arg6 harg6 arg7 harg7 arg8 harg8 arg9 harg9 arg10 harg10 v0 v17 v36 v39 v43 X_arg2 X_arg3 X_arg4 X_arg5 k) :
    ∀ m : ℕ, k.val < m → m ≤ k0_t4_loop.trips → p ∈ pb_k0_t4 (F := F) 𝒱 c bd i arg2 harg2 arg3 harg3 arg4 harg4 arg5 harg5 arg6 harg6 arg7 harg7 arg8 harg8 arg9 harg9 arg10 harg10 v0 v17 v36 v39 v43 X_arg2 X_arg3 X_arg4 X_arg5 m
  | 0, h, _ => absurd h (Nat.not_lt_zero _)
  | m + 1, h, hm => by
    have e := pb_k0_t4_succ (F := F) 𝒱 c bd i arg2 harg2 arg3 harg3 arg4 harg4 arg5 harg5 arg6 harg6 arg7 harg7 arg8 harg8 arg9 harg9 arg10 harg10 v0 v17 v36 v39 v43 X_arg2 X_arg3 X_arg4 X_arg5 ⟨m, hm⟩
    rw [e]
    rcases Nat.lt_succ_iff_lt_or_eq.mp h with h | h
    · exact List.mem_append.mpr (Or.inr (mem_pb4 𝒱 c bd i arg2 harg2 arg3 harg3 arg4 harg4 arg5 harg5 arg6 harg6 arg7 harg7 arg8 harg8 arg9 harg9 arg10 harg10 v0 v17 v36 v39 v43 X_arg2 X_arg3 X_arg4 X_arg5 k p hp m h (Nat.le_of_succ_le hm)))
    · refine List.mem_append.mpr (Or.inl ?_)
      have hk : k = ⟨m, hm⟩ := Fin.ext h
      rw [← hk]; exact hp

/-- What column block 3 of the tile reads after its row loop: the tile's values. -/
theorem rd4 (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (x0 : Vec F S896x2048 .f32) (x1 x2 x3 : Vec F S896x128 .f32)
    (F0 : arg10.view.ty.Contents (Elt F)) (L0 : List (View.Piece (Elt F) S896x2048 .bf16)) :
    arg10.view.readAt (Elt F) (Rect.unit (s := S896x2048) ![0, 1536] S896x512.size inb_S896x2048_S896x512_0_1536).toLoadRect
      (arg10.view.writes (Elt F) F0 (pb_k0_t4 (F := F) 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) (Scf.trips k0_t4_loop.lb k0_t4_loop.ub k0_t4_loop.st) ++ L0))
      = fun j => qv v0 v17 v36 v39 v43 x0 x1 x2 x3 ((Rect.unit (s := S896x2048) ![0, 1536] S896x512.size inb_S896x2048_S896x512_0_1536).toLoadRect.idx j) := by
  have : ∀ e, Nonempty (Elt F e) := fun e => inferInstance
  funext j
  have hj0 : (j 0).val < 896 := (j 0).isLt
  have hj1 : (j 1).val < 512 := (j 1).isLt
  set y := (Rect.unit (s := S896x2048) ![0, 1536] S896x512.size inb_S896x2048_S896x512_0_1536).toLoadRect.idx j with hy
  have y0 : (y 0).val = (j 0).val := (show 0 + 1 * (j 0).val = _ by omega)
  have y1 : (y 1).val = 1536 + (j 1).val := (show 1536 + 1 * (j 1).val = _ by omega)
  have hT : k0_t4_loop.trips = 56 := by decide +kernel
  have hcov : ∃ p ∈ pb_k0_t4 (F := F) 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) k0_t4_loop.trips, y ∈ p.1.set := by
    have hk : (y 0).val / 16 < k0_t4_loop.trips := by omega
    have hq : (y 1).val / 128 = 12 ∨ (y 1).val / 128 = 13 ∨ (y 1).val / 128 = 14 ∨ (y 1).val / 128 = 15 := by omega
    have tl := tripL4 (F := F) 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) ⟨_, hk⟩
    rcases hq with hq | hq | hq | hq
    · refine ⟨_, mem_pb4 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) ⟨_, hk⟩ _ (by rw [tl]; exact List.mem_cons_of_mem _ (List.mem_cons_of_mem _ (List.mem_cons_of_mem _ (List.mem_cons_self)))) _ hk le_rfl, ?_⟩
      exact mem_group _ 12 _ (off29_eq ⟨_, hk⟩) (k0_off29_inb ⟨_, hk⟩) y rfl hq
    · refine ⟨_, mem_pb4 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) ⟨_, hk⟩ _ (by rw [tl]; exact List.mem_cons_of_mem _ (List.mem_cons_of_mem _ (List.mem_cons_self))) _ hk le_rfl, ?_⟩
      exact mem_group _ 13 _ (off30_eq ⟨_, hk⟩) (k0_off30_inb ⟨_, hk⟩) y rfl hq
    · refine ⟨_, mem_pb4 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) ⟨_, hk⟩ _ (by rw [tl]; exact List.mem_cons_of_mem _ (List.mem_cons_self)) _ hk le_rfl, ?_⟩
      exact mem_group _ 14 _ (off31_eq ⟨_, hk⟩) (k0_off31_inb ⟨_, hk⟩) y rfl hq
    · refine ⟨_, mem_pb4 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) ⟨_, hk⟩ _ (by rw [tl]; exact List.mem_cons_self) _ hk le_rfl, ?_⟩
      exact mem_group _ 15 _ (off32_eq ⟨_, hk⟩) (k0_off32_inb ⟨_, hk⟩) y rfl hq
  rw [View.readAt_apply, View.read_writes_apply_eq_canon _ _ _ _ (by
    obtain ⟨p, hp, hpy⟩ := hcov
    exact ⟨p, List.mem_append.mpr (Or.inl hp), hpy⟩)]
  exact View.canon_append_of_pieces _ L0 _ (pieces4 𝒱 c bd i arg2 harg2 arg3 harg3 arg4 harg4 arg5 harg5 arg6 harg6 arg7 harg7 arg8 harg8 arg9 harg9 arg10 harg10 v0 v17 v36 v39 v43 x0 x1 x2 x3 _ le_rfl) y hcov

/-- The same, the row loop's stores alone. -/
theorem rd4' (𝒱 : Variants) (c : Dev nD) (bd : Option 𝒱.V) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (v0 v17 v36 v39 : BitVec 32) (v43 : IVec S16x128 32) (x0 : Vec F S896x2048 .f32) (x1 x2 x3 : Vec F S896x128 .f32)
    (F0 : arg10.view.ty.Contents (Elt F)) :
    arg10.view.readAt (Elt F) (Rect.unit (s := S896x2048) ![0, 1536] S896x512.size inb_S896x2048_S896x512_0_1536).toLoadRect
      (arg10.view.writes (Elt F) F0 (pb_k0_t4 (F := F) 𝒱 c bd i arg2 harg2 arg3 harg3 arg4 harg4 arg5 harg5 arg6 harg6 arg7 harg7 arg8 harg8 arg9 harg9 arg10 harg10 v0 v17 v36 v39 v43 (harg2.unread x0) (harg3.unread x1) (harg4.unread x2) (harg5.unread x3) (Scf.trips k0_t4_loop.lb k0_t4_loop.ub k0_t4_loop.st)))
      = fun j => qv v0 v17 v36 v39 v43 x0 x1 x2 x3 ((Rect.unit (s := S896x2048) ![0, 1536] S896x512.size inb_S896x2048_S896x512_0_1536).toLoadRect.idx j) := by
  have h := rd4 𝒱 c bd i arg2 harg2 arg3 harg3 arg4 harg4 arg5 harg5 arg6 harg6 arg7 harg7 arg8 harg8 arg9 harg9 arg10 harg10 v0 v17 v36 v39 v43 x0 x1 x2 x3 F0 []
  rwa [List.append_nil] at h

end Cert.KernelIdeal.Val
end
-- ==== Proof.KRuns.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Gen.KernelIdeal.Points
public import proofs.«01_k».proof.Proof.Tiles1
public import proofs.«01_k».proof.Proof.Tiles2
public import proofs.«01_k».proof.Proof.Tiles3
public import proofs.«01_k».proof.Proof.Tiles4
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 49) — by arithmetic of the point. -/
theorem hcond0_0 : ∀ t : Fin cfg0.N, cond0_0 (grid0.coords t) ↔ t.val % 49 = 0 :=
  (fun t => by
    have ht : t.val < 98 := Nat.lt_of_lt_of_eq t.isLt N_0
    have e0 : (grid0.coords t 0).val = t.val / 49 % 2 := Pipeline.Grid.coords_val t 0 (by decide) rfl
    have e1 : (grid0.coords t 1).val = t.val / 1 % 49 := Pipeline.Grid.coords_val t 1 (by decide) rfl
    simp only [cond0_0, e0, e1]
    word_cmp
   : ∀ t : Fin grid0.N, cond0_0 (grid0.coords t) ↔ t.val % 49 = 0)

/-! ## The kernel body on any staging memrefs: a subtype the run finds -/

/-- One staging buffer of output window 6, through which its contents are stated (`View.read_writes_of_cover`: the
    choice does not matter). -/
abbrev VO0_6 : View sig .tc .vmem S896x2048 .f32 := (Memref.whole cc0_stg6_0 : Memref sig .tc .vmem S896x2048 .f32).view
/-- Each window's current staging memref at point `t`, spelled as the pipeline passes it (`bodyAt0`), and its wholeness. -/
abbrev ms0_0 (t : Fin cfg0.N) : Memref sig .tc .vmem S896x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S896x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S896x2048 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2048x2048 .bf16 := Memref.whole cc0_scratch0
abbrev scM0_1 : Memref sig .tc .vmem S896x2048 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Val

end
-- ==== Proof.KRunA.lean ====
module

public import proofs.«01_k».proof.Proof.KRuns

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0, 49), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (hc0 : cond0_0 i)
    (x0 : Vec F S896x2048 .f32) (x1 : Vec F S896x128 .f32) (x2 : Vec F S896x128 .f32) (x3 : Vec F S896x128 .f32) (x4 : Vec F S2048x2048 .fp8e4m3) (x5 : Vec F S32x2048 .bf16) :
    Σ' (L6 : List (View.Piece (Elt F) S896x2048 .f32)), { LT0 : List (View.Piece (Elt F) S2048x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ d, owns (c : Thread nD τ) arg10 fullShare d)) -∗ K ⟨⟩))
          ⊢ wp frame (wpE (defs₀ (F := F)) Variants.none c none) E (cc0_bwd i arg2 harg2 arg3 harg3 arg4 harg4 arg5 harg5 arg6 harg6 arg7 harg7 arg8 harg8 arg9 harg9 arg10 harg10) K } := by
  refine ⟨?_, ?_, fun E K => ?run⟩
  case run =>
    simp only [cc0_bwd_eq_skeleton]; unfold cc0_bwd_skel
    simp only [k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    have hrd1 := rd1 (F := F)
    have hrd1' := rd1' (F := F)
    have hrd2 := rd2 (F := F)
    have hrd2' := rd2' (F := F)
    have hrd3 := rd3 (F := F)
    have hrd3' := rd3' (F := F)
    have hrd4 := rd4 (F := F)
    have hrd4' := rd4' (F := F)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _, _; isplitr; swap; · iexact HS1
    ipureintro; rfl

end Cert.KernelIdeal.Val

end
-- ==== Proof.KRunB.lean ====
module

public import proofs.«01_k».proof.Proof.KRunA

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2, … 97: 96 of 98), WITH the
    proof that on whole staging memrefs — the inputs' at their contents, the outputs it reads before covering (6) at their running contents `xo·`, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (hc0 : ¬cond0_0 i)
    (x0 : Vec F S896x2048 .f32) (x1 : Vec F S896x128 .f32) (x2 : Vec F S896x128 .f32) (x3 : Vec F S896x128 .f32) (x4 : Vec F S2048x2048 .fp8e4m3) (x5 : Vec F S32x2048 .bf16) (xo6 : Vec F S896x2048 .f32) :
    Σ' (L6 : List (View.Piece (Elt F) S896x2048 .f32)), { LT0 : List (View.Piece (Elt F) S2048x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ d, owns (c : Thread nD τ) arg10 fullShare d)) -∗ K ⟨⟩))
          ⊢ wp frame (wpE (defs₀ (F := F)) Variants.none c none) E (cc0_bwd i arg2 harg2 arg3 harg3 arg4 harg4 arg5 harg5 arg6 harg6 arg7 harg7 arg8 harg8 arg9 harg9 arg10 harg10) K } := by
  refine ⟨?_, ?_, fun E K => ?run⟩
  case run =>
    simp only [cc0_bwd_eq_skeleton]; unfold cc0_bwd_skel
    simp only [k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    have hrd1 := rd1 (F := F)
    have hrd1' := rd1' (F := F)
    have hrd2 := rd2 (F := F)
    have hrd2' := rd2' (F := F)
    have hrd3 := rd3 (F := F)
    have hrd3' := rd3' (F := F)
    have hrd4 := rd4 (F := F)
    have hrd4' := rd4' (F := F)
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _, _; isplitr; swap; · iexact HS1
    ipureintro; rfl

end Cert.KernelIdeal.Val

end
-- ==== Proof.KFrame.lean ====
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Idealize.ShloMosaic Idealize.ShloMosaic.TcCoe Idealize.ShloMosaic.Tactic
open Idealize.SL Idealize.SL.RA Idealize.SL.BI
open Cert.KernelIdeal Cert.KernelIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (5 stores of `S896x2048`, checked by the kernel's evaluation: Lib/Ring.lean `Piece.tiledL`, linear in the pieces, through a loop's `@[irreducible]` trip theorem too), so they cover it. -/
theorem cover0_A_6 (c : Dev nD) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (hc0 : cond0_0 i)
    (x0 : Vec F S896x2048 .f32) (x1 : Vec F S896x128 .f32) (x2 : Vec F S896x128 .f32) (x3 : Vec F S896x128 .f32) (x4 : Vec F S2048x2048 .fp8e4m3) (x5 : Vec F S32x2048 .bf16) (y : S896x2048.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S896x2048.size (by sl_kernel_rfl) y

/-- What case A leaves in output 6's staging buffer: its pieces read back over junk. -/
def out0_A_6 (c : Dev nD) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (hc0 : cond0_0 i)
    (x0 : Vec F S896x2048 .f32) (x1 : Vec F S896x128 .f32) (x2 : Vec F S896x128 .f32) (x3 : Vec F S896x128 .f32) (x4 : Vec F S2048x2048 .fp8e4m3) (x5 : Vec F S32x2048 .bf16) : Vec F S896x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

/-- Case B's pieces for output 6 tile its block (4 stores of `S896x2048`, checked by the kernel's evaluation: Lib/Ring.lean `Piece.tiledL`, linear in the pieces, through a loop's `@[irreducible]` trip theorem too), so they cover it. -/
theorem cover0_B_6 (c : Dev nD) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (hc0 : ¬cond0_0 i)
    (x0 : Vec F S896x2048 .f32) (x1 : Vec F S896x128 .f32) (x2 : Vec F S896x128 .f32) (x3 : Vec F S896x128 .f32) (x4 : Vec F S2048x2048 .fp8e4m3) (x5 : Vec F S32x2048 .bf16) (xo6 : Vec F S896x2048 .f32) (y : S896x2048.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo6).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo6).1 S896x2048.size (by sl_kernel_rfl) y

/-- What case B leaves in output 6's staging buffer: its pieces read back over junk. -/
def out0_B_6 (c : Dev nD) (i : grid0.Coords) (arg2 : Memref sig .tc .vmem S896x2048 .f32) (harg2 : arg2.IsWhole) (arg3 : Memref sig .tc .vmem S896x128 .f32) (harg3 : arg3.IsWhole) (arg4 : Memref sig .tc .vmem S896x128 .f32) (harg4 : arg4.IsWhole) (arg5 : Memref sig .tc .vmem S896x128 .f32) (harg5 : arg5.IsWhole) (arg6 : Memref sig .tc .vmem S2048x2048 .fp8e4m3) (harg6 : arg6.IsWhole) (arg7 : Memref sig .tc .vmem S32x2048 .bf16) (harg7 : arg7.IsWhole) (arg8 : Memref sig .tc .vmem S896x2048 .f32) (harg8 : arg8.IsWhole) (arg9 : Memref sig .tc .vmem S2048x2048 .bf16) (harg9 : arg9.IsWhole) (arg10 : Memref sig .tc .vmem S896x2048 .bf16) (harg10 : arg10.IsWhole) (hc0 : ¬cond0_0 i)
    (x0 : Vec F S896x2048 .f32) (x1 : Vec F S896x128 .f32) (x2 : Vec F S896x128 .f32) (x3 : Vec F S896x128 .f32) (x4 : Vec F S2048x2048 .fp8e4m3) (x5 : Vec F S32x2048 .bf16) (xo6 : Vec F S896x2048 .f32) : Vec F S896x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo6).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S896x2048 .f32
  | 0, hn => out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 49 = 0 then
      out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 49 = 0) :
    outsAt0 m c t.val t.isLt = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 49 = 0) :
    outsAt0 m c t.val t.isLt = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 49 = 0) (d) :
    (dats m 0 c).before 6 t d = (outsAt0 m c (t.val - 1) (Nat.lt_of_le_of_lt (Nat.sub_le _ _) t.isLt)) := by
  have hN : t.val < 98 := lt_of_lt_of_eq t.isLt (show cfg0.N = 98 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  have hN : t.val < 98 := lt_of_lt_of_eq t.isLt (show cfg0.N = 98 from N_0)
  by_cases h0 : t.val % 49 = 0
  · rw [outsAt0_A m c t h0]
    unfold out0_A_6
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, ⟨%fT0, HS0⟩, HS1⟩
    isplitl [HS0 HS1 Hg]
    · isplitl [HS0 HS1]
      · isplitl [HS0]
        · iexists _; unfold owns; iexists _; isplitr
          swap; · iexact HS0
          ipureintro; rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A_6 c _ _ _ _ _ _ _ _ _ _ _ _ _ _ _ _ _ _ _ _ _ _ _ _ _ _)
  · rw [outsAt0_B m c t h0]
    simp only [before0_6_B m c t h0]
    unfold out0_B_6
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, ⟨%e6, H6⟩, ⟨%fT0, HS0⟩, HS1⟩
    isplitl [HS0 HS1 Hg]
    · isplitl [HS0 HS1]
      · isplitl [HS0]
        · iexists _; unfold owns; iexists _; isplitr
          swap; · iexact HS0
          ipureintro; rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Val

end
-- ==== Proof.KValue.lean ====
module

public import proofs.«01_k».proof.Proof.KFrame
public import Idealize.ShloMosaic.Lib.Pipeline.Value

@[expose] public section

noncomputable section

namespace Cert.KernelIdeal.Val

open Cert.KernelIdeal Cert.KernelIdeal.Gen Cert.KernelIdeal.Val Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`), read through the window's block. -/
theorem flushed6 (c : Dev nD) (t : Fin cfg0.N) :
    (dats m 0 c).flushed 6 t = (cfg0.win 6).cut (grid0.coords t) (outsAt0 m c t.val t.isLt) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 49 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 49 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt))) := by
  simp only [flushed6, outsAt0_B m c t h0]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S1792x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Val

end
-- ==== Proof.KOut.lean ====
module

public import proofs.«01_k».proof.Proof.KValue
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe Idealize.SL.Sem Cert.KernelIdeal Cert.KernelIdeal.Gen

/-! ## The words of a grid point -/

theorem word_col : ∀ j : Fin 49, Scalar.muli (BitVec.ofNat 32 j.val) 2048#32 = BitVec.ofNat 32 (j.val * 2048) := by decide +kernel

/-- The chunk the first column of a block lies in. -/
theorem word_first : ∀ j : Fin 49,
    (Scalar.select (Scalar.andi
        (Scalar.cmpi CmpIPredicate.ne (Scalar.subi (Scalar.extui (Scalar.cmpi CmpIPredicate.sgt (BitVec.ofNat 32 (j.val * 2048)) 0#32)) (Scalar.extui (Scalar.cmpi CmpIPredicate.slt (BitVec.ofNat 32 (j.val * 2048)) 0#32))) 1#32)
        (Scalar.cmpi CmpIPredicate.ne (Scalar.remsi (BitVec.ofNat 32 (j.val * 2048)) 3136#32) 0#32))
      (Scalar.subi (Scalar.divsi (BitVec.ofNat 32 (j.val * 2048)) 3136#32) 1#32) (Scalar.divsi (BitVec.ofNat 32 (j.val * 2048)) 3136#32))
      = BitVec.ofNat 32 (j.val * 2048 / 3136) := by decide +kernel

/-- The chunk the last column of a block lies in. -/
theorem word_last : ∀ j : Fin 49,
    (Scalar.select (Scalar.andi
        (Scalar.cmpi CmpIPredicate.ne (Scalar.subi (Scalar.extui (Scalar.cmpi CmpIPredicate.sgt (Scalar.subi (Scalar.addi (BitVec.ofNat 32 (j.val * 2048)) 2048#32) 1#32) 0#32)) (Scalar.extui (Scalar.cmpi CmpIPredicate.slt (Scalar.subi (Scalar.addi (BitVec.ofNat 32 (j.val * 2048)) 2048#32) 1#32) 0#32))) 1#32)
        (Scalar.cmpi CmpIPredicate.ne (Scalar.remsi (Scalar.subi (Scalar.addi (BitVec.ofNat 32 (j.val * 2048)) 2048#32) 1#32) 3136#32) 0#32))
      (Scalar.subi (Scalar.divsi (Scalar.subi (Scalar.addi (BitVec.ofNat 32 (j.val * 2048)) 2048#32) 1#32) 3136#32) 1#32) (Scalar.divsi (Scalar.subi (Scalar.addi (BitVec.ofNat 32 (j.val * 2048)) 2048#32) 1#32) 3136#32))
      = BitVec.ofNat 32 ((j.val * 2048 + 2047) / 3136) := by decide +kernel

/-- Where in the block the first chunk ends. -/
theorem word_bound : ∀ j : Fin 49, (Scalar.subi (Scalar.muli (Scalar.addi (BitVec.ofNat 32 (j.val * 2048 / 3136)) 1#32) 3136#32) (BitVec.ofNat 32 (j.val * 2048)))
      = BitVec.ofNat 32 ((j.val * 2048 / 3136 + 1) * 3136 - j.val * 2048) := by decide +kernel

/-! ## One point's contribution -/

/-- A load of exactly what was stored last. -/
theorem readCov_same {Val : EltTy → Type} [∀ e, Nonempty (Val e)] {sg : RefSig} {κ : Kind} {sp : Space} {s : Shape} {e : EltTy} (v : View sg κ sp s e)
    (r : Rect s) (w : r.shape.Idx → Val e) (L : List (View.Piece Val s e)) :
    v.readCov (⟨r, w⟩ :: L) r.toLoadRect = w := by
  funext x
  show v.read Val (v.writes Val v.junk (⟨r, w⟩ :: L)) (r.emb x) = w x
  rw [View.read_writes_apply_eq_canon v v.junk (r.emb x) (⟨r, w⟩ :: L) ⟨⟨r, w⟩, List.mem_cons_self, r.idx_mem x⟩, View.canon_cons_emb]

variable (m : (ℓ : Loc nD τ sig) → Buf (Elt Ideal) ℓ)

/-- The quantised tile of grid point `t`, over the point's input blocks. -/
def qt (j : ℕ) (x0 : Vec Ideal S896x2048 .f32) (x1 x2 x3 : Vec Ideal S896x128 .f32) : Vec Ideal S896x2048 .bf16 :=
  qv (F := Ideal) (BitVec.ofNat 32 (j * 2048)) (BitVec.ofNat 32 (j * 2048 / 3136)) (BitVec.ofNat 32 ((j * 2048 + 2047) / 3136))
    (BitVec.ofNat 32 ((j * 2048 / 3136 + 1) * 3136 - j * 2048)) (iota Kind.tc S16x128 32 [1] iota_S16x128_d1_w32) x0 x1 x2 x3

/-- One column's term of the product: the quantised element times the dequantised weight. -/
def term (j : ℕ) (x0 : Vec Ideal S896x2048 .f32) (x1 x2 x3 : Vec Ideal S896x128 .f32) (x4 : Vec Ideal S2048x2048 .fp8e4m3)
    (x5 : Vec Ideal S32x2048 .bf16) (r : Fin 896) (d : Fin 2048) (k : Fin 2048) : EReal :=
  qt j x0 x1 x2 x3 (ix2 r k) * (x4 (ix2 d k) * x5 (ix2 (n0 := 32) (n1 := 2048) ⟨d.val / 64, by have := d.isLt; omega⟩ k))

/-- The four products of a point, one after another, are one product over the block's columns. -/
theorem chain (a : Vec Ideal S896x2048 .f32) (Q : Vec Ideal S896x2048 .bf16) (x4 : Vec Ideal S2048x2048 .fp8e4m3) (x5 : Vec Ideal S32x2048 .bf16)
    (r : Fin 896) (d : Fin 2048) :
    k0_pay4 (F := Ideal) (k0_pay1 (F := Ideal) (k0_pay65 (F := Ideal) (k0_pay60 (F := Ideal) a (View.ld (Val := Elt Ideal) (e' := EltTy.bf16) Q (Rect.unit (s := S896x2048) ![0, 0] S896x512.size inb_S896x2048_S896x512_0_0)) (k0_pay58 (F := Ideal) (View.ld (Val := Elt Ideal) (e' := EltTy.fp8e4m3) x4 (Rect.unit (s := S2048x2048) ![0, 0] S2048x512.size inb_S2048x2048_S2048x512_0_0)) (View.ld (Val := Elt Ideal) (e' := EltTy.bf16) x5 (Rect.unit (s := S32x2048) ![0, 0] S32x512.size inb_S32x2048_S32x512_0_0))))
        (View.ld (Val := Elt Ideal) (e' := EltTy.bf16) Q (Rect.unit (s := S896x2048) ![0, 512] S896x512.size inb_S896x2048_S896x512_0_512)) (k0_pay63 (F := Ideal) (k0_pay61 (F := Ideal) (View.ld (Val := Elt Ideal) (e' := EltTy.fp8e4m3) x4 (Rect.unit (s := S2048x2048) ![0, 512] S2048x512.size inb_S2048x2048_S2048x512_0_512))) (k0_pay62 (F := Ideal) (View.ld (Val := Elt Ideal) (e' := EltTy.bf16) x5 (Rect.unit (s := S32x2048) ![0, 512] S32x512.size inb_S32x2048_S32x512_0_512)))))
        (View.ld (Val := Elt Ideal) (e' := EltTy.bf16) Q (Rect.unit (s := S896x2048) ![0, 1024] S896x512.size inb_S896x2048_S896x512_0_1024)) (k0_pay66 (F := Ideal) (View.ld (Val := Elt Ideal) (e' := EltTy.fp8e4m3) x4 (Rect.unit (s := S2048x2048) ![0, 1024] S2048x512.size inb_S2048x2048_S2048x512_0_1024)) (View.ld (Val := Elt Ideal) (e' := EltTy.bf16) x5 (Rect.unit (s := S32x2048) ![0, 1024] S32x512.size inb_S32x2048_S32x512_0_1024))))
        (View.ld (Val := Elt Ideal) (e' := EltTy.bf16) Q (Rect.unit (s := S896x2048) ![0, 1536] S896x512.size inb_S896x2048_S896x512_0_1536)) (k0_pay2 (F := Ideal) (View.ld (Val := Elt Ideal) (e' := EltTy.fp8e4m3) x4 (Rect.unit (s := S2048x2048) ![0, 1536] S2048x512.size inb_S2048x2048_S2048x512_0_1536)) (View.ld (Val := Elt Ideal) (e' := EltTy.bf16) x5 (Rect.unit (s := S32x2048) ![0, 1536] S32x512.size inb_S32x2048_S32x512_0_1536))) (ix2 r d)
      = a (ix2 r d) + ∑ k : Fin 2048, (show EReal from Q (ix2 r k)) * (x4 (ix2 d k) * x5 (ix2 (n0 := 32) (n1 := 2048) ⟨d.val / 64, by have := d.isLt; omega⟩ k)) := by
  pointwise [k0_pay60, k0_pay65, k0_pay58, k0_pay61, k0_pay62, k0_pay63, k0_pay66, k0_pay2, k0_pay1, k0_pay4]
  rw [Fin.sum_univ_tiles 4 512 rfl (fun k : Fin 2048 => (show EReal from Q (ix2 r k)) * (x4 (ix2 d k) * x5 (ix2 (n0 := 32) (n1 := 2048) ⟨d.val / 64, by have := d.isLt; omega⟩ k))),
    Fin.sum_univ_four]
  simp only [add_assoc]
  refine congrArg₂ (· + ·) rfl (congrArg₂ (· + ·) ?_ (congrArg₂ (· + ·) ?_ (congrArg₂ (· + ·) ?_ ?_))) <;>
    refine Finset.sum_congr rfl fun x _ => ?_
  · exact congrArg (fun k : Fin 2048 => Q (ix2 r k) * (x4 (ix2 d k) *
      x5 (ix2 ⟨d.val / 64, by omega⟩ k))) (Fin.ext (by simp))
  · exact congrArg (fun k : Fin 2048 => Q (ix2 r k) * (x4 (ix2 d k) *
      x5 (ix2 ⟨d.val / 64, by omega⟩ k))) (Fin.ext rfl)
  · exact congrArg (fun k : Fin 2048 => Q (ix2 r k) * (x4 (ix2 d k) *
      x5 (ix2 ⟨d.val / 64, by omega⟩ k))) (Fin.ext rfl)
  · exact congrArg (fun k : Fin 2048 => Q (ix2 r k) * (x4 (ix2 d k) *
      x5 (ix2 ⟨d.val / 64, by omega⟩ k))) (Fin.ext rfl)

/-- The column-block coordinate of a grid point. -/
theorem coord_col (t : Fin cfg0.N) : (grid0.coords t 1).val = t.val % 49 :=
  have e : (grid0.coords t 1).val = t.val / 1 % 49 := Pipeline.Grid.coords_val t 1 (by decide) rfl
  e.trans (by rw [Nat.div_one])

/-- What a point that is not the first of its row tile leaves: what it found, and its product. -/
theorem outB (c : Dev nD) (t : Fin cfg0.N) (h0 : ¬t.val % 49 = 0) (r : Fin 896) (d : Fin 2048) :
    outsAt0 m c t.val t.isLt (ix2 r d) = outsAt0 m c (t.val - 1) (Nat.lt_of_le_of_lt (Nat.sub_le _ _) t.isLt) (ix2 r d)
      + ∑ k : Fin 2048, term (t.val % 49) (iblk m c 0 t) (iblk m c 1 t) (iblk m c 2 t) (iblk m c 3 t) (iblk m c 4 t) (iblk m c 5 t) r d k := by
  rw [outsAt0_B m c t h0]
  frame_out
  have j1 := coord_col t
  have hj : t.val % 49 < 49 := Nat.mod_lt _ (by decide)
  have w0 := word_col ⟨_, hj⟩
  have w1 := word_first ⟨_, hj⟩
  have w2 := word_last ⟨_, hj⟩
  have w3 := word_bound ⟨_, hj⟩
  dsimp only at w0 w1 w2 w3
  simp only [j1, w0, w1, w2, w3, readCov_same]
  exact chain _ (qt (t.val % 49) (iblk m c 0 t) (iblk m c 1 t) (iblk m c 2 t) (iblk m c 3 t)) (iblk m c 4 t) (iblk m c 5 t) r d

/-- What the first point of a row tile leaves: its product. -/
theorem outA (c : Dev nD) (t : Fin cfg0.N) (h0 : t.val % 49 = 0) (r : Fin 896) (d : Fin 2048) :
    outsAt0 m c t.val t.isLt (ix2 r d) = (0 : EReal)
      + ∑ k : Fin 2048, term (t.val % 49) (iblk m c 0 t) (iblk m c 1 t) (iblk m c 2 t) (iblk m c 3 t) (iblk m c 4 t) (iblk m c 5 t) r d k := by
  rw [outsAt0_A m c t h0]
  frame_out
  have j1 := coord_col t
  have hj : t.val % 49 < 49 := Nat.mod_lt _ (by decide)
  have w0 := word_col ⟨_, hj⟩
  have w1 := word_first ⟨_, hj⟩
  have w2 := word_last ⟨_, hj⟩
  have w3 := word_bound ⟨_, hj⟩
  dsimp only at w0 w1 w2 w3
  simp only [j1, w0, w1, w2, w3, readCov_same]
  have z : (k0_pay57 (F := Ideal)) (ix2 r d) = (0 : EReal) := by pointwise [k0_pay57]
  have h := chain (k0_pay57 (F := Ideal)) (qt (t.val % 49) (iblk m c 0 t) (iblk m c 1 t) (iblk m c 2 t) (iblk m c 3 t)) (iblk m c 4 t) (iblk m c 5 t) r d
  rw [z] at h
  exact h
end Cert.KernelIdeal.Val
end
-- ==== Proof.KQuant.lean ====
module

public import proofs.«01_k».proof.Proof.KOut
public import Idealize.ShloMosaic.Lib.WordArith

@[expose] public section

set_option maxRecDepth 16384

noncomputable section

namespace Cert.KernelIdeal.Val

open Idealize.ShloMosaic Idealize.ShloMosaic.TcCoe Idealize.SL.Sem Cert.KernelIdeal Cert.KernelIdeal.Gen

/-- A row of scales masked by its lane number and summed is the one scale of that lane. -/
theorem pick (f : Fin 128 → EReal) (c : ℕ) (hc : c < 128) :
    (∑ x : Fin 128, Scalar.select (IntOp.cmpi .eq (BitVec.ofNat 32 x.val) (BitVec.ofNat 32 c)) (f x) 0) = f ⟨c, hc⟩ := by
  rw [Finset.sum_eq_single_of_mem ⟨c, hc⟩ (Finset.mem_univ _)]
  · simp [Scalar.select, IntOp.cmpi]
  · intro x _ hx
    have hne : (BitVec.ofNat 32 x.val == BitVec.ofNat 32 c) = false := by
      rw [beq_eq_false_iff_ne]
      intro h
      apply hx
      have := congrArg BitVec.toNat h
      simp only [BitVec.toNat_ofNat] at this
      have hx' := x.isLt
      refine Fin.ext ?_
      show x.val = c
      omega
    simp [Scalar.select, IntOp.cmpi, hne]

/-- Whether a lane lies before the end of the block's first chunk, as numbers. -/
theorem before (l b o : ℕ) (hl : l < 128) (hb : b < 4096) (ho : o < 2048) {α : Type} (x y : α) :
    Scalar.select (IntOp.cmpi .slt (BitVec.ofNat 32 l) (Scalar.subi (BitVec.ofNat 32 b) (BitVec.ofNat 32 o))) x y
      = if l + o < b then x else y := by
  have e : (Scalar.subi (BitVec.ofNat 32 b) (BitVec.ofNat 32 o)).toInt = (b : ℤ) - o := by
    show (BitVec.ofNat 32 b - BitVec.ofNat 32 o).toInt = _
    have h1 := WordArith.toInt_ofNat_small b (by omega)
    have h2 := WordArith.toInt_ofNat_small o (by omega)
    rw [WordArith.toInt_sub_of_bounds _ _ (by rw [h1, h2]; omega) (by rw [h1, h2]; omega), h1, h2]
  have h3 := WordArith.toInt_ofNat_small l (by omega)
  by_cases h : l + o < b
  · rw [if_pos h]
    have : BitVec.slt (BitVec.ofNat 32 l) (Scalar.subi (BitVec.ofNat 32 b) (BitVec.ofNat 32 o)) = true := by
      rw [BitVec.slt_iff_toInt_lt, e, h3]; omega
    simp [Scalar.select, IntOp.cmpi, this]
  · rw [if_neg h]
    have : BitVec.slt (BitVec.ofNat 32 l) (Scalar.subi (BitVec.ofNat 32 b) (BitVec.ofNat 32 o)) = false := by
      rw [← Bool.not_eq_true, BitVec.slt_iff_toInt_lt, e, h3]; omega
    simp [Scalar.select, IntOp.cmpi, this]

/-- The label test on lanes is the label test on columns. -/
theorem label (X : BitVec 32) (a l o n : ℕ) (h : a + l + o = n) :
    IntOp.cmpi .eq (IntOp.subi (IntOp.subi X (BitVec.ofNat 32 a)) (BitVec.ofNat 32 l)) (BitVec.ofNat 32 o)
      = IntOp.cmpi .eq X (BitVec.ofNat 32 n) := by
  subst h
  have : (X - BitVec.ofNat 32 a - BitVec.ofNat 32 l == BitVec.ofNat 32 o) = (X == BitVec.ofNat 32 (a + l + o)) := by
    rw [Bool.eq_iff_iff, beq_iff_eq, beq_iff_eq, BitVec.ofNat_add, BitVec.ofNat_add]
    constructor
    · intro h; rw [← h]; ring
    · intro h; rw [h]; ring
  show BitVec.ofBool (X - BitVec.ofNat 32 a - BitVec.ofNat 32 l == BitVec.ofNat 32 o) = BitVec.ofBool _
  rw [this]

variable (m : (ℓ : Loc nD τ sig) → Buf (Elt Ideal) ℓ)

/-- One element of the quantised gradient: logit `x`, the row's statistics, its label and coefficient, the element's scale. -/
def qel (x lse : EReal) (lab : EReal) (coef s : EReal) (n : ℕ) : EReal :=
  min (Ideal.ofBits .f32 0x47600000#32) (max (Ideal.ofBits .f32 0xC7600000#32)
    ((Ideal.exp (x - lse) - Scalar.select (IntOp.cmpi .eq (FloatOps.fptosi (F := Ideal) (φ := .f32) 32 lab) (BitVec.ofNat 32 n)) 1 0)
      * Ideal.div coef s)) * s

theorem qt_at (j : ℕ) (hj : j < 49) (x0 : Vec Ideal S896x2048 .f32) (x1 x2 x3 : Vec Ideal S896x128 .f32) (r : Fin 896) (k : Fin 2048) :
    qt j x0 x1 x2 x3 (ix2 r k) = qel (x0 (ix2 r k)) (x2 (ix2 r 0)) (x1 (ix2 r 1)) (x1 (ix2 r 2))
      (x3 (ix2 (n0 := 896) (n1 := 128) r ⟨(j * 2048 + k.val) / 3136, by have := k.isLt; omega⟩)) (j * 2048 + k.val) := by
  unfold qt qv
  pointwise [qrow, k0_pay5, k0_pay6, k0_pay7, k0_pay8, k0_pay9]
  have hk := k.isLt
  have er : ∀ h, (⟨r.val / 16 * 16 + r.val % 16, h⟩ : Fin 896) = r := fun h => Fin.ext (by show r.val / 16 * 16 + r.val % 16 = r.val; omega)
  have ek : ∀ h, (⟨k.val / 128 * 128 + k.val % 128, h⟩ : Fin 2048) = k := fun h => Fin.ext (by show k.val / 128 * 128 + k.val % 128 = k.val; omega)
  simp only [er, ek]
  rw [label _ (j * 2048) (k.val % 128) (k.val / 128 * 128) (j * 2048 + k.val) (by omega),
    pick (fun x => x3 (ix2 r x)) (j * 2048 / 3136) (by omega), pick (fun x => x3 (ix2 r x)) ((j * 2048 + 2047) / 3136) (by omega),
    before _ _ _ (by omega) (by omega) (by omega)]
  have hs : (if k.val % 128 + k.val / 128 * 128 < (j * 2048 / 3136 + 1) * 3136 - j * 2048
        then x3 (ix2 r ⟨j * 2048 / 3136, by omega⟩) else x3 (ix2 r ⟨(j * 2048 + 2047) / 3136, by omega⟩))
      = x3 (ix2 (n0 := 896) (n1 := 128) r ⟨(j * 2048 + k.val) / 3136, by omega⟩) := by
    split
    · exact congrArg (fun q : Fin 128 => x3 (ix2 r q)) (Fin.ext (by show j * 2048 / 3136 = (j * 2048 + k.val) / 3136; omega))
    · exact congrArg (fun q : Fin 128 => x3 (ix2 r q)) (Fin.ext (by show (j * 2048 + 2047) / 3136 = (j * 2048 + k.val) / 3136; omega))
  rw [hs]
  rfl

/-- The same element as the reference writes it: the coefficient first, then a multiplication by the reciprocal of the scale. -/
theorem qel_eq (x lse : EReal) (lab : EReal) (coef s : EReal) (n : ℕ) :
    min (Ideal.ofBits .f32 0x47600000#32) (max (Ideal.ofBits .f32 0xC7600000#32)
      (coef * (Ideal.exp (x - lse) - FloatOps.uitofp (F := Ideal) .f32 (IntOp.cmpi .eq (BitVec.ofNat 32 n) (FloatOps.fptosi (F := Ideal) (φ := .f32) 32 lab)))
        * Ideal.div 1 s)) * s = qel x lse lab coef s n := by
  unfold qel
  by_cases hs : s = 0
  · subst hs; simp
  have e : FloatOps.uitofp (F := Ideal) .f32 (IntOp.cmpi .eq (BitVec.ofNat 32 n) (FloatOps.fptosi (F := Ideal) (φ := .f32) 32 lab))
      = Scalar.select (IntOp.cmpi .eq (FloatOps.fptosi (F := Ideal) (φ := .f32) 32 lab) (BitVec.ofNat 32 n)) (1 : EReal) 0 := by
    generalize FloatOps.fptosi (F := Ideal) (φ := .f32) 32 lab = w
    have : (BitVec.ofNat 32 n == w) = (w == BitVec.ofNat 32 n) := Bool.eq_iff_iff.mpr (by simp only [beq_iff_eq]; exact eq_comm)
    show FloatOps.uitofp (F := Ideal) .f32 (BitVec.ofBool (BitVec.ofNat 32 n == w)) = Scalar.select (BitVec.ofBool (w == BitVec.ofNat 32 n)) 1 0
    rw [this]
    cases (w == BitVec.ofNat 32 n)
    · show (((0 : ℕ) : ℝ) : EReal) = 0
      simp
    · show (((1 : ℕ) : ℝ) : EReal) = 1
      simp
  rw [e]
  unfold Ideal.div
  rw [if_neg hs, if_neg hs, one_mul]
  congr 3
  ac_rfl

/-- One term of the product, at a row, a feature and a vocabulary column: the quantised gradient times the dequantised weight. -/
def prodTerm (X0 : Vec Ideal S1792x100352 .f32) (X1 X2 X3 : Vec Ideal S1792x128 .f32) (X4 : Vec Ideal S2048x100352 .fp8e4m3)
    (X5 : Vec Ideal S32x1568 .f32) (R : Fin 1792) (d : Fin 2048) (v : Fin 100352) : EReal :=
  qel (X0 (ix2 R v)) (X2 (ix2 R 0)) (X1 (ix2 R 1)) (X1 (ix2 R 2)) (X3 (ix2 (n0 := 1792) (n1 := 128) R ⟨v.val / 3136, by have := v.isLt; omega⟩)) v.val
    * (X4 (ix2 d v) * X5 (ix2 (n0 := 32) (n1 := 1568) ⟨d.val / 64, by have := d.isLt; omega⟩ ⟨v.val / 64, by have := v.isLt; omega⟩))

/-- The product over the whole vocabulary. -/
def product (X0 : Vec Ideal S1792x100352 .f32) (X1 X2 X3 : Vec Ideal S1792x128 .f32) (X4 : Vec Ideal S2048x100352 .fp8e4m3)
    (X5 : Vec Ideal S32x1568 .f32) : Vec Ideal S1792x2048 .f32 := fun i =>
  let z : EReal := ∑ v : Fin 100352, prodTerm X0 X1 X2 X3 X4 X5 (i 0) (i 1) v
  z

end Cert.KernelIdeal.Val
end
-- ==== Proof.KFinal.lean ====
module

public import proofs.«01_k».proof.Proof.KQuant
public import Idealize.ShloMosaic.Lib.Claim

@[expose] public section

set_option maxRecDepth 16384

noncomputable section

namespace Cert.KernelIdeal.Val

open Idealize.ShloMosaic Idealize.ShloMosaic.TcCoe Idealize.SL.Sem Cert.KernelIdeal Cert.KernelIdeal.Gen

variable (m : (ℓ : Loc nD τ sig) → Buf (Elt Ideal) ℓ)

/-- The block each window holds at a grid point. -/
theorem idx : ∀ t : Fin cfg0.N, win0_0.index t = ![t.val / 49, t.val % 49] ∧ win0_1.index t = ![t.val / 49, 0] ∧ win0_2.index t = ![t.val / 49, 0]
    ∧ win0_3.index t = ![t.val / 49, 0] ∧ win0_4.index t = ![0, t.val % 49] ∧ win0_5.index t = ![0, t.val % 49] ∧ win0_6.index t = ![t.val / 49, 0] :=
  (by decide +kernel : ∀ t : Fin grid0.N, _)

/-- The scales the kernel's last operand holds: each column's is its block's. -/
theorem ws_at (c : Dev nD) (b : Fin 32) (v : Fin 100352) : V m c main_v2 (ix2 b v)
    = (m ((c : Thread nD τ).loc main_arg5) : Vec Ideal S32x1568 .f32) (ix2 (n0 := 32) (n1 := 1568) b ⟨v.val / 64, by have := v.isLt; omega⟩) := by
  unfold V; after_results
  pointwise

/-- A column's term at the run's point `s` is the product's term at the column of the whole array. -/
theorem term_at (c : Dev nD) (p : Fin cfg0.N) (r : Fin 896) (d : Fin 2048) (k : Fin 2048) (R : Fin 1792) (hR : R.val = p.val / 49 * 896 + r.val)
    (v : Fin 100352) (hv : v.val = p.val % 49 * 2048 + k.val) :
    term (p.val % 49) (iblk m c 0 p) (iblk m c 1 p) (iblk m c 2 p) (iblk m c 3 p) (iblk m c 4 p) (iblk m c 5 p) r d k
      = prodTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R d v := by
  have hj : p.val % 49 < 49 := Nat.mod_lt _ (by decide)
  have hd := d.isLt
  unfold term prodTerm
  rw [qt_at _ hj]
  simp only [← hv]
  have e0 : iblk m c 0 p (ix2 (n0 := 896) (n1 := 2048) r k) = (m ((c : Thread nD τ).loc main_arg0) : Vec Ideal S1792x100352 .f32) (ix2 (n0 := 1792) (n1 := 100352) R v) := by
    blk_ext [iblk, V, idx p]
  have e1 : ∀ q : Fin 128, iblk m c 1 p (ix2 (n0 := 896) (n1 := 128) r q) = (m ((c : Thread nD τ).loc main_arg1) : Vec Ideal S1792x128 .f32) (ix2 (n0 := 1792) (n1 := 128) R q) := fun q => by
    blk_ext [iblk, V, idx p]
  have e2 : ∀ q : Fin 128, iblk m c 2 p (ix2 (n0 := 896) (n1 := 128) r q) = (m ((c : Thread nD τ).loc main_arg2) : Vec Ideal S1792x128 .f32) (ix2 (n0 := 1792) (n1 := 128) R q) := fun q => by
    blk_ext [iblk, V, idx p]
  have e3 : ∀ q : Fin 128, iblk m c 3 p (ix2 (n0 := 896) (n1 := 128) r q) = (m ((c : Thread nD τ).loc main_arg3) : Vec Ideal S1792x128 .f32) (ix2 (n0 := 1792) (n1 := 128) R q) := fun q => by
    blk_ext [iblk, V, idx p]
  have e4 : iblk m c 4 p (ix2 (n0 := 2048) (n1 := 2048) d k) = (m ((c : Thread nD τ).loc main_arg4) : Vec Ideal S2048x100352 .fp8e4m3) (ix2 (n0 := 2048) (n1 := 100352) d v) := by
    blk_ext [iblk, V, idx p]
  have e5 : iblk m c 5 p (ix2 (n0 := 32) (n1 := 2048) ⟨d.val / 64, by omega⟩ k) = V m c main_v2 (ix2 (n0 := 32) (n1 := 100352) ⟨d.val / 64, by omega⟩ v) := by
    blk_ext [iblk, idx p]
  rw [e0, e1, e1, e2, e3, e4, e5, ws_at]

/-- What the kernel leaves in its result is the product. -/
theorem final (c : Dev nD) : (dats m 0 c).arrAt 6 cfg0.N
    = product (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨r, d, rfl⟩ : ∃ (r : Fin 896) (d : Fin 2048), y = ix2 r d := ⟨y 0, y 1, eq_ix2 y⟩
  blk_simp
  rw [after0_6, Pipeline.eq_sum_fin_of_reset_step_apply_of_flush (fun n h => outsAt0 m c n h) 49 (fun _ => 0)
    (fun p j => ∑ k : Fin 2048, term (p.val % 49) (iblk m c 0 p) (iblk m c 1 p) (iblk m c 2 p) (iblk m c 3 p) (iblk m c 4 p) (iblk m c 5 p) (j 0) (j 1) k)
    (fun t h j => by obtain ⟨r, d, rfl⟩ : ∃ (r : Fin 896) (d : Fin 2048), j = ix2 r d := ⟨j 0, j 1, eq_ix2 j⟩; exact outA m c t h r d)
    (fun t h j => by obtain ⟨r, d, rfl⟩ : ∃ (r : Fin 896) (d : Fin 2048), j = ix2 r d := ⟨j 0, j 1, eq_ix2 j⟩; exact outB m c t h r d)
    t ((flush0_6 t).mp hf) _, zero_add]
  show (∑ s : Fin 49, ∑ k : Fin 2048, _ : EReal) = ∑ v : Fin 100352, prodTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ v
  refine Fin.sum_mul_add_congr fun s k hl => ?_
  have hb := Pipeline.run_point_lt_of_flush t ((flush0_6 t).mp hf) s
  have hs := s.isLt
  have hN : t.val < 98 := lt_of_lt_of_eq t.isLt (by decide)
  have ed : ((cfg0.win 6).blk t).view.emb (ix2 (n0 := 896) (n1 := 2048) r d) 1 = d := Fin.ext (by blk_simp [idx t] <;> try omega)
  refine (term_at m c ⟨49 * (t.val / 49) + s.val, hb⟩ r d k (((cfg0.win 6).blk t).view.emb (ix2 (n0 := 896) (n1 := 2048) r d) 0) ?_ ⟨s.val * 2048 + k.val, hl⟩ ?_).trans ?_
  · blk_simp [idx t]
    show t.val / 49 * 896 + r.val = (49 * (t.val / 49) + s.val) / 49 * 896 + r.val
    omega
  · dsimp only; omega
  · rw [ed]

end Cert.KernelIdeal.Val
end
-- ==== Proof.RVal.lean ====
module

public import proofs.«01_k».proof.Proof.Gen.ReferenceIdeal.Value
public import Idealize.ShloMosaic.Lib.Pipeline.ValueKit
public import Idealize.ShloMosaic.Lib.Pointwise
public import proofs.«01_k».proof.Proof.KQuant
public import Idealize.ShloMosaic.Lib.Claim

@[expose] public section

set_option maxRecDepth 16384

noncomputable section

namespace Cert.ReferenceIdeal.Val

open Idealize.ShloMosaic Idealize.ShloMosaic.TcCoe Idealize.SL.Sem Cert.ReferenceIdeal Cert.ReferenceIdeal.Gen

variable (m : (ℓ : Loc nD τ sig) → Buf (Elt Ideal) ℓ)

theorem v25_at (c : Dev nD) (R : Fin 1792) (v : Fin 100352) : V m c main_v25 (ix2 R v)
    = (m ((c : Thread nD τ).loc main_arg3) : Vec Ideal S1792x128 .f32) (ix2 (n0 := 1792) (n1 := 128) R ⟨v.val / 3136, by have := v.isLt; omega⟩) := by
  unfold V; after_results
  pointwise

theorem v29_at (c : Dev nD) (d : Fin 2048) (v : Fin 100352) : V m c main_v29 (ix2 d v)
    = (m ((c : Thread nD τ).loc main_arg5) : Vec Ideal S32x1568 .f32) (ix2 (n0 := 32) (n1 := 1568) ⟨d.val / 64, by have := d.isLt; omega⟩ ⟨v.val / 64, by have := v.isLt; omega⟩) := by
  unfold V; after_results
  pointwise

/-- The gradient before quantisation, from one element of each operand. -/
def grad (x lse lab coef : EReal) (n : ℕ) : EReal :=
  coef * (Ideal.exp (x - lse) - FloatOps.uitofp (F := Ideal) .f32 (IntOp.cmpi .eq (BitVec.ofNat 32 n) (FloatOps.fptosi (F := Ideal) (φ := .f32) 32 lab)))

theorem v21_at (c : Dev nD) (R : Fin 1792) (v : Fin 100352) : V m c main_v21 (ix2 R v)
    = grad ((m ((c : Thread nD τ).loc main_arg0) : Vec Ideal S1792x100352 .f32) (ix2 (n0 := 1792) (n1 := 100352) R v))
        ((m ((c : Thread nD τ).loc main_arg2) : Vec Ideal S1792x128 .f32) (ix2 (n0 := 1792) (n1 := 128) R 0))
        ((m ((c : Thread nD τ).loc main_arg1) : Vec Ideal S1792x128 .f32) (ix2 (n0 := 1792) (n1 := 128) R 1))
        ((m ((c : Thread nD τ).loc main_arg1) : Vec Ideal S1792x128 .f32) (ix2 (n0 := 1792) (n1 := 128) R 2)) v.val := by
  unfold V grad; after_results
  pointwise

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- What the reference leaves in its result is the product. -/
theorem final (c : Dev nD) : (dats m 0 c).arrAt 4 cfg0.N
    = Cert.KernelIdeal.Val.product (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 4 t0_0 (by decide +kernel) _ fun j => ?_
  obtain ⟨R, d, rfl⟩ : ∃ (R : Fin 1792) (d : Fin 2048), j = ix2 R d := ⟨j 0, j 1, eq_ix2 j⟩
  blk_simp; rw [after0_4]; frame_out
  pointwise [k0_pay1]
  have e0 : ∀ v : Fin 100352, iblk m c 0 t0_0 (ix2 (n0 := 1792) (n1 := 100352) R v) = V m c main_v21 (ix2 (n0 := 1792) (n1 := 100352) R v) := fun v => by blk_ext [iblk, idx t0_0]
  have e1 : ∀ v : Fin 100352, iblk m c 1 t0_0 (ix2 (n0 := 1792) (n1 := 100352) R v) = V m c main_v25 (ix2 (n0 := 1792) (n1 := 100352) R v) := fun v => by blk_ext [iblk, idx t0_0]
  have e2 : ∀ v : Fin 100352, iblk m c 2 t0_0 (ix2 (n0 := 2048) (n1 := 100352) d v) = V m c main_arg4 (ix2 (n0 := 2048) (n1 := 100352) d v) := fun v => by blk_ext [iblk, idx t0_0]
  have e3 : ∀ v : Fin 100352, iblk m c 3 t0_0 (ix2 (n0 := 2048) (n1 := 100352) d v) = V m c main_v29 (ix2 (n0 := 2048) (n1 := 100352) d v) := fun v => by blk_ext [iblk, idx t0_0]
  show (∑ v : Fin 100352, _ : EReal) = ∑ v : Fin 100352, Cert.KernelIdeal.Val.prodTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R d v
  refine Finset.sum_congr rfl fun v _ => ?_
  rw [e0, e1, e2, e3, v21_at, v25_at, v29_at, V_main_arg4]
  unfold Cert.KernelIdeal.Val.prodTerm
  rw [← Cert.KernelIdeal.Val.qel_eq]
  rfl

end Cert.ReferenceIdeal.Val

end
-- ==== Proof.HPre.lean ====
module

public import proofs.«01_k».proof.Pre_bases_fit
public import proofs.«01_k».proof.Proof.Gen.Pre_bases_fit
public import proofs.«01_k».proof.Pre_rows_fit
public import proofs.«01_k».proof.Proof.Gen.Pre_rows_fit
public import Idealize.ShloMosaic.Lib.ReduceAll
public import Idealize.ShloMosaic.Lib.WordCmp
public import Idealize.ShloMosaic.Lib.Pipeline.ValueKit
public import Idealize.ShloMosaic.Lib.Pointwise

@[expose] public section

noncomputable section

namespace Cert.Pre_rows_fit.Val

open Idealize.ShloMosaic Idealize.ShloMosaic.WordCmp Cert.Pre_rows_fit Cert.Pre_rows_fit.Gen

instance : Subsingleton S_.Idx := ⟨fun a b => funext fun i => i.elim0⟩

/-- A base word the precondition admits: at most 1536 and a multiple of 16. -/
theorem base_word (a : BitVec 32)
    (h : IntOp.andi (IntOp.andi (IntOp.cmpi .sge a 0#32) (IntOp.cmpi .sle a 1536#32)) (IntOp.cmpi .eq (IntOp.andi a 15#32) 0#32) = 1#1) :
    a.toNat ≤ 1536 ∧ 16 ∣ a.toNat := by
  obtain ⟨h1, h2⟩ := IntOp.andi_eq_one.1 h
  obtain ⟨h3, h4⟩ := IntOp.andi_eq_one.1 h1
  rw [cmpi_sge_zero, ofBool_decide_eq_one_iff] at h3
  have h5 := IntOp.cmpi_sle.1 h4
  have e : (1536#32 : BitVec 32).toInt = 1536 := by decide
  rw [e, toInt_eq_toNat_of_lt_half h3] at h5
  have h6 : a &&& 15#32 = 0#32 := IntOp.cmpi_eq.1 h2
  have h7 : (a &&& 15#32).toNat = a.toNat % 16 := by
    rw [BitVec.toNat_and]
    exact Nat.and_two_pow_sub_one_eq_mod a.toNat 4
  rw [h6] at h7
  exact ⟨by omega, Nat.dvd_of_mod_eq_zero h7.symm⟩

variable {F : FTy → Type} [FloatOps F]

/-- What the precondition says of each segment's base. -/
theorem base {x0 x1 : IVec S5 32} {x2 : FVec F S256x2048 .bf16} {x3 : IVec S5x256 32} {x4 : FVec F S1792x2048 .f32} {x5 : FVec F S5x256x2048 .f32}
    (h : fn x0 x1 x2 x3 x4 x5 = fun _ => 1#1) (i : S5.Idx) : (x0 i).toNat ≤ 1536 ∧ 16 ∣ (x0 i).toNat := by
  have h0 := congrFun h ix0
  obtain ⟨h1, -⟩ := IntOp.andi_eq_one.1 h0
  exact base_word _ (Host.reduce_andi_all _ _ _ _ _ h1 i)

/-- The same from the precondition on the bases alone. -/
theorem base' {x0 x1 : IVec S5 32} {x2 : FVec F S256x2048 .bf16} {x3 : IVec S5x256 32} {x4 : FVec F S1792x2048 .f32} {x5 : FVec F S5x256x2048 .f32}
    (h : Cert.Pre_bases_fit.fn x0 x1 x2 x3 x4 x5 = fun _ => 1#1) (i : S5.Idx) : (x0 i).toNat ≤ 1536 ∧ 16 ∣ (x0 i).toNat :=
  base_word _ (Host.reduce_andi_all _ _ _ _ _ (congrFun h ix0) i)

/-- What the precondition says of each element of the gradient the rows are read from: it is finite. -/
theorem finite {x0 x1 : IVec S5 32} {x2 : FVec Ideal S256x2048 .bf16} {x3 : IVec S5x256 32} {x4 : FVec Ideal S1792x2048 .f32} {x5 : FVec Ideal S5x256x2048 .f32}
    (h : fn x0 x1 x2 x3 x4 x5 = fun _ => 1#1) (i : S1792x2048.Idx) : (x4 i : EReal) ≠ ⊤ ∧ (x4 i : EReal) ≠ ⊥ := by
  have h0 := congrFun h ix0
  obtain ⟨-, h1⟩ := IntOp.andi_eq_one.1 h0
  have h2 : Ideal.cmp .olt (max (x4 i : EReal) (-(x4 i : EReal))) (Ideal.ofBits .f32 0x7F800000#32) = 1#1 := Host.reduce_andi_all _ _ _ _ _ h1 i
  have htop : Ideal.ofBits .f32 0x7F800000#32 = ⊤ := by simp [Ideal.ofBits, Ideal.ieee]
  rw [htop] at h2
  unfold Ideal.cmp at h2
  have h3 : max (x4 i : EReal) (-(x4 i : EReal)) < ⊤ := of_decide_eq_true ((WordCmp.ofBool_eq_one_iff _).1 h2)
  rw [max_lt_iff] at h3
  refine ⟨h3.1.ne, fun e => ?_⟩
  rw [e] at h3
  simp at h3

end Cert.Pre_rows_fit.Val
end
-- ==== Proof.JPre.lean ====
module

public import proofs.«01_k».proof.Pre_starts_fit
public import proofs.«01_k».proof.Proof.Gen.Pre_starts_fit
public import proofs.«01_k».proof.Proof.HPre

@[expose] public section

noncomputable section

namespace Cert.Pre_starts_fit.Val

open Idealize.ShloMosaic Cert.Pre_starts_fit Cert.Pre_starts_fit.Gen

instance : Subsingleton S_.Idx := ⟨fun a b => funext fun i => i.elim0⟩

variable {F : FTy → Type} [FloatOps F]

/-- What the precondition says of each head's first row. -/
theorem base {x0 x1 : IVec S5 32} {x2 : FVec F S5 .f32} {x3 : FVec F S2x128x2048 .fp8e4m3} {x4 : FVec F S2x128 .f32} {x5 : FVec F S5x2048x2048 .bf16}
    {x6 : FVec F S5x2048 .f32} {x7 x8 : IVec S5x256 32}
    (h : fn x0 x1 x2 x3 x4 x5 x6 x7 x8 = fun _ => 1#1) (i : S5.Idx) : (x0 i).toNat ≤ 1536 ∧ 16 ∣ (x0 i).toNat :=
  Cert.Pre_rows_fit.Val.base_word _ (Host.reduce_andi_all _ _ _ _ _ (congrFun h ix0) i)

end Cert.Pre_starts_fit.Val
end
-- ==== Proof.JRun.lean ====
module

public import proofs.«01_k».proof.Proof.Gen.HeadsIdeal.Frame
public import proofs.«01_k».proof.Proof.Gen.HeadsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim
public import Idealize.ShloMosaic.Lib.Pipeline.ValueKit
public import Idealize.ShloMosaic.Lib.Pointwise

@[expose] public section

set_option maxRecDepth 16384

noncomputable section

namespace Cert.HeadsIdeal.Val

open Idealize.ShloMosaic Idealize.ShloMosaic.TcCoe Idealize.ShloMosaic.Tactic
open Idealize.SL Idealize.SL.RA Idealize.SL.BI
open Cert.HeadsIdeal Cert.HeadsIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the grid point is the first, as the body computes it. -/
abbrev atFirst (i : grid0.Coords) : Prop :=
  Scalar.cmpi .ne (Scalar.extui (Scalar.cmpi .eq (BitVec.ofNat 32 (i 0).val) 0#32) : BitVec 32) 0#32 = 1#1

/-- The word a whole scalar array holds at a grid point's head. -/
abbrev word (i : grid0.Coords) (x : Vec F S5 .i32) : Elt F .i32 := x (ix1 (n0 := 5) (i 0))

/-- The largest magnitude of each row of the head's new activations, from what the body has read. -/
def mxOf (x3 : Vec F S256x2048 .fp8e4m3) (x4 : Vec F S256x1 .f32) (x5 : Vec F S1x2048x2048 .bf16) (x6 : Vec F S1x1x2048 .f32) : FVec F S256 .f32 :=
  k0_pay9 x4 x3 x5 x6 x3

/-- The head's block of the codes, -/
def codesOf (x3 : Vec F S256x2048 .fp8e4m3) (x4 : Vec F S256x1 .f32) (x5 : Vec F S1x2048x2048 .bf16) (x6 : Vec F S1x1x2048 .f32) : Vec F S1x256x2048 .fp8e4m3 :=
  k0_pay17 (k0_pay7 x4 x3 x5 x6 x3) (k0_pay10 (mxOf x3 x4 x5 x6)) (k0_pay11 (mxOf x3 x4 x5 x6)) (k0_pay12 (mxOf x3 x4 x5 x6)) (k0_pay13 (mxOf x3 x4 x5 x6)) (k0_pay14 (mxOf x3 x4 x5 x6))

/-- and of their scales. -/
def scaleOf (x3 : Vec F S256x2048 .fp8e4m3) (x4 : Vec F S256x1 .f32) (x5 : Vec F S1x2048x2048 .bf16) (x6 : Vec F S1x1x2048 .f32) : Vec F S1x1x256 .f32 :=
  k0_pay20 (k0_pay19 (k0_pay10 (mxOf x3 x4 x5 x6)) (k0_pay11 (mxOf x3 x4 x5 x6)) (k0_pay12 (mxOf x3 x4 x5 x6)) (k0_pay13 (mxOf x3 x4 x5 x6)) (k0_pay14 (mxOf x3 x4 x5 x6)))

theorem off1_at (i : grid0.Coords) : k0_off1 i 0 = (i 0).val := by
  have h : (i 0).val < 5 := (i 0).isLt
  show (BitVec.ofNat 32 (i 0).val).toNat = _
  rw [BitVec.toNat_ofNat]; exact Nat.mod_eq_of_lt (by omega)

/-- A load of one word of a whole scalar array. -/
theorem word_read (M : Memref sig .tc .smem S5 .i32) (hM : M.IsWhole) (x : Vec F S5 .i32) (i : grid0.Coords) (off : Fin 1 → ℕ)
    (inb : ∀ a, off a + S1.size a ≤ S5.size a) (ho : off 0 = (i 0).val) (y : S1.Idx) :
    View.readAt (Elt F) M.view (Rect.unit (s := S5) off S1.size inb).toLoadRect (hM.unread x) y = word i x := by
  rw [Memref.IsWhole.readAt_unread]
  refine congrArg x (funext fun a => Fin.ext ?_)
  obtain rfl : a = 0 := Subsingleton.elim _ _
  have hy : (y 0).val < 1 := (y 0).isLt
  show off 0 + 1 * (y 0).val = (i 0).val
  omega

set_option maxHeartbeats 2000000 in
/-- The body at the first point: the two arrays of all heads are also cleared. -/
theorem run_A (c : Dev nD) (i : grid0.Coords) (arg1 : Memref sig .tc .smem S5 .i32) (harg1 : arg1.IsWhole) (arg2 : Memref sig .tc .smem S5 .i32) (harg2 : arg2.IsWhole) (arg3 : Memref sig .tc .smem S5 .f32) (harg3 : arg3.IsWhole) (arg4 : Memref sig .tc .vmem S256x2048 .fp8e4m3) (harg4 : arg4.IsWhole) (arg5 : Memref sig .tc .vmem S256x1 .f32) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S1x1x256 .i32) (harg8 : arg8.IsWhole) (arg9 : Memref sig .tc .vmem S1x1x256 .i32) (harg9 : arg9.IsWhole) (arg10 : Memref sig .tc .vmem S1x256x2048 .fp8e4m3) (harg10 : arg10.IsWhole) (arg11 : Memref sig .tc .vmem S1x1x256 .f32) (harg11 : arg11.IsWhole) (arg12 : Memref sig .tc .vmem S1x256x2048 .f32) (harg12 : arg12.IsWhole) (arg13 : Memref sig .tc .vmem S1792x2048 .bf16) (harg13 : arg13.IsWhole) (arg14 : Memref sig .tc .vmem S1792x128 .f32) (harg14 : arg14.IsWhole) (hc : atFirst i)
    (x0 : Vec F S5 .i32) (x1 : Vec F S5 .i32) (x2 : Vec F S5 .f32) (x3 : Vec F S256x2048 .fp8e4m3) (x4 : Vec F S256x1 .f32) (x5 : Vec F S1x2048x2048 .bf16) (x6 : Vec F S1x1x2048 .f32) (x7 : Vec F S1x1x256 .i32) (x8 : Vec F S1x1x256 .i32) (hchk : k0_chk1 (word i x0)) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (codesOf x3 x4 x5 x6) ∗ owns (c : Thread nD τ) arg11 fullShare (scaleOf x3 x4 x5 x6) ∗ owns (c : Thread nD τ) arg12 fullShare (k0_pay8 x4 x3 x5 x6) ∗ (∃ d, owns (c : Thread nD τ) arg13 fullShare d) ∗ (∃ d, owns (c : Thread nD τ) arg14 fullShare d)) -∗ K ⟨⟩))
          ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_heads_eq_skeleton]; unfold cc0_heads_skel
    simp only [k0_part1_eq_skeleton, k0_part2_eq_skeleton, k0_part3_eq_skeleton, k0_part4_eq_skeleton]; unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc)
    have hw : run_A.sl.r c i arg1 harg1 x0 = word i x0 := word_read arg1 harg1 x0 i _ _ (off1_at i) _
    have hk : k0_chk1 (run_A.sl.r c i arg1 harg1 x0) := hw ▸ hchk
    sl_exec (disch := first | sl_exact hc | sl_exact hk)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      refine (View.read_writes_full (s := S1x256x2048) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H10]
    · iexists _; isplitr; swap; · iexact H10
      ipureintro
      refine (View.read_writes_full (s := S1x1x256) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H11]
    · iexists _; isplitr; swap; · iexact H11
      ipureintro
      refine (View.read_writes_full (s := S1x256x2048) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H12]
    · iexists _; iexists _; isplitr; swap; · iexact H12
      ipureintro; rfl
    iexists _; iexists _; isplitr; swap; · iexact H13
    ipureintro; rfl

set_option maxHeartbeats 2000000 in
/-- The body at every other point. -/
theorem run_B (c : Dev nD) (i : grid0.Coords) (arg1 : Memref sig .tc .smem S5 .i32) (harg1 : arg1.IsWhole) (arg2 : Memref sig .tc .smem S5 .i32) (harg2 : arg2.IsWhole) (arg3 : Memref sig .tc .smem S5 .f32) (harg3 : arg3.IsWhole) (arg4 : Memref sig .tc .vmem S256x2048 .fp8e4m3) (harg4 : arg4.IsWhole) (arg5 : Memref sig .tc .vmem S256x1 .f32) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S1x1x256 .i32) (harg8 : arg8.IsWhole) (arg9 : Memref sig .tc .vmem S1x1x256 .i32) (harg9 : arg9.IsWhole) (arg10 : Memref sig .tc .vmem S1x256x2048 .fp8e4m3) (harg10 : arg10.IsWhole) (arg11 : Memref sig .tc .vmem S1x1x256 .f32) (harg11 : arg11.IsWhole) (arg12 : Memref sig .tc .vmem S1x256x2048 .f32) (harg12 : arg12.IsWhole) (arg13 : Memref sig .tc .vmem S1792x2048 .bf16) (harg13 : arg13.IsWhole) (arg14 : Memref sig .tc .vmem S1792x128 .f32) (harg14 : arg14.IsWhole) (hc : ¬atFirst i)
    (x0 : Vec F S5 .i32) (x1 : Vec F S5 .i32) (x2 : Vec F S5 .f32) (x3 : Vec F S256x2048 .fp8e4m3) (x4 : Vec F S256x1 .f32) (x5 : Vec F S1x2048x2048 .bf16) (x6 : Vec F S1x1x2048 .f32) (x7 : Vec F S1x1x256 .i32) (x8 : Vec F S1x1x256 .i32) (hchk : k0_chk1 (word i x0)) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (codesOf x3 x4 x5 x6) ∗ owns (c : Thread nD τ) arg11 fullShare (scaleOf x3 x4 x5 x6) ∗ owns (c : Thread nD τ) arg12 fullShare (k0_pay8 x4 x3 x5 x6) ∗ (∃ d, owns (c : Thread nD τ) arg13 fullShare d) ∗ (∃ d, owns (c : Thread nD τ) arg14 fullShare d)) -∗ K ⟨⟩))
          ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_heads_eq_skeleton]; unfold cc0_heads_skel
    simp only [k0_part1_eq_skeleton, k0_part2_eq_skeleton, k0_part3_eq_skeleton, k0_part4_eq_skeleton]; unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc)
    have hw : run_B.sl.r c i arg1 harg1 x0 = word i x0 := word_read arg1 harg1 x0 i _ _ (off1_at i) _
    have hk : k0_chk1 (run_B.sl.r c i arg1 harg1 x0) := hw ▸ hchk
    sl_exec (disch := first | sl_exact hc | sl_exact hk)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      refine (View.read_writes_full (s := S1x256x2048) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H10]
    · iexists _; isplitr; swap; · iexact H10
      ipureintro
      refine (View.read_writes_full (s := S1x1x256) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H11]
    · iexists _; isplitr; swap; · iexact H11
      ipureintro
      refine (View.read_writes_full (s := S1x256x2048) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H12]
    · iexists _; iexists _; isplitr; swap; · iexact H12
      ipureintro; rfl
    iexists _; iexists _; isplitr; swap; · iexact H13
    ipureintro; rfl

end Cert.HeadsIdeal.Val

end
-- ==== Proof.JFrame.lean ====
module

public import proofs.«01_k».proof.Proof.JRun
public import proofs.«01_k».proof.Proof.Gen.HeadsIdeal.Points
public import Idealize.ShloMosaic.Lib.Pipeline.TableIdle

@[expose] public section

set_option maxRecDepth 16384

noncomputable section

namespace Cert.HeadsIdeal.Val

open Idealize.ShloMosaic Idealize.ShloMosaic.TcCoe Idealize.ShloMosaic.Tactic
open Idealize.SL Idealize.SL.RA Idealize.SL.BI
open Cert.HeadsIdeal Cert.HeadsIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current staging memref at a point, and its wholeness. -/

abbrev ms0_0 (t : Fin cfg0.N) : Memref sig .tc .smem S5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S5 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x2048 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1792x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1792x128 .f32 := win0_13.stage (cfg0.slots t 13)
abbrev hs0_13 (t : Fin cfg0.N) : (ms0_13 t).IsWhole := hstage0_13 ((cfg0.slots t 13).cast nbuf0_13)

/-- The word of the first row, at a point. -/
def bw (c : Dev nD) (t : Fin cfg0.N) : BitVec 32 := word (F := F) (grid0.coords t) (iblk m c 0 t)

/-! ## The pipeline's proof data -/

/-- The two outputs nothing is stated of: the head's rows gathered into the order of all heads, and their scales. -/
def forgets0 : Fin 14 → Bool := fun w => w.val == 12 || w.val == 13

/-- The proof data: the arrays as the region finds them; after the body each input at its block, the three blocks of the
    head's results at their values, the two other outputs at nothing named; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => codesOf (iblk m c 3 t) (iblk m c 4 t) (iblk m c 5 t) (iblk m c 6 t)
    | ⟨10, _⟩ => scaleOf (iblk m c 3 t) (iblk m c 4 t) (iblk m c 5 t) (iblk m c 6 t)
    | ⟨11, _⟩ => k0_pay8 (iblk m c 4 t) (iblk m c 3 t) (iblk m c 5 t) (iblk m c 6 t)
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = codesOf (iblk m c 3 t) (iblk m c 4 t) (iblk m c 5 t) (iblk m c 6 t) := by dsimp only [dats]
theorem after0_10 (c : Dev nD) (t : Fin cfg0.N) : (dats m 0 c).after 10 t = scaleOf (iblk m c 3 t) (iblk m c 4 t) (iblk m c 5 t) (iblk m c 6 t) := by dsimp only [dats]
theorem after0_11 (c : Dev nD) (t : Fin cfg0.N) : (dats m 0 c).after 11 t = k0_pay8 (iblk m c 4 t) (iblk m c 3 t) (iblk m c 5 t) (iblk m c 6 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d))

/-- What the body asks of the first row's word, at every point. -/
abbrev Rows : Prop := ∀ (c : Dev nD) (t : Fin cfg0.N), k0_chk1 (bw m c t)

set_option maxHeartbeats 2400000 in
/-- The body at any point: the first point also clears the arrays of all heads. -/
theorem sound_body (hck : Rows m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  by_cases h0 : atFirst (grid0.coords t)
  · iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) h0 (iblk m c 0 t) (iblk m c 1 t) (iblk m c 2 t) (iblk m c 3 t) (iblk m c 4 t) (iblk m c 5 t) (iblk m c 6 t) (iblk m c 7 t) (iblk m c 8 t) (hck c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) h0 (iblk m c 0 t) (iblk m c 1 t) (iblk m c 2 t) (iblk m c 3 t) (iblk m c 4 t) (iblk m c 5 t) (iblk m c 6 t) (iblk m c 7 t) (iblk m c 8 t) (hck c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hck : Rows m) (c : Dev nD) : BodyObligation (dats (F := F) m 0 c) (defs₀ (F := F)) Variants.none () Set.univ forgets0 := fun t => by
  rw [bigSep_W0, bigSep_W0, defs₀_row]
  exact triple_restated (sound_body m hck c t) rfl .rfl fun _ => .rfl

/-! ## The run and the frame -/

set_option backward.isDefEq.respectTransparency.types false in
/-- The launch: every array of the pipeline not forgotten ends at what the proof data says, every counter at zero. -/
theorem run_main_quiescent (hck : Rows m) : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m hck c).loose) (hshare := fun c => (dats m 0 c).share_full fun _ => rfl)
    (howed := fun _ _ => rfl) (V := V m) (hmain := hmain m Variants.none) (hA := A_eq m) (hΦ := fun _ _ => rfl)

/-- The run: the three results end at what the pipeline's write-backs leave, the arguments unchanged. -/
theorem run_blocks (hck : Rows m) : θ_run defs (onTc (τ := τ) (main (F := F))) ⟨m, fun _ => 0, ρ⟩ fun r => ∀ c : Dev nD,
      r.2.mem ((c : Thread nD τ).loc main_v5_0) = (dats m 0 c).arrAt 9 cfg0.N ∧ r.2.mem ((c : Thread nD τ).loc main_v5_1) = (dats m 0 c).arrAt 10 cfg0.N ∧ r.2.mem ((c : Thread nD τ).loc main_v5_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    ⟨(Dat.toRForget_arrAt_iff (dats m 0 c) (w := 9) rfl cfg0.N _).mp ((h.1 c).1 9), (Dat.toRForget_arrAt_iff (dats m 0 c) (w := 10) rfl cfg0.N _).mp ((h.1 c).1 10), (Dat.toRForget_arrAt_iff (dats m 0 c) (w := 11) rfl cfg0.N _).mp ((h.1 c).1 11),
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 5 rfl).trans ((A_eq m c 5).trans (V_main_arg5 m c)),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩)
    (run_main_quiescent m ρ hck)

/-- The frame: the run ends, the arguments unchanged, every counter at zero. -/
theorem frame (hck : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and ((θ_run defs _ _).mono (fun _ h c => (h c).2.2.2) (run_blocks m ρ hck)) ((θ_run defs _ _).mono (fun _ h => h.2) (run_main_quiescent m ρ hck))

end Cert.HeadsIdeal.Val

end
-- ==== Proof.JScale.lean ====
module

public import Idealize.ShloMosaic.Lib.WordCmp
public import Idealize.ShloMosaic.Lib.WordArith
public import Idealize.ShloMosaic.Lib.Pointwise

@[expose] public section

noncomputable section

namespace Cert.HeadsIdeal.Val

open Idealize.ShloMosaic Idealize.ShloMosaic.WordCmp

/-- The power of two whose 32-bit exponent field is `n`. -/
def p2 (n : ℕ) : EReal := (((2 : ℝ) ^ ((n : ℤ) - 127) : ℝ) : EReal)

theorem p2_lt {a b : ℕ} (h : a < b) : p2 a < p2 b :=
  EReal.coe_lt_coe_iff.mpr (zpow_lt_zpow_right₀ (by norm_num) (by omega))

theorem p2_le {a b : ℕ} (h : a ≤ b) : p2 a ≤ p2 b :=
  EReal.coe_le_coe_iff.mpr (zpow_le_zpow_right₀ (by norm_num) (by omega))

theorem p2_lt_iff {a b : ℕ} : p2 a < p2 b ↔ a < b :=
  ⟨fun h => by by_contra h1; exact absurd h (not_lt.mpr (p2_le (by omega))), p2_lt⟩

theorem p2_one : p2 127 = 1 := by unfold p2; norm_num

/-- An exponent field shifted to its place, read as a number. -/
theorem bits_field (n : ℕ) (h1 : 1 ≤ n) (h2 : n ≤ 254) : Ideal.ofBits .f32 (IntOp.shli .vector (BitVec.ofNat 32 n) 23#32) = p2 n := by
  have hw : IntOp.shli .vector (BitVec.ofNat 32 n) 23#32 = BitVec.ofNat 32 (n * 2 ^ 23) := by
    apply BitVec.eq_of_toNat_eq
    have e : IntOp.shli .vector (BitVec.ofNat 32 n) 23#32 = BitVec.ofNat 32 n <<< (23#32 : BitVec 32) := if_pos (by decide)
    rw [e, BitVec.shiftLeft_eq', BitVec.toNat_shiftLeft, BitVec.toNat_ofNat, BitVec.toNat_ofNat, Nat.shiftLeft_eq, Nat.mod_eq_of_lt (show n < 2 ^ 32 by omega),
      show 23 % 2 ^ 32 = 23 from rfl, BitVec.toNat_ofNat]
  have ht : (BitVec.ofNat 32 (n * 2 ^ 23)).toNat = n * 2 ^ 23 := by rw [BitVec.toNat_ofNat]; exact Nat.mod_eq_of_lt (by omega)
  have hex : ((BitVec.ofNat 32 (n * 2 ^ 23)).extractLsb' 23 8).toNat = n := by
    rw [BitVec.extractLsb'_toNat, ht, Nat.shiftRight_eq_div_pow, Nat.mul_div_cancel _ (by norm_num)]
    exact Nat.mod_eq_of_lt (by omega)
  have hfr : ((BitVec.ofNat 32 (n * 2 ^ 23)).extractLsb' 0 23).toNat = 0 := by
    rw [BitVec.extractLsb'_toNat, ht, Nat.shiftRight_zero]
    exact Nat.mul_mod_left _ _
  have hng : ((BitVec.ofNat 32 (n * 2 ^ 23)).extractLsb' (8 + 23) 1 == 1#1) = false := by
    rw [beq_eq_false_iff_ne]
    intro h
    have h3 := congrArg BitVec.toNat h
    rw [BitVec.extractLsb'_toNat, ht, Nat.shiftRight_eq_div_pow] at h3
    rw [show (1#1 : BitVec 1).toNat = 1 from rfl] at h3
    omega
  rw [hw]
  show Ideal.ieee 8 23 (BitVec.ofNat 32 (n * 2 ^ 23)) = _
  unfold Ideal.ieee p2
  simp only [hex, hfr, hng]
  rw [if_neg (by omega), if_neg (by omega)]
  refine congrArg (fun x : ℝ => (x : EReal)) ?_
  have e2 : ((2 ^ 23 + 0 : ℕ) : ℝ) = (2 : ℝ) ^ (23 : ℤ) := by norm_num
  rw [e2]
  have e3 : ((n : ℤ) - 127) = 23 + ((n : ℤ) - (2 ^ (8 - 1) - 1) - (23 : ℕ)) := by norm_num
  rw [e3, zpow_add₀ (by norm_num : (2 : ℝ) ≠ 0)]
  simp

/-- One step of the kernel's search for the exponent field. -/
def step (q : EReal) (f w : BitVec 32) : BitVec 32 :=
  Scalar.select (FloatOps.cmpf (F := Ideal) (φ := .f32) .olt q (Ideal.ofBits .f32 (IntOp.shli .vector (IntOp.addi f w) 23#32))) f (IntOp.addi f w)

theorem step_at (q : EReal) (n w : ℕ) (hw : 1 ≤ w) (h : n + w ≤ 254) :
    step q (BitVec.ofNat 32 n) (BitVec.ofNat 32 w) = if q < p2 (n + w) then BitVec.ofNat 32 n else BitVec.ofNat 32 (n + w) := by
  have e : IntOp.addi (BitVec.ofNat 32 n) (BitVec.ofNat 32 w) = BitVec.ofNat 32 (n + w) := (BitVec.ofNat_add n w).symm
  unfold step
  rw [e, bits_field _ (by omega) h]
  show Scalar.select (BitVec.ofBool (decide (q < p2 (n + w)))) _ _ = _
  rw [select_ofBool]
  simp only [decide_eq_true_eq]

/-- What the search has found when `w` more fields are open. -/
def Found (q : EReal) (f : BitVec 32) (w : ℕ) : Prop :=
  ∃ n : ℕ, f = BitVec.ofNat 32 n ∧ n + w ≤ 252 ∧ (n = 0 ∨ p2 n ≤ q) ∧ (n + w = 252 ∨ q < p2 (n + w))

theorem found_first (q : EReal) : Found q (step q 0#32 124#32) 128 := by
  rw [step_at q 0 124 (by omega) (by omega)]
  by_cases h : q < p2 (0 + 124)
  · rw [if_pos h]
    exact ⟨0, rfl, by omega, .inl rfl, .inr (h.trans (p2_lt (by omega)))⟩
  · rw [if_neg h]
    exact ⟨124, rfl, by omega, .inr (not_lt.mp h), .inl rfl⟩

theorem found_step (q : EReal) (f : BitVec 32) (w : ℕ) (hw : 1 ≤ w) (h : Found q f (2 * w)) : Found q (step q f (BitVec.ofNat 32 w)) w := by
  obtain ⟨n, rfl, hn, hl, hu⟩ := h
  rw [step_at q n w hw (by omega)]
  by_cases h : q < p2 (n + w)
  · rw [if_pos h]
    exact ⟨n, rfl, by omega, hl, .inr h⟩
  · rw [if_neg h]
    refine ⟨n + w, rfl, by omega, .inr (not_lt.mp h), ?_⟩
    rw [show n + w + w = n + 2 * w by omega]
    exact hu

/-- The kernel's exponent field. -/
def field (q : EReal) : BitVec 32 :=
  step q (step q (step q (step q (step q (step q (step q (step q 0#32 124#32) 64#32) 32#32) 16#32) 8#32) 4#32) 2#32) 1#32

theorem field_found (q : EReal) : Found q (field q) 1 :=
  found_step q _ 1 (by omega) (found_step q _ 2 (by omega) (found_step q _ 4 (by omega) (found_step q _ 8 (by omega)
    (found_step q _ 16 (by omega) (found_step q _ 32 (by omega) (found_step q _ 64 (by omega) (found_first q)))))))

/-- The kernel's exponent: zero for a row below the smallest normal number. -/
def expo (q : EReal) : BitVec 32 :=
  Scalar.select (FloatOps.cmpf (F := Ideal) (φ := .f32) .olt q (Ideal.ofBits .f32 0x00800000#32)) 0#32 (IntOp.subi (field q) 126#32)

/-- The kernel's scale, -/
def scaleK (q : EReal) : EReal := Ideal.ofBits .f32 (IntOp.shli .vector (IntOp.addi (expo q) 127#32) 23#32)

/-- and its reciprocal. -/
def invK (q : EReal) : EReal := Ideal.ofBits .f32 (IntOp.shli .vector (IntOp.subi 127#32 (expo q)) 23#32)

/-- The scale: the first power of two above the number, at most `2 ^ 125`; one below the smallest normal number. -/
def scale (q : EReal) : EReal :=
  if q < Ideal.ofBits .f32 0x00800000#32 then 1
  else Finset.fold min (Ideal.ofBits .f32 0x7F800000#32)
    (fun x : Fin 256 => if q < FloatOps.exp2 (F := Ideal) (φ := .f32) (FloatOps.sitofp (F := Ideal) .f32 (BitVec.ofNat 32 x.val) - Ideal.ofBits .f32 0x42FC0000#32 : EReal)
      then FloatOps.exp2 (F := Ideal) (φ := .f32) (FloatOps.sitofp (F := Ideal) .f32 (BitVec.ofNat 32 x.val) - Ideal.ofBits .f32 0x42FC0000#32 : EReal) else Ideal.ofBits .f32 0x7E000000#32) Finset.univ

theorem tiny_eq : Ideal.ofBits .f32 0x00800000#32 = p2 1 := bits_field 1 (by omega) (by omega)
theorem big_eq : Ideal.ofBits .f32 0x7E000000#32 = p2 252 := bits_field 252 (by omega) (by omega)
theorem top_eq : Ideal.ofBits .f32 0x7F800000#32 = (⊤ : EReal) := by simp [Ideal.ofBits, Ideal.ieee]

/-- The reference's powers of two. -/
theorem power_eq (x : Fin 256) :
    (FloatOps.exp2 (F := Ideal) (φ := .f32) (FloatOps.sitofp (F := Ideal) .f32 (BitVec.ofNat 32 x.val) - Ideal.ofBits .f32 0x42FC0000#32 : EReal) : EReal) = p2 (x.val + 1) := by
  have hx := x.isLt
  have e1 : (FloatOps.sitofp (F := Ideal) .f32 (BitVec.ofNat 32 x.val) : EReal) = ((x.val : ℝ) : EReal) := by
    show (((BitVec.ofNat 32 x.val).toInt : ℝ) : EReal) = _
    rw [WordArith.toInt_ofNat_small x.val (by omega)]
    norm_num
  have e2 : (Ideal.ofBits .f32 0x42FC0000#32 : EReal) = ((126 : ℝ) : EReal) := by
    simp [Ideal.ofBits, Ideal.ieee]
    norm_num
    rw [← EReal.coe_mul]
    norm_num
  rw [e1, e2, ← EReal.coe_sub]
  show ((Real.rpow 2 ((x.val : ℝ) - 126) : ℝ) : EReal) = _
  unfold p2
  refine congrArg (fun x : ℝ => (x : EReal)) ?_
  rw [← Real.rpow_intCast]
  show (2 : ℝ) ^ ((x.val : ℝ) - 126) = _
  congr 1
  push_cast
  ring

/-- Above the smallest normal number the kernel's scale and its reciprocal have fields `n + 1` and `253 - n`, and the scale is the reference's. -/
theorem scale_cases (q : EReal) (hq : ¬q < p2 1) : ∃ n : ℕ, 1 ≤ n ∧ n ≤ 251 ∧ field q = BitVec.ofNat 32 n ∧ scale q = p2 (n + 1) := by
  obtain ⟨n, hf, hn, hl, hu⟩ := field_found q
  have h1 : 1 ≤ n := by
    by_contra h0
    obtain rfl : n = 0 := by omega
    rcases hu with h | h
    · omega
    · exact hq h
  have hl' : p2 n ≤ q := hl.resolve_left (by omega)
  refine ⟨n, h1, by omega, hf, ?_⟩
  unfold scale
  rw [tiny_eq, if_neg hq, top_eq, big_eq]
  simp only [power_eq]
  refine le_antisymm ?_ ?_
  · rw [Finset.fold_min_le]
    right
    rcases hu with h | h
    · refine ⟨⟨0, by omega⟩, Finset.mem_univ _, ?_⟩
      rw [if_neg hq, show n + 1 = 252 by omega]
    · refine ⟨⟨n, by omega⟩, Finset.mem_univ _, ?_⟩
      rw [if_pos h]
  · rw [Finset.le_fold_min]
    refine ⟨le_top, fun x _ => ?_⟩
    split
    · next h =>
      have := p2_lt_iff.mp (hl'.trans_lt h)
      exact p2_le (by omega)
    · exact p2_le (by omega)

theorem lt_bit (q y : EReal) : (FloatOps.cmpf (F := Ideal) (φ := .f32) .olt q y : BitVec 1) = BitVec.ofBool (decide (q < y)) := rfl

/-- The kernel's scale is the reference's, -/
theorem scaleK_eq (q : EReal) : scaleK q = scale q := by
  unfold scaleK expo
  rw [lt_bit, select_ofBool, tiny_eq]
  by_cases hq : q < p2 1
  · rw [decide_eq_true hq, if_pos rfl]
    unfold scale
    rw [tiny_eq, if_pos hq]
    exact (bits_field 127 (by omega) (by omega)).trans p2_one
  · obtain ⟨n, h1, h2, hf, hs⟩ := scale_cases q hq
    rw [decide_eq_false hq, hf, hs]
    have e : IntOp.addi (IntOp.subi (BitVec.ofNat 32 n) 126#32) 127#32 = BitVec.ofNat 32 (n + 1) := by
      show BitVec.ofNat 32 n - 126#32 + 127#32 = _
      rw [BitVec.ofNat_add, show (127#32 : BitVec 32) = 126#32 + 1#32 from rfl, ← add_assoc, sub_add_cancel]
    show Ideal.ofBits .f32 (IntOp.shli .vector (IntOp.addi (IntOp.subi (BitVec.ofNat 32 n) 126#32) 127#32) 23#32) = _
    rw [e, bits_field _ (by omega) (by omega)]

/-- and so is its reciprocal. -/
theorem invK_eq (q : EReal) : invK q = Ideal.div 1 (scale q) := by
  unfold invK expo
  rw [lt_bit, select_ofBool, tiny_eq]
  by_cases hq : q < p2 1
  · rw [decide_eq_true hq, if_pos rfl]
    unfold scale
    rw [tiny_eq, if_pos hq]
    refine (bits_field 127 (by omega) (by omega)).trans (p2_one.trans ?_)
    simp [Ideal.div]
  · obtain ⟨n, h1, h2, hf, hs⟩ := scale_cases q hq
    rw [decide_eq_false hq, hf, hs]
    have e : IntOp.subi 127#32 (IntOp.subi (BitVec.ofNat 32 n) 126#32) = BitVec.ofNat 32 (253 - n) := by
      show 127#32 - (BitVec.ofNat 32 n - 126#32) = _
      rw [eq_comm, show (127#32 - (BitVec.ofNat 32 n - 126#32) : BitVec 32) = 253#32 - BitVec.ofNat 32 n by rw [show (253#32 : BitVec 32) = 127#32 + 126#32 from rfl]; ring]
      rw [eq_sub_iff_add_eq, ← BitVec.ofNat_add, show 253 - n + n = 253 by omega]
    show Ideal.ofBits .f32 (IntOp.shli .vector (IntOp.subi 127#32 (IntOp.subi (BitVec.ofNat 32 n) 126#32)) 23#32) = _
    rw [e, bits_field _ (by omega) (by omega)]
    have hne : p2 (n + 1) ≠ 0 := by
      unfold p2
      exact EReal.coe_ne_zero.mpr (zpow_ne_zero _ (by norm_num))
    unfold Ideal.div
    rw [if_neg hne, one_mul]
    unfold p2
    rw [← EReal.coe_inv, ← zpow_neg]
    refine congrArg (fun x : ℤ => (((2 : ℝ) ^ x : ℝ) : EReal)) ?_
    omega

end Cert.HeadsIdeal.Val
end
-- ==== Proof.JPay.lean ====
module

public import proofs.«01_k».proof.Proof.JFrame
public import proofs.«01_k».proof.Proof.JScale
public import Idealize.ShloMosaic.Lib.Pipeline.ValueKit
public import Idealize.ShloMosaic.Lib.Pointwise

@[expose] public section

set_option maxRecDepth 16384

noncomputable section

namespace Cert.HeadsIdeal.Val

open Idealize.ShloMosaic Idealize.ShloMosaic.TcCoe Idealize.SL.Sem Cert.HeadsIdeal Cert.HeadsIdeal.Gen

/-! ## One row of a head -/

/-- The head's linear layer, -/
def zz (X : Fin 2048 → EReal) (s : EReal) (W : Fin 2048 → Fin 2048 → EReal) (B : Fin 2048 → EReal) (o : Fin 2048) : EReal :=
  (∑ d : Fin 2048, X d * W d o) * s + B o

/-- the residual block: the input and the silu of the layer, -/
def rr (X : Fin 2048 → EReal) (s : EReal) (W : Fin 2048 → Fin 2048 → EReal) (B : Fin 2048 → EReal) (o : Fin 2048) : EReal :=
  X o * s + zz X s W B o * Ideal.logistic (zz X s W B o)

/-- the silu's derivative, -/
def ds (X : Fin 2048 → EReal) (s : EReal) (W : Fin 2048 → Fin 2048 → EReal) (B : Fin 2048 → EReal) (o : Fin 2048) : EReal :=
  Ideal.logistic (zz X s W B o) * (1 + zz X s W B o * (1 - Ideal.logistic (zz X s W B o)))

/-- the row's largest magnitude over the format's, -/
def qq (X : Fin 2048 → EReal) (s : EReal) (W : Fin 2048 → Fin 2048 → EReal) (B : Fin 2048 → EReal) : EReal :=
  Finset.fold max (Ideal.ofBits .f32 0xFF800000#32) (fun o : Fin 2048 => max (rr X s W B o) (-(rr X s W B o))) Finset.univ * Ideal.ofBits .f32 0x3B124925#32

/-- and the code of one of its elements. -/
def cc (X : Fin 2048 → EReal) (s : EReal) (W : Fin 2048 → Fin 2048 → EReal) (B : Fin 2048 → EReal) (o : Fin 2048) : EReal :=
  min (Ideal.ofBits .f32 0x43E00000#32) (max (Ideal.ofBits .f32 0xC3E00000#32) (rr X s W B o * Ideal.div 1 (scale (qq X s W B))))

/-! ## The body's payloads at an element -/

section
variable (x3 : Vec Ideal S256x2048 .fp8e4m3) (x4 : Vec Ideal S256x1 .f32) (x5 : Vec Ideal S1x2048x2048 .bf16) (x6 : Vec Ideal S1x1x2048 .f32)

/-- A row of the block of the input, -/
abbrev rX (r : Fin 256) : Fin 2048 → EReal := fun d => x3 (ix2 (n0 := 256) (n1 := 2048) r d)
/-- its scale, -/
abbrev rS (r : Fin 256) : EReal := x4 (ix2 (n0 := 256) (n1 := 1) r 0)
/-- the head's weights, -/
abbrev rW : Fin 2048 → Fin 2048 → EReal := fun d o => x5 (ix3 (n0 := 1) (n1 := 2048) (n2 := 2048) 0 d o)
/-- and its bias. -/
abbrev rB : Fin 2048 → EReal := fun o => x6 (ix3 (n0 := 1) (n1 := 1) (n2 := 2048) 0 0 o)

theorem pay5_at (r : Fin 256) (o : Fin 2048) : k0_pay5 (F := Ideal) x4 x3 x5 x6 (ix2 (n0 := 256) (n1 := 2048) r o) = zz (rX x3 r) (rS x4 r) (rW x5) (rB x6) o := by
  pointwise [k0_pay5, k0_pay4]
  rfl

theorem pay6_at (r : Fin 256) (o : Fin 2048) : k0_pay6 (F := Ideal) x4 x3 x5 x6 (ix2 (n0 := 256) (n1 := 2048) r o) = Ideal.logistic (zz (rX x3 r) (rS x4 r) (rW x5) (rB x6) o) := by
  rw [← pay5_at]
  rfl

theorem pay7_at (r : Fin 256) (o : Fin 2048) : k0_pay7 (F := Ideal) x4 x3 x5 x6 x3 (ix2 (n0 := 256) (n1 := 2048) r o) = rr (rX x3 r) (rS x4 r) (rW x5) (rB x6) o := by
  pointwise [k0_pay7, k0_pay4]
  rw [pay5_at, pay6_at]
  rfl

theorem pay8_at (r : Fin 256) (o : Fin 2048) : k0_pay8 (F := Ideal) x4 x3 x5 x6 (ix3 (n0 := 1) (n1 := 256) (n2 := 2048) 0 r o) = ds (rX x3 r) (rS x4 r) (rW x5) (rB x6) o := by
  pointwise [k0_pay8]
  rw [pay5_at, pay6_at]
  rfl

theorem mx_at (r : Fin 256) : mxOf (F := Ideal) x3 x4 x5 x6 (ix1 (n0 := 256) r)
    = Finset.fold max (Ideal.ofBits .f32 0xFF800000#32) (fun o : Fin 2048 => max (rr (rX x3 r) (rS x4 r) (rW x5) (rB x6) o) (-(rr (rX x3 r) (rS x4 r) (rW x5) (rB x6) o))) Finset.univ := by
  unfold mxOf
  pointwise [k0_pay9]
  simp only [pay7_at]
  rfl

/-! ## The search for the exponent field -/

/-- One step of the search, over all rows. -/
def stepV (q : FVec Ideal S256x1 .f32) (f : IVec S256x1 32) (w : BitVec 32) : IVec S256x1 32 :=
  select (cmpf .olt q (bitcastToFloat .f32 (shli (addi f (broadcast S256x1 w)) (broadcast S256x1 23#32)))) f (addi f (broadcast S256x1 w))

theorem stepV_at (q : FVec Ideal S256x1 .f32) (f : IVec S256x1 32) (w : BitVec 32) (i : S256x1.Idx) : stepV q f w i = step (q i) (f i) w := rfl

theorem pay12_eq (M : FVec Ideal S256 .f32) : k0_pay12 M
    = stepV (k0_pay10 M) (stepV (k0_pay10 M) (stepV (k0_pay10 M) (stepV (k0_pay10 M) (stepV (k0_pay10 M) (broadcast S256x1 0#32) 124#32) 64#32) 32#32) 16#32) 8#32 := rfl

/-- The exponents, over all rows. -/
abbrev expoV (M : FVec Ideal S256 .f32) : IVec S256x1 32 := k0_pay15 (k0_pay10 M) (k0_pay11 M) (k0_pay12 M) (k0_pay13 M) (k0_pay14 M)

theorem expoV_eq (M : FVec Ideal S256 .f32) : expoV M
    = select (cmpf .olt (k0_pay10 M) (broadcast S256x1 (Scalar.ofBits .f32 0x00800000#32))) (broadcast S256x1 0#32)
        (subi (stepV (k0_pay10 M) (stepV (k0_pay10 M) (stepV (k0_pay10 M) (k0_pay12 M) 4#32) 2#32) 1#32) (broadcast S256x1 126#32)) := rfl

theorem expoV_at (M : FVec Ideal S256 .f32) (i : S256x1.Idx) :
    k0_pay15 (k0_pay10 M) (k0_pay11 M) (k0_pay12 M) (k0_pay13 M) (k0_pay14 M) i = expo (k0_pay10 M i) := by
  refine (congrFun (expoV_eq M) i).trans ?_
  rw [pay12_eq]
  generalize k0_pay10 M = q
  show Scalar.select (FloatOps.cmpf (F := Ideal) (φ := .f32) .olt (q i) (Ideal.ofBits .f32 0x00800000#32)) 0#32 (IntOp.subi (stepV _ _ _ i) 126#32) = _
  unfold expo field
  simp only [stepV_at]
  rfl

theorem pay10_at (M : FVec Ideal S256 .f32) (r : Fin 256) : (k0_pay10 M (ix2 (n0 := 256) (n1 := 1) r 0) : EReal) = M (ix1 (n0 := 256) r) * Ideal.ofBits .f32 0x3B124925#32 := by
  pointwise [k0_pay10]

theorem q_at (r : Fin 256) : (k0_pay10 (mxOf (F := Ideal) x3 x4 x5 x6) (ix2 (n0 := 256) (n1 := 1) r 0) : EReal) = qq (rX x3 r) (rS x4 r) (rW x5) (rB x6) := by
  rw [pay10_at, mx_at]
  rfl

/-- The head's codes at an element, -/
theorem codes_at (r : Fin 256) (o : Fin 2048) : codesOf (F := Ideal) x3 x4 x5 x6 (ix3 (n0 := 1) (n1 := 256) (n2 := 2048) 0 r o) = cc (rX x3 r) (rS x4 r) (rW x5) (rB x6) o := by
  unfold codesOf
  pointwise [k0_pay17, k0_pay16]
  rw [pay7_at, expoV_at, q_at]
  exact congrArg (fun z : EReal => min (Ideal.ofBits .f32 0x43E00000#32) (max (Ideal.ofBits .f32 0xC3E00000#32) (rr (rX x3 r) (rS x4 r) (rW x5) (rB x6) o * z))) (invK_eq _)

/-- and its scales. -/
theorem scales_at (r : Fin 256) : scaleOf (F := Ideal) x3 x4 x5 x6 (ix3 (n0 := 1) (n1 := 1) (n2 := 256) 0 0 r) = scale (qq (rX x3 r) (rS x4 r) (rW x5) (rB x6)) := by
  unfold scaleOf
  pointwise [k0_pay20, k0_pay19, k0_pay18]
  rw [expoV_at, q_at]
  exact scaleK_eq _

end

end Cert.HeadsIdeal.Val
end
-- ==== Proof.JValue.lean ====
module

public import proofs.«01_k».proof.Proof.JPay
public import Idealize.ShloMosaic.Lib.Claim

@[expose] public section

set_option maxRecDepth 16384

noncomputable section

namespace Cert.HeadsIdeal.Val

open Idealize.ShloMosaic Idealize.ShloMosaic.TcCoe Idealize.SL.Sem Cert.HeadsIdeal Cert.HeadsIdeal.Gen

/-! ## The results as functions of the arguments -/

/-- A row of the input: the sequences one after another, -/
abbrev aX (a3 : Vec Ideal S2x128x2048 .fp8e4m3) (r : Fin 256) : Fin 2048 → EReal :=
  fun d => a3 (ix3 (n0 := 2) (n1 := 128) (n2 := 2048) ⟨r.val / 128, by have := r.isLt; omega⟩ ⟨r.val % 128, by omega⟩ d)
/-- its scale, -/
abbrev aS (a4 : Vec Ideal S2x128 .f32) (r : Fin 256) : EReal :=
  a4 (ix2 (n0 := 2) (n1 := 128) ⟨r.val / 128, by have := r.isLt; omega⟩ ⟨r.val % 128, by omega⟩)
/-- a head's weights, -/
abbrev aW (a5 : Vec Ideal S5x2048x2048 .bf16) (k : Fin 5) : Fin 2048 → Fin 2048 → EReal := fun d o => a5 (ix3 (n0 := 5) (n1 := 2048) (n2 := 2048) k d o)
/-- and its bias. -/
abbrev aB (a6 : Vec Ideal S5x2048 .f32) (k : Fin 5) : Fin 2048 → EReal := fun o => a6 (ix2 (n0 := 5) (n1 := 2048) k o)

section
variable (a3 : Vec Ideal S2x128x2048 .fp8e4m3) (a4 : Vec Ideal S2x128 .f32) (a5 : Vec Ideal S5x2048x2048 .bf16) (a6 : Vec Ideal S5x2048 .f32)

/-- The codes of the heads' activations, -/
def codes : Vec Ideal S5x256x2048 .fp8e4m3 := fun i => cc (aX a3 (i 1)) (aS a4 (i 1)) (aW a5 (i 0)) (aB a6 (i 0)) (i 2)
/-- their scales, -/
def scales : Vec Ideal S5x1x256 .f32 := fun i => scale (qq (aX a3 (i 2)) (aS a4 (i 2)) (aW a5 (i 0)) (aB a6 (i 0)))
/-- and the silu's derivatives. -/
def dsilu : Vec Ideal S5x256x2048 .f32 := fun i => ds (aX a3 (i 1)) (aS a4 (i 1)) (aW a5 (i 0)) (aB a6 (i 0)) (i 2)
end

/-! ## The operands at an element -/

variable (m : (ℓ : Loc nD τ sig) → Buf (Elt Ideal) ℓ)

/-- The block each window holds at a grid point: a head's. -/
theorem idxV : ∀ t : Fin cfg0.N, win0_3.index t = ![0, 0] ∧ win0_4.index t = ![0, 0] ∧ win0_5.index t = ![t.val, 0, 0] ∧ win0_6.index t = ![t.val, 0, 0]
    ∧ win0_9.index t = ![t.val, 0, 0] ∧ win0_10.index t = ![t.val, 0, 0] ∧ win0_11.index t = ![t.val, 0, 0] :=
  (by decide +kernel : ∀ t : Fin grid0.N, _)

theorem v0_at (c : Dev nD) (r : Fin 256) (d : Fin 2048) : (V m c main_v0 (ix2 (n0 := 256) (n1 := 2048) r d) : EReal) = aX (m ((c : Thread nD τ).loc main_arg3)) r d := by
  unfold V; after_results
  pointwise

theorem v1_at (c : Dev nD) (r : Fin 256) : (V m c main_v1 (ix2 (n0 := 256) (n1 := 1) r 0) : EReal) = aS (m ((c : Thread nD τ).loc main_arg4)) r := by
  unfold V; after_results
  pointwise

theorem v3_at (c : Dev nD) (k : Fin 5) (o : Fin 2048) : (V m c main_v3 (ix3 (n0 := 5) (n1 := 1) (n2 := 2048) k 0 o) : EReal) = aB (m ((c : Thread nD τ).loc main_arg6)) k o := by
  unfold V; after_results
  pointwise

theorem rX_at (c : Dev nD) (t : Fin cfg0.N) (r : Fin 256) : rX (iblk m c 3 t) r = aX (m ((c : Thread nD τ).loc main_arg3)) r := funext fun d =>
  (show iblk m c 3 t (ix2 (n0 := 256) (n1 := 2048) r d) = V m c main_v0 (ix2 (n0 := 256) (n1 := 2048) r d) by blk_ext [iblk, idxV t]).trans (v0_at m c r d)

theorem rS_at (c : Dev nD) (t : Fin cfg0.N) (r : Fin 256) : rS (iblk m c 4 t) r = aS (m ((c : Thread nD τ).loc main_arg4)) r :=
  (show iblk m c 4 t (ix2 (n0 := 256) (n1 := 1) r 0) = V m c main_v1 (ix2 (n0 := 256) (n1 := 1) r 0) by blk_ext [iblk, idxV t]).trans (v1_at m c r)

theorem rW_at (c : Dev nD) (t : Fin cfg0.N) (k : Fin 5) (hk : k.val = t.val) : rW (iblk m c 5 t) = aW (m ((c : Thread nD τ).loc main_arg5)) k := funext fun d => funext fun o => by
  show iblk m c 5 t (ix3 (n0 := 1) (n1 := 2048) (n2 := 2048) 0 d o) = (m ((c : Thread nD τ).loc main_arg5) : Vec Ideal S5x2048x2048 .bf16) (ix3 (n0 := 5) (n1 := 2048) (n2 := 2048) k d o)
  blk_ext [iblk, V, idxV t]

theorem rB_at (c : Dev nD) (t : Fin cfg0.N) (k : Fin 5) (hk : k.val = t.val) : rB (iblk m c 6 t) = aB (m ((c : Thread nD τ).loc main_arg6)) k := funext fun o =>
  (show iblk m c 6 t (ix3 (n0 := 1) (n1 := 1) (n2 := 2048) 0 0 o) = V m c main_v3 (ix3 (n0 := 5) (n1 := 1) (n2 := 2048) k 0 o) by blk_ext [iblk, idxV t]).trans (v3_at m c k o)

/-! ## The results after the run -/

/-- What the kernel leaves in its first result, -/
theorem final9 (c : Dev nD) : (dats m 0 c).arrAt 9 cfg0.N
    = codes (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨u, r, o, rfl⟩ : ∃ (u : Fin 1) (r : Fin 256) (o : Fin 2048), y = ix3 u r o := ⟨y 0, y 1, y 2, eq_ix3 y⟩
  obtain rfl : u = 0 := Subsingleton.elim _ _
  have hN : t.val < 5 := lt_of_lt_of_eq t.isLt (show cfg0.N = 5 from N_0)
  have e : ((cfg0.win 9).blk t).view.emb (ix3 (n0 := 1) (n1 := 256) (n2 := 2048) 0 r o) = ix3 (n0 := 5) (n1 := 256) (n2 := 2048) ⟨t.val, hN⟩ r o := by
    blk_ext [idxV t]
  blk_simp
  rw [after0_9]
  refine (codes_at _ _ _ _ r o).trans ?_
  rw [rX_at, rS_at, rW_at m c t ⟨t.val, hN⟩ rfl, rB_at m c t ⟨t.val, hN⟩ rfl]
  exact (congrArg (codes (m ((c : Thread nD τ).loc main_arg3)) (m ((c : Thread nD τ).loc main_arg4)) (m ((c : Thread nD τ).loc main_arg5)) (m ((c : Thread nD τ).loc main_arg6))) e).symm

/-- in its second -/
theorem final10 (c : Dev nD) : (dats m 0 c).arrAt 10 cfg0.N
    = scales (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  obtain ⟨u, v, r, rfl⟩ : ∃ (u : Fin 1) (v : Fin 1) (r : Fin 256), y = ix3 u v r := ⟨y 0, y 1, y 2, eq_ix3 y⟩
  obtain rfl : u = 0 := Subsingleton.elim _ _
  obtain rfl : v = 0 := Subsingleton.elim _ _
  have hN : t.val < 5 := lt_of_lt_of_eq t.isLt (show cfg0.N = 5 from N_0)
  have e : ((cfg0.win 10).blk t).view.emb (ix3 (n0 := 1) (n1 := 1) (n2 := 256) 0 0 r) = ix3 (n0 := 5) (n1 := 1) (n2 := 256) ⟨t.val, hN⟩ 0 r := by
    blk_ext [idxV t]
  blk_simp
  rw [after0_10]
  refine (scales_at _ _ _ _ r).trans ?_
  rw [rX_at, rS_at, rW_at m c t ⟨t.val, hN⟩ rfl, rB_at m c t ⟨t.val, hN⟩ rfl]
  exact (congrArg (scales (m ((c : Thread nD τ).loc main_arg3)) (m ((c : Thread nD τ).loc main_arg4)) (m ((c : Thread nD τ).loc main_arg5)) (m ((c : Thread nD τ).loc main_arg6))) e).symm

/-- and in its third. -/
theorem final11 (c : Dev nD) : (dats m 0 c).arrAt 11 cfg0.N
    = dsilu (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  obtain ⟨u, r, o, rfl⟩ : ∃ (u : Fin 1) (r : Fin 256) (o : Fin 2048), y = ix3 u r o := ⟨y 0, y 1, y 2, eq_ix3 y⟩
  obtain rfl : u = 0 := Subsingleton.elim _ _
  have hN : t.val < 5 := lt_of_lt_of_eq t.isLt (show cfg0.N = 5 from N_0)
  have e : ((cfg0.win 11).blk t).view.emb (ix3 (n0 := 1) (n1 := 256) (n2 := 2048) 0 r o) = ix3 (n0 := 5) (n1 := 256) (n2 := 2048) ⟨t.val, hN⟩ r o := by
    blk_ext [idxV t]
  blk_simp
  rw [after0_11]
  refine (pay8_at _ _ _ _ r o).trans ?_
  rw [rX_at, rS_at, rW_at m c t ⟨t.val, hN⟩ rfl, rB_at m c t ⟨t.val, hN⟩ rfl]
  exact (congrArg (dsilu (m ((c : Thread nD τ).loc main_arg3)) (m ((c : Thread nD τ).loc main_arg4)) (m ((c : Thread nD τ).loc main_arg5)) (m ((c : Thread nD τ).loc main_arg6))) e).symm

end Cert.HeadsIdeal.Val
end
-- ==== Proof.JRPay.lean ====
module

public import proofs.«01_k».proof.Proof.JValue
public import proofs.«01_k».proof.Proof.Gen.HeadsRefIdeal.Value
public import Idealize.ShloMosaic.Lib.Pipeline.ValueKit
public import Idealize.ShloMosaic.Lib.Pointwise

@[expose] public section

set_option maxRecDepth 16384

noncomputable section

namespace Cert.HeadsRefIdeal.Val

open Idealize.ShloMosaic Idealize.ShloMosaic.TcCoe Idealize.SL.Sem Cert.HeadsRefIdeal Cert.HeadsRefIdeal.Gen
open Cert.HeadsIdeal.Val (zz rr ds qq cc scale aX aS aW aB codes scales dsilu)

/-! ## The reference's payloads at an element -/

section
variable (x0 : Vec Ideal S1x256x2048 .fp8e4m3) (x1 : Vec Ideal S1x256x1 .f32) (x2 : Vec Ideal S5x2048x2048 .bf16) (x3 : Vec Ideal S5x1x2048 .f32)

/-- A row of the input, -/
abbrev rX (r : Fin 256) : Fin 2048 → EReal := fun d => x0 (ix3 (n0 := 1) (n1 := 256) (n2 := 2048) 0 r d)
/-- its scale, -/
abbrev rS (r : Fin 256) : EReal := x1 (ix3 (n0 := 1) (n1 := 256) (n2 := 1) 0 r 0)
/-- a head's weights, -/
abbrev rW (k : Fin 5) : Fin 2048 → Fin 2048 → EReal := fun d o => x2 (ix3 (n0 := 5) (n1 := 2048) (n2 := 2048) k d o)
/-- and its bias. -/
abbrev rB (k : Fin 5) : Fin 2048 → EReal := fun o => x3 (ix3 (n0 := 5) (n1 := 1) (n2 := 2048) k 0 o)

theorem pay4_at (k : Fin 5) (r : Fin 256) (o : Fin 2048) : k0_pay4 (F := Ideal) x0 x2 x1 x3 (ix3 (n0 := 5) (n1 := 256) (n2 := 2048) k r o)
    = zz (rX x0 r) (rS x1 r) (rW x2 k) (rB x3 k) o := by
  pointwise [k0_pay4]
  rfl

theorem pay5_at (k : Fin 5) (r : Fin 256) (o : Fin 2048) : k0_pay5 (F := Ideal) x0 x2 x1 x3 (ix3 (n0 := 5) (n1 := 256) (n2 := 2048) k r o)
    = Ideal.logistic (zz (rX x0 r) (rS x1 r) (rW x2 k) (rB x3 k) o) := by
  rw [← pay4_at]
  rfl

theorem pay6_at (k : Fin 5) (r : Fin 256) (o : Fin 2048) : k0_pay6 (F := Ideal) x0 x2 x1 x3 (ix3 (n0 := 5) (n1 := 256) (n2 := 2048) k r o)
    = ds (rX x0 r) (rS x1 r) (rW x2 k) (rB x3 k) o := by
  pointwise [k0_pay6]
  rw [pay4_at, pay5_at]
  rfl

theorem pay7_at (k : Fin 5) (r : Fin 256) (o : Fin 2048) : k0_pay7 (F := Ideal) x0 x2 x1 x3 x0 x1 (ix3 (n0 := 5) (n1 := 256) (n2 := 2048) k r o)
    = rr (rX x0 r) (rS x1 r) (rW x2 k) (rB x3 k) o := by
  pointwise [k0_pay7]
  rw [pay4_at, pay5_at]
  rfl

theorem pay8_at (k : Fin 5) (r : Fin 256) (o : Fin 2048) : (k0_pay8 (F := Ideal) x0 x2 x1 x3 x0 x1 (ix3 (n0 := 5) (n1 := 256) (n2 := 2048) k r o) : EReal)
    = max (rr (rX x0 r) (rS x1 r) (rW x2 k) (rB x3 k) o) (-(rr (rX x0 r) (rS x1 r) (rW x2 k) (rB x3 k) o)) := by
  rw [← pay7_at]
  rfl

/-- The rows' largest magnitudes, -/
def maxV (v : FVec Ideal S5x256x2048 .f32) : FVec Ideal S5x256x1 .f32 :=
  shapeCast S5x256x1 (multiReduction .maximumf [2] S5x256 v 0xFF800000#32 reduces_S5x256x2048_S5x256 (.inl rfl) rfl) shapeCasts_S5x256_S5x256x1

/-- and these over the format's. -/
def topV (v : FVec Ideal S5x256x2048 .f32) : FVec Ideal S5x256x1 .f32 :=
  mulf (maxV v) (broadcast S5x256x1 (Scalar.ofBits (F := Ideal) .f32 0x3B124925#32))

/-- The powers of two. -/
def powV : FVec Ideal S5x256x256 .f32 :=
  exp2 (subf (sitofp .f32 (iota .tc S5x256x256 32 [2] iota_S5x256x256_d2_w32)) (broadcast S5x256x256 (Scalar.ofBits (F := Ideal) .f32 0x42FC0000#32)))

/-- The least of the powers above each row's number. -/
def leastV (q : FVec Ideal S5x256x1 .f32) (p : FVec Ideal S5x256x256 .f32) : FVec Ideal S5x256x1 .f32 :=
  shapeCast S5x256x1 (multiReduction .minimumf [2] S5x256
    (select (cmpf .ogt p (broadcastTo S5x256x256 q broadcasts_S5x256x1_S5x256x256)) p (broadcast S5x256x256 (Scalar.ofBits (F := Ideal) .f32 0x7E000000#32)))
    0x7F800000#32 reduces_S5x256x256_S5x256 (.inl rfl) rfl) shapeCasts_S5x256_S5x256x1

theorem pay1_eq (v : FVec Ideal S5x256x2048 .f32) : k0_pay1 (F := Ideal) v
    = select (cmpf .olt (topV v) (broadcast S5x256x1 (Scalar.ofBits (F := Ideal) .f32 0x00800000#32))) (broadcast S5x256x1 (Scalar.ofBits (F := Ideal) .f32 0x3F800000#32)) (leastV (topV v) powV) := rfl

theorem maxV_at (v : FVec Ideal S5x256x2048 .f32) (k : Fin 5) (r : Fin 256) : (maxV v (ix3 (n0 := 5) (n1 := 256) (n2 := 1) k r 0) : EReal)
    = Finset.fold max (Ideal.ofBits .f32 0xFF800000#32) (fun o : Fin 2048 => (v (ix3 (n0 := 5) (n1 := 256) (n2 := 2048) k r o) : EReal)) Finset.univ := by
  pointwise [maxV]

theorem mul_at (a : FVec Ideal S5x256x1 .f32) (w : BitVec 32) (i : S5x256x1.Idx) :
    (mulf a (broadcast S5x256x1 (Scalar.ofBits (F := Ideal) .f32 w) : FVec Ideal S5x256x1 .f32) : FVec Ideal S5x256x1 .f32) i = (a i : EReal) * Ideal.ofBits .f32 w := rfl

theorem topV_at (v : FVec Ideal S5x256x2048 .f32) (k : Fin 5) (r : Fin 256) : (topV v (ix3 (n0 := 5) (n1 := 256) (n2 := 1) k r 0) : EReal)
    = Finset.fold max (Ideal.ofBits .f32 0xFF800000#32) (fun o : Fin 2048 => (v (ix3 (n0 := 5) (n1 := 256) (n2 := 2048) k r o) : EReal)) Finset.univ * Ideal.ofBits .f32 0x3B124925#32 :=
  (mul_at (maxV v) 0x3B124925#32 _).trans (congrArg (fun z : EReal => z * Ideal.ofBits .f32 0x3B124925#32) (maxV_at v k r))

theorem powV_at (k : Fin 5) (r x : Fin 256) : (powV (ix3 (n0 := 5) (n1 := 256) (n2 := 256) k r x) : EReal)
    = FloatOps.exp2 (F := Ideal) (φ := .f32) (FloatOps.sitofp (F := Ideal) .f32 (BitVec.ofNat 32 x.val) - Ideal.ofBits .f32 0x42FC0000#32 : EReal) := by
  pointwise [powV]

theorem leastV_at (q : FVec Ideal S5x256x1 .f32) (p : FVec Ideal S5x256x256 .f32) (k : Fin 5) (r : Fin 256) : (leastV q p (ix3 (n0 := 5) (n1 := 256) (n2 := 1) k r 0) : EReal)
    = Finset.fold min (Ideal.ofBits .f32 0x7F800000#32) (fun x : Fin 256 => if (q (ix3 (n0 := 5) (n1 := 256) (n2 := 1) k r 0) : EReal) < p (ix3 (n0 := 5) (n1 := 256) (n2 := 256) k r x)
        then (p (ix3 (n0 := 5) (n1 := 256) (n2 := 256) k r x) : EReal) else Ideal.ofBits .f32 0x7E000000#32) Finset.univ := by
  pointwise [leastV]

theorem one_eq : (Ideal.ofBits .f32 0x3F800000#32 : EReal) = 1 :=
  (Cert.HeadsIdeal.Val.bits_field 127 (by omega) (by omega)).trans Cert.HeadsIdeal.Val.p2_one

theorem pick_at (q y : FVec Ideal S5x256x1 .f32) (i : S5x256x1.Idx) :
    (select (cmpf .olt q (broadcast S5x256x1 (Scalar.ofBits (F := Ideal) .f32 0x00800000#32) : FVec Ideal S5x256x1 .f32)) (broadcast S5x256x1 (Scalar.ofBits (F := Ideal) .f32 0x3F800000#32) : FVec Ideal S5x256x1 .f32) y : FVec Ideal S5x256x1 .f32) i
    = if (q i : EReal) < Ideal.ofBits .f32 0x00800000#32 then (1 : EReal) else y i := by
  show Scalar.select (BitVec.ofBool (decide ((q i : EReal) < Ideal.ofBits .f32 0x00800000#32))) (Ideal.ofBits .f32 0x3F800000#32 : EReal) (y i) = _
  rw [WordCmp.select_ofBool, one_eq]
  simp only [decide_eq_true_eq]

theorem pay1_at (v : FVec Ideal S5x256x2048 .f32) (k : Fin 5) (r : Fin 256) : k0_pay1 (F := Ideal) v (ix3 (n0 := 5) (n1 := 256) (n2 := 1) k r 0)
    = scale (Finset.fold max (Ideal.ofBits .f32 0xFF800000#32) (fun o : Fin 2048 => (v (ix3 (n0 := 5) (n1 := 256) (n2 := 2048) k r o) : EReal)) Finset.univ * Ideal.ofBits .f32 0x3B124925#32) := by
  rw [pay1_eq]
  refine (pick_at _ _ _).trans ?_
  rw [leastV_at, topV_at]
  simp only [powV_at]
  unfold scale
  rfl

/-- The scale of a row, -/
theorem scale_at (k : Fin 5) (r : Fin 256) : k0_pay1 (F := Ideal) (k0_pay8 x0 x2 x1 x3 x0 x1) (ix3 (n0 := 5) (n1 := 256) (n2 := 1) k r 0)
    = scale (qq (rX x0 r) (rS x1 r) (rW x2 k) (rB x3 k)) := by
  rw [pay1_at]
  simp only [pay8_at]
  rfl

/-- as it is stored, -/
theorem pay3_at (k : Fin 5) (r : Fin 256) : k0_pay3 (F := Ideal) (k0_pay8 x0 x2 x1 x3 x0 x1) (ix3 (n0 := 5) (n1 := 1) (n2 := 256) k 0 r)
    = scale (qq (rX x0 r) (rS x1 r) (rW x2 k) (rB x3 k)) := by
  pointwise [k0_pay3]
  exact scale_at x0 x1 x2 x3 k r

theorem spread_at (s : FVec Ideal S5x256x1 .f32) (k : Fin 5) (r : Fin 256) (o : Fin 2048) :
    (broadcastTo S5x256x2048 s broadcasts_S5x256x1_S5x256x2048 : FVec Ideal S5x256x2048 .f32) (ix3 (n0 := 5) (n1 := 256) (n2 := 2048) k r o) = s (ix3 (n0 := 5) (n1 := 256) (n2 := 1) k r 0) := by
  pointwise

theorem clamp_at (v y : FVec Ideal S5x256x2048 .f32) (a b : BitVec 32) (i : S5x256x2048.Idx) :
    (truncf .fp8e4m3 (minimumf (broadcast S5x256x2048 (Scalar.ofBits (F := Ideal) .f32 a) : FVec Ideal S5x256x2048 .f32)
      (maximumf (broadcast S5x256x2048 (Scalar.ofBits (F := Ideal) .f32 b) : FVec Ideal S5x256x2048 .f32) (mulf v y))) bitsLt_fp8e4m3_f32 : FVec Ideal S5x256x2048 .fp8e4m3) i
    = min (Ideal.ofBits .f32 a) (max (Ideal.ofBits .f32 b) ((v i : EReal) * y i)) := rfl

theorem recip_at (s : FVec Ideal S5x256x1 .f32) (w : BitVec 32) (i : S5x256x1.Idx) :
    (divf (broadcast S5x256x1 (Scalar.ofBits (F := Ideal) .f32 w) : FVec Ideal S5x256x1 .f32) s : FVec Ideal S5x256x1 .f32) i = Ideal.div (Ideal.ofBits .f32 w) (s i) := rfl

theorem pay2_eq (v w : FVec Ideal S5x256x2048 .f32) : k0_pay2 (F := Ideal) v w
    = truncf .fp8e4m3 (minimumf (broadcast S5x256x2048 (Scalar.ofBits (F := Ideal) .f32 0x43E00000#32) : FVec Ideal S5x256x2048 .f32)
      (maximumf (broadcast S5x256x2048 (Scalar.ofBits (F := Ideal) .f32 0xC3E00000#32) : FVec Ideal S5x256x2048 .f32)
        (mulf v (broadcastTo S5x256x2048 (divf (broadcast S5x256x1 (Scalar.ofBits (F := Ideal) .f32 0x3F800000#32) : FVec Ideal S5x256x1 .f32) (k0_pay1 (F := Ideal) w))
          broadcasts_S5x256x1_S5x256x2048)))) bitsLt_fp8e4m3_f32 := rfl

theorem code_at (v w : FVec Ideal S5x256x2048 .f32) (k : Fin 5) (r : Fin 256) (o : Fin 2048) :
    (k0_pay2 (F := Ideal) v w (ix3 (n0 := 5) (n1 := 256) (n2 := 2048) k r o) : EReal)
    = min (Ideal.ofBits .f32 0x43E00000#32) (max (Ideal.ofBits .f32 0xC3E00000#32)
        (v (ix3 (n0 := 5) (n1 := 256) (n2 := 2048) k r o) * Ideal.div 1 (k0_pay1 (F := Ideal) w (ix3 (n0 := 5) (n1 := 256) (n2 := 1) k r 0)))) := by
  rw [pay2_eq]
  generalize k0_pay1 (F := Ideal) w = s
  refine (clamp_at _ _ _ _ _).trans ?_
  rw [spread_at, recip_at, one_eq]

/-- and the codes of a row. -/
theorem pay2_at (k : Fin 5) (r : Fin 256) (o : Fin 2048) :
    k0_pay2 (F := Ideal) (k0_pay7 x0 x2 x1 x3 x0 x1) (k0_pay8 x0 x2 x1 x3 x0 x1) (ix3 (n0 := 5) (n1 := 256) (n2 := 2048) k r o)
    = cc (rX x0 r) (rS x1 r) (rW x2 k) (rB x3 k) o := by
  refine (code_at _ _ k r o).trans ?_
  rw [pay7_at, scale_at]
  rfl

/-! ## What the body leaves in each result -/

theorem ld0 : View.ld x0 r0_0 = x0 := View.ld_unit_zero (by decide) _ x0
theorem ld1 : View.ld x1 r0_2 = x1 := View.ld_unit_zero (by decide) _ x1
theorem ld2 : View.ld x2 r0_1 = x2 := View.ld_unit_zero (by decide) _ x2
theorem ld3 : View.ld x3 r0_3 = x3 := View.ld_unit_zero (by decide) _ x3

end

end Cert.HeadsRefIdeal.Val
end
-- ==== Proof.JRef.lean ====
module

public import proofs.«01_k».proof.Proof.JRPay
public import proofs.«01_k».proof.Proof.Gen.HeadsRefIdeal.Value
public import Idealize.ShloMosaic.Lib.Pipeline.ValueKit
public import Idealize.ShloMosaic.Lib.Pointwise

@[expose] public section

set_option maxRecDepth 16384

noncomputable section

namespace Cert.HeadsRefIdeal.Val

open Idealize.ShloMosaic Idealize.ShloMosaic.TcCoe Idealize.SL.Sem Cert.HeadsRefIdeal Cert.HeadsRefIdeal.Gen
open Cert.HeadsIdeal.Val (zz rr ds qq cc scale aX aS aW aB codes scales dsilu)

/-! ## What the body leaves in each result -/

section
variable (x0 : Vec Ideal S1x256x2048 .fp8e4m3) (x1 : Vec Ideal S1x256x1 .f32) (x2 : Vec Ideal S5x2048x2048 .bf16) (x3 : Vec Ideal S5x1x2048 .f32)

theorem out4_eq : out0_4 (F := Ideal) x0 x1 x2 x3 = k0_pay2 (k0_pay7 x0 x2 x1 x3 x0 x1) (k0_pay8 x0 x2 x1 x3 x0 x1) := by
  unfold out0_4 k0_pay9
  rw [ld0, ld1, ld2, ld3]
  exact View.canon_unit_zero (by decide) _ _

theorem out5_eq : out0_5 (F := Ideal) x0 x1 x2 x3 = k0_pay3 (k0_pay8 x0 x2 x1 x3 x0 x1) := by
  unfold out0_5 k0_pay9
  rw [ld0, ld1, ld2, ld3]
  exact View.canon_unit_zero (by decide) _ _

theorem out6_eq : out0_6 (F := Ideal) x0 x1 x2 x3 = k0_pay6 x0 x2 x1 x3 := by
  unfold out0_6
  rw [ld0, ld1, ld2, ld3]
  exact View.canon_unit_zero (by decide) _ _

end

/-! ## The operands at an element -/

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] :=
  (by decide +kernel : ∀ t : Fin grid0.N, _)

theorem v0_at (c : Dev nD) (r : Fin 256) (d : Fin 2048) : (V m c main_v0 (ix3 (n0 := 1) (n1 := 256) (n2 := 2048) 0 r d) : EReal) = aX (m ((c : Thread nD τ).loc main_arg3)) r d := by
  unfold V; after_results
  pointwise

theorem v1_at (c : Dev nD) (r : Fin 256) : (V m c main_v1 (ix3 (n0 := 1) (n1 := 256) (n2 := 1) 0 r 0) : EReal) = aS (m ((c : Thread nD τ).loc main_arg4)) r := by
  unfold V; after_results
  pointwise

theorem v2_at (c : Dev nD) (k : Fin 5) (o : Fin 2048) : (V m c main_v2 (ix3 (n0 := 5) (n1 := 1) (n2 := 2048) k 0 o) : EReal) = aB (m ((c : Thread nD τ).loc main_arg6)) k o := by
  unfold V; after_results
  pointwise

theorem rX_at (c : Dev nD) (r : Fin 256) : rX (iblk m c 0 t0_0) r = aX (m ((c : Thread nD τ).loc main_arg3)) r := funext fun d =>
  (show iblk m c 0 t0_0 (ix3 (n0 := 1) (n1 := 256) (n2 := 2048) 0 r d) = V m c main_v0 (ix3 (n0 := 1) (n1 := 256) (n2 := 2048) 0 r d) by blk_ext [iblk, idx t0_0]).trans (v0_at m c r d)

theorem rS_at (c : Dev nD) (r : Fin 256) : rS (iblk m c 1 t0_0) r = aS (m ((c : Thread nD τ).loc main_arg4)) r :=
  (show iblk m c 1 t0_0 (ix3 (n0 := 1) (n1 := 256) (n2 := 1) 0 r 0) = V m c main_v1 (ix3 (n0 := 1) (n1 := 256) (n2 := 1) 0 r 0) by blk_ext [iblk, idx t0_0]).trans (v1_at m c r)

theorem rW_at (c : Dev nD) (k : Fin 5) : rW (iblk m c 2 t0_0) k = aW (m ((c : Thread nD τ).loc main_arg5)) k := funext fun d => funext fun o => by
  show iblk m c 2 t0_0 (ix3 (n0 := 5) (n1 := 2048) (n2 := 2048) k d o) = (m ((c : Thread nD τ).loc main_arg5) : Vec Ideal S5x2048x2048 .bf16) (ix3 (n0 := 5) (n1 := 2048) (n2 := 2048) k d o)
  blk_ext [iblk, V, idx t0_0]

theorem rB_at (c : Dev nD) (k : Fin 5) : rB (iblk m c 3 t0_0) k = aB (m ((c : Thread nD τ).loc main_arg6)) k := funext fun o =>
  (show iblk m c 3 t0_0 (ix3 (n0 := 5) (n1 := 1) (n2 := 2048) k 0 o) = V m c main_v2 (ix3 (n0 := 5) (n1 := 1) (n2 := 2048) k 0 o) by blk_ext [iblk, idx t0_0]).trans (v2_at m c k o)

/-! ## The results after the run -/

/-- What the reference leaves in its first result, -/
theorem final4 (c : Dev nD) : (dats m 0 c).arrAt 4 cfg0.N
    = codes (m ((c : Thread nD τ).loc main_arg3)) (m ((c : Thread nD τ).loc main_arg4)) (m ((c : Thread nD τ).loc main_arg5)) (m ((c : Thread nD τ).loc main_arg6)) := by
  refine (dats m 0 c).arrAt_eq_of_after_last 4 t0_0 (by decide +kernel) _ fun j => ?_
  obtain ⟨k, r, o, rfl⟩ : ∃ (k : Fin 5) (r : Fin 256) (o : Fin 2048), j = ix3 k r o := ⟨j 0, j 1, j 2, eq_ix3 j⟩
  blk_simp; rw [after0_4]; rw [out4_eq]
  refine (pay2_at (iblk m c 0 t0_0) (iblk m c 1 t0_0) (iblk m c 2 t0_0) (iblk m c 3 t0_0) k r o).trans ?_
  rw [rX_at, rS_at, rW_at, rB_at]
  rfl

/-- in its second -/
theorem final5 (c : Dev nD) : (dats m 0 c).arrAt 5 cfg0.N
    = scales (m ((c : Thread nD τ).loc main_arg3)) (m ((c : Thread nD τ).loc main_arg4)) (m ((c : Thread nD τ).loc main_arg5)) (m ((c : Thread nD τ).loc main_arg6)) := by
  refine (dats m 0 c).arrAt_eq_of_after_last 5 t0_0 (by decide +kernel) _ fun j => ?_
  obtain ⟨k, u, r, rfl⟩ : ∃ (k : Fin 5) (u : Fin 1) (r : Fin 256), j = ix3 k u r := ⟨j 0, j 1, j 2, eq_ix3 j⟩
  obtain rfl : u = 0 := Subsingleton.elim _ _
  blk_simp; rw [after0_5]; rw [out5_eq]
  refine (pay3_at (iblk m c 0 t0_0) (iblk m c 1 t0_0) (iblk m c 2 t0_0) (iblk m c 3 t0_0) k r).trans ?_
  rw [rX_at, rS_at, rW_at, rB_at]
  rfl

/-- and in its third. -/
theorem final6 (c : Dev nD) : (dats m 0 c).arrAt 6 cfg0.N
    = dsilu (m ((c : Thread nD τ).loc main_arg3)) (m ((c : Thread nD τ).loc main_arg4)) (m ((c : Thread nD τ).loc main_arg5)) (m ((c : Thread nD τ).loc main_arg6)) := by
  refine (dats m 0 c).arrAt_eq_of_after_last 6 t0_0 (by decide +kernel) _ fun j => ?_
  obtain ⟨k, r, o, rfl⟩ : ∃ (k : Fin 5) (r : Fin 256) (o : Fin 2048), j = ix3 k r o := ⟨j 0, j 1, j 2, eq_ix3 j⟩
  blk_simp; rw [after0_6]; rw [out6_eq]
  refine (pay6_at (iblk m c 0 t0_0) (iblk m c 1 t0_0) (iblk m c 2 t0_0) (iblk m c 3 t0_0) k r o).trans ?_
  rw [rX_at, rS_at, rW_at, rB_at]
  rfl

end Cert.HeadsRefIdeal.Val
end
-- ==== Proof.JRows.lean ====
module

public import proofs.«01_k».proof.Proof.JFrame
public import proofs.«01_k».proof.Pre_starts_fit
public import proofs.«01_k».proof.Proof.Gen.Pre_starts_fit
public import Idealize.ShloMosaic.Lib.Pipeline.ValueKit
public import Idealize.ShloMosaic.Lib.Pointwise
public import Idealize.ShloMosaic.Lib.Affine

@[expose] public section

set_option maxRecDepth 16384

noncomputable section

namespace Cert.HeadsIdeal.Val

open Idealize.ShloMosaic Idealize.ShloMosaic.TcCoe Idealize.SL.Sem Cert.HeadsIdeal Cert.HeadsIdeal.Gen

variable {F : FTy → Type} [FloatOps F]
variable (m : (ℓ : Loc nD τ sig) → Buf (Elt F) ℓ)

/-- The window of first rows is the whole array at every point. -/
theorem idxB : ∀ t : Fin cfg0.N, win0_0.index t = ![0] :=
  (by decide +kernel : ∀ t : Fin grid0.N, _)

/-- The head a grid point belongs to. -/
theorem seg : ∀ t : Fin cfg0.N, (grid0.coords t 0).val = t.val :=
  (by decide +kernel : ∀ t : Fin grid0.N, _)

/-- The word of a head's first row is the argument's. -/
theorem bw_at (c : Dev nD) (t : Fin cfg0.N) (k : Fin 5) (hk : k.val = t.val) :
    bw m c t = (m ((c : Thread nD τ).loc main_arg0) : Vec F S5 .i32) (ix1 (n0 := 5) k) := by
  have e : grid0.coords t 0 = k := Fin.ext ((seg t).trans hk.symm)
  unfold bw word
  rw [e]
  blk_ext [iblk, V, idxB t]

/-- Bases that leave room for a window and are multiples of 16 are in range wherever the body writes its rows. -/
theorem rows_of (h : ∀ (c : Dev nD) (i : S5.Idx), ((m ((c.tc : Thread nD τ).loc main_arg0) : Vec F S5 .i32) i : BitVec 32).toNat ≤ 1536
      ∧ 16 ∣ ((m ((c.tc : Thread nD τ).loc main_arg0) : Vec F S5 .i32) i : BitVec 32).toNat) : Rows m := fun c t => by
  have hN : t.val < 5 := lt_of_lt_of_eq t.isLt (show cfg0.N = 5 from N_0)
  rw [bw_at m c t ⟨t.val, hN⟩ rfl]
  obtain ⟨h1, h2⟩ := h c (ix1 (n0 := 5) ⟨t.val, hN⟩)
  refine ⟨h2, fun a => ?_, fun _ => ?_, fun a => ?_⟩
  · match a with
    | ⟨0, _⟩ => exact Nat.add_le_add_right h1 256
    | ⟨1, _⟩ => exact (Nat.zero_add 2048).le
  · exact Affine.packed_dvd (show 2 ≤ 2 from le_refl 2) (dvd_trans (by decide : (2 : ℕ) ∣ 16) h2) (by decide)
  · match a with
    | ⟨0, _⟩ => exact Nat.add_le_add_right h1 256
    | ⟨1, _⟩ => exact (Nat.zero_add 128).le

end Cert.HeadsIdeal.Val
end
-- ==== Proof.LRun.lean ====
module

public import proofs.«01_k».proof.Proof.Gen.Heads.Frame
public import proofs.«01_k».proof.Proof.Gen.Heads.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim
public import Idealize.ShloMosaic.Lib.Pipeline.ValueKit
public import Idealize.ShloMosaic.Lib.Pointwise

@[expose] public section

set_option maxRecDepth 16384

noncomputable section

namespace Cert.Heads.Val

open Idealize.ShloMosaic Idealize.ShloMosaic.TcCoe Idealize.ShloMosaic.Tactic
open Idealize.SL Idealize.SL.RA Idealize.SL.BI
open Cert.Heads Cert.Heads.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the grid point is the first, as the body computes it. -/
abbrev atFirst (i : grid0.Coords) : Prop :=
  Scalar.cmpi .ne (Scalar.extui (Scalar.cmpi .eq (BitVec.ofNat 32 (i 0).val) 0#32) : BitVec 32) 0#32 = 1#1

/-- The word a whole scalar array holds at a grid point's head. -/
abbrev word (i : grid0.Coords) (x : Vec F S5 .i32) : Elt F .i32 := x (ix1 (n0 := 5) (i 0))

/-- The largest magnitude of each row of the head's new activations, from what the body has read. -/
def mxOf (x3 : Vec F S256x2048 .fp8e4m3) (x4 : Vec F S256x1 .f32) (x5 : Vec F S1x2048x2048 .bf16) (x6 : Vec F S1x1x2048 .f32) : FVec F S256 .f32 :=
  k0_pay9 x4 x3 x5 x6 x3

/-- The head's block of the codes, -/
def codesOf (x3 : Vec F S256x2048 .fp8e4m3) (x4 : Vec F S256x1 .f32) (x5 : Vec F S1x2048x2048 .bf16) (x6 : Vec F S1x1x2048 .f32) : Vec F S1x256x2048 .fp8e4m3 :=
  k0_pay17 (k0_pay7 x4 x3 x5 x6 x3) (k0_pay10 (mxOf x3 x4 x5 x6)) (k0_pay11 (mxOf x3 x4 x5 x6)) (k0_pay12 (mxOf x3 x4 x5 x6)) (k0_pay13 (mxOf x3 x4 x5 x6)) (k0_pay14 (mxOf x3 x4 x5 x6))

/-- and of their scales. -/
def scaleOf (x3 : Vec F S256x2048 .fp8e4m3) (x4 : Vec F S256x1 .f32) (x5 : Vec F S1x2048x2048 .bf16) (x6 : Vec F S1x1x2048 .f32) : Vec F S1x1x256 .f32 :=
  k0_pay20 (k0_pay19 (k0_pay10 (mxOf x3 x4 x5 x6)) (k0_pay11 (mxOf x3 x4 x5 x6)) (k0_pay12 (mxOf x3 x4 x5 x6)) (k0_pay13 (mxOf x3 x4 x5 x6)) (k0_pay14 (mxOf x3 x4 x5 x6)))

theorem off1_at (i : grid0.Coords) : k0_off1 i 0 = (i 0).val := by
  have h : (i 0).val < 5 := (i 0).isLt
  show (BitVec.ofNat 32 (i 0).val).toNat = _
  rw [BitVec.toNat_ofNat]; exact Nat.mod_eq_of_lt (by omega)

/-- A load of one word of a whole scalar array. -/
theorem word_read (M : Memref sig .tc .smem S5 .i32) (hM : M.IsWhole) (x : Vec F S5 .i32) (i : grid0.Coords) (off : Fin 1 → ℕ)
    (inb : ∀ a, off a + S1.size a ≤ S5.size a) (ho : off 0 = (i 0).val) (y : S1.Idx) :
    View.readAt (Elt F) M.view (Rect.unit (s := S5) off S1.size inb).toLoadRect (hM.unread x) y = word i x := by
  rw [Memref.IsWhole.readAt_unread]
  refine congrArg x (funext fun a => Fin.ext ?_)
  obtain rfl : a = 0 := Subsingleton.elim _ _
  have hy : (y 0).val < 1 := (y 0).isLt
  show off 0 + 1 * (y 0).val = (i 0).val
  omega

set_option maxHeartbeats 2000000 in
/-- The body at the first point: the two arrays of all heads are also cleared. -/
theorem run_A (c : Dev nD) (i : grid0.Coords) (arg1 : Memref sig .tc .smem S5 .i32) (harg1 : arg1.IsWhole) (arg2 : Memref sig .tc .smem S5 .i32) (harg2 : arg2.IsWhole) (arg3 : Memref sig .tc .smem S5 .f32) (harg3 : arg3.IsWhole) (arg4 : Memref sig .tc .vmem S256x2048 .fp8e4m3) (harg4 : arg4.IsWhole) (arg5 : Memref sig .tc .vmem S256x1 .f32) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S1x1x256 .i32) (harg8 : arg8.IsWhole) (arg9 : Memref sig .tc .vmem S1x1x256 .i32) (harg9 : arg9.IsWhole) (arg10 : Memref sig .tc .vmem S1x256x2048 .fp8e4m3) (harg10 : arg10.IsWhole) (arg11 : Memref sig .tc .vmem S1x1x256 .f32) (harg11 : arg11.IsWhole) (arg12 : Memref sig .tc .vmem S1x256x2048 .f32) (harg12 : arg12.IsWhole) (arg13 : Memref sig .tc .vmem S1792x2048 .bf16) (harg13 : arg13.IsWhole) (arg14 : Memref sig .tc .vmem S1792x128 .f32) (harg14 : arg14.IsWhole) (hc : atFirst i)
    (x0 : Vec F S5 .i32) (x1 : Vec F S5 .i32) (x2 : Vec F S5 .f32) (x3 : Vec F S256x2048 .fp8e4m3) (x4 : Vec F S256x1 .f32) (x5 : Vec F S1x2048x2048 .bf16) (x6 : Vec F S1x1x2048 .f32) (x7 : Vec F S1x1x256 .i32) (x8 : Vec F S1x1x256 .i32) (hchk : k0_chk1 (word i x0)) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (codesOf x3 x4 x5 x6) ∗ owns (c : Thread nD τ) arg11 fullShare (scaleOf x3 x4 x5 x6) ∗ owns (c : Thread nD τ) arg12 fullShare (k0_pay8 x4 x3 x5 x6) ∗ (∃ d, owns (c : Thread nD τ) arg13 fullShare d) ∗ (∃ d, owns (c : Thread nD τ) arg14 fullShare d)) -∗ K ⟨⟩))
          ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_heads_eq_skeleton]; unfold cc0_heads_skel
    simp only [k0_part1_eq_skeleton, k0_part2_eq_skeleton, k0_part3_eq_skeleton, k0_part4_eq_skeleton]; unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc)
    have hw : run_A.sl.r c i arg1 harg1 x0 = word i x0 := word_read arg1 harg1 x0 i _ _ (off1_at i) _
    have hk : k0_chk1 (run_A.sl.r c i arg1 harg1 x0) := hw ▸ hchk
    sl_exec (disch := first | sl_exact hc | sl_exact hk)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      refine (View.read_writes_full (s := S1x256x2048) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H10]
    · iexists _; isplitr; swap; · iexact H10
      ipureintro
      refine (View.read_writes_full (s := S1x1x256) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H11]
    · iexists _; isplitr; swap; · iexact H11
      ipureintro
      refine (View.read_writes_full (s := S1x256x2048) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H12]
    · iexists _; iexists _; isplitr; swap; · iexact H12
      ipureintro; rfl
    iexists _; iexists _; isplitr; swap; · iexact H13
    ipureintro; rfl

set_option maxHeartbeats 2000000 in
/-- The body at every other point. -/
theorem run_B (c : Dev nD) (i : grid0.Coords) (arg1 : Memref sig .tc .smem S5 .i32) (harg1 : arg1.IsWhole) (arg2 : Memref sig .tc .smem S5 .i32) (harg2 : arg2.IsWhole) (arg3 : Memref sig .tc .smem S5 .f32) (harg3 : arg3.IsWhole) (arg4 : Memref sig .tc .vmem S256x2048 .fp8e4m3) (harg4 : arg4.IsWhole) (arg5 : Memref sig .tc .vmem S256x1 .f32) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S1x1x256 .i32) (harg8 : arg8.IsWhole) (arg9 : Memref sig .tc .vmem S1x1x256 .i32) (harg9 : arg9.IsWhole) (arg10 : Memref sig .tc .vmem S1x256x2048 .fp8e4m3) (harg10 : arg10.IsWhole) (arg11 : Memref sig .tc .vmem S1x1x256 .f32) (harg11 : arg11.IsWhole) (arg12 : Memref sig .tc .vmem S1x256x2048 .f32) (harg12 : arg12.IsWhole) (arg13 : Memref sig .tc .vmem S1792x2048 .bf16) (harg13 : arg13.IsWhole) (arg14 : Memref sig .tc .vmem S1792x128 .f32) (harg14 : arg14.IsWhole) (hc : ¬atFirst i)
    (x0 : Vec F S5 .i32) (x1 : Vec F S5 .i32) (x2 : Vec F S5 .f32) (x3 : Vec F S256x2048 .fp8e4m3) (x4 : Vec F S256x1 .f32) (x5 : Vec F S1x2048x2048 .bf16) (x6 : Vec F S1x1x2048 .f32) (x7 : Vec F S1x1x256 .i32) (x8 : Vec F S1x1x256 .i32) (hchk : k0_chk1 (word i x0)) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (codesOf x3 x4 x5 x6) ∗ owns (c : Thread nD τ) arg11 fullShare (scaleOf x3 x4 x5 x6) ∗ owns (c : Thread nD τ) arg12 fullShare (k0_pay8 x4 x3 x5 x6) ∗ (∃ d, owns (c : Thread nD τ) arg13 fullShare d) ∗ (∃ d, owns (c : Thread nD τ) arg14 fullShare d)) -∗ K ⟨⟩))
          ⊢ wp frame (wpE (defs₀ (F := F)) Variants.none c none) E (cc0_heads i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_heads_eq_skeleton]; unfold cc0_heads_skel
    simp only [k0_part1_eq_skeleton, k0_part2_eq_skeleton, k0_part3_eq_skeleton, k0_part4_eq_skeleton]; unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc)
    have hw : run_B.sl.r c i arg1 harg1 x0 = word i x0 := word_read arg1 harg1 x0 i _ _ (off1_at i) _
    have hk : k0_chk1 (run_B.sl.r c i arg1 harg1 x0) := hw ▸ hchk
    sl_exec (disch := first | sl_exact hc | sl_exact hk)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      refine (View.read_writes_full (s := S1x256x2048) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H10]
    · iexists _; isplitr; swap; · iexact H10
      ipureintro
      refine (View.read_writes_full (s := S1x1x256) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H11]
    · iexists _; isplitr; swap; · iexact H11
      ipureintro
      refine (View.read_writes_full (s := S1x256x2048) _ _ _ _ _).trans ?_
      simp only [View.readAt_full (s := S256x2048), View.readAt_full (s := S256x1), View.readAt_full (s := S1x2048x2048), View.readAt_full (s := S1x1x2048), harg4.read_unread, harg5.read_unread, harg6.read_unread, harg7.read_unread]
      try rfl
    isplitl [H12]
    · iexists _; iexists _; isplitr; swap; · iexact H12
      ipureintro; rfl
    iexists _; iexists _; isplitr; swap; · iexact H13
    ipureintro; rfl

end Cert.Heads.Val

end
-- ==== Proof.LFrame.lean ====
module

public import proofs.«01_k».proof.Proof.LRun
public import proofs.«01_k».proof.Proof.Gen.Heads.Points
public import Idealize.ShloMosaic.Lib.Pipeline.TableIdle

@[expose] public section

set_option maxRecDepth 16384

noncomputable section

namespace Cert.Heads.Val

open Idealize.ShloMosaic Idealize.ShloMosaic.TcCoe Idealize.ShloMosaic.Tactic
open Idealize.SL Idealize.SL.RA Idealize.SL.BI
open Cert.Heads Cert.Heads.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current staging memref at a point, and its wholeness. -/

abbrev ms0_0 (t : Fin cfg0.N) : Memref sig .tc .smem S5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S5 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x2048 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1792x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1792x128 .f32 := win0_13.stage (cfg0.slots t 13)
abbrev hs0_13 (t : Fin cfg0.N) : (ms0_13 t).IsWhole := hstage0_13 ((cfg0.slots t 13).cast nbuf0_13)

/-- The word of the first row, at a point. -/
def bw (c : Dev nD) (t : Fin cfg0.N) : BitVec 32 := word (F := F) (grid0.coords t) (iblk m c 0 t)

/-! ## The pipeline's proof data -/

/-- The two outputs nothing is stated of: the head's rows gathered into the order of all heads, and their scales. -/
def forgets0 : Fin 14 → Bool := fun w => w.val == 12 || w.val == 13

/-- The proof data: the arrays as the region finds them; after the body each input at its block, the three blocks of the
    head's results at their values, the two other outputs at nothing named; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => codesOf (iblk m c 3 t) (iblk m c 4 t) (iblk m c 5 t) (iblk m c 6 t)
    | ⟨10, _⟩ => scaleOf (iblk m c 3 t) (iblk m c 4 t) (iblk m c 5 t) (iblk m c 6 t)
    | ⟨11, _⟩ => k0_pay8 (iblk m c 4 t) (iblk m c 3 t) (iblk m c 5 t) (iblk m c 6 t)
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = codesOf (iblk m c 3 t) (iblk m c 4 t) (iblk m c 5 t) (iblk m c 6 t) := by dsimp only [dats]
theorem after0_10 (c : Dev nD) (t : Fin cfg0.N) : (dats m 0 c).after 10 t = scaleOf (iblk m c 3 t) (iblk m c 4 t) (iblk m c 5 t) (iblk m c 6 t) := by dsimp only [dats]
theorem after0_11 (c : Dev nD) (t : Fin cfg0.N) : (dats m 0 c).after 11 t = k0_pay8 (iblk m c 4 t) (iblk m c 3 t) (iblk m c 5 t) (iblk m c 6 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d))

/-- What the body asks of the first row's word, at every point. -/
abbrev Rows : Prop := ∀ (c : Dev nD) (t : Fin cfg0.N), k0_chk1 (bw m c t)

set_option maxHeartbeats 2400000 in
/-- The body at any point: the first point also clears the arrays of all heads. -/
theorem sound_body (hck : Rows m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  by_cases h0 : atFirst (grid0.coords t)
  · iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) h0 (iblk m c 0 t) (iblk m c 1 t) (iblk m c 2 t) (iblk m c 3 t) (iblk m c 4 t) (iblk m c 5 t) (iblk m c 6 t) (iblk m c 7 t) (iblk m c 8 t) (hck c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) h0 (iblk m c 0 t) (iblk m c 1 t) (iblk m c 2 t) (iblk m c 3 t) (iblk m c 4 t) (iblk m c 5 t) (iblk m c 6 t) (iblk m c 7 t) (iblk m c 8 t) (hck c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hck : Rows m) (c : Dev nD) : BodyObligation (dats (F := F) m 0 c) (defs₀ (F := F)) Variants.none () Set.univ forgets0 := fun t => by
  rw [bigSep_W0, bigSep_W0, defs₀_row]
  exact triple_restated (sound_body m hck c t) rfl .rfl fun _ => .rfl

/-! ## The run and the frame -/

set_option backward.isDefEq.respectTransparency.types false in
/-- The launch: every array of the pipeline not forgotten ends at what the proof data says, every counter at zero. -/
theorem run_main_quiescent (hck : Rows m) : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m hck c).loose) (hshare := fun c => (dats m 0 c).share_full fun _ => rfl)
    (howed := fun _ _ => rfl) (V := V m) (hmain := hmain m Variants.none) (hA := A_eq m) (hΦ := fun _ _ => rfl)

/-- The run: the three results end at what the pipeline's write-backs leave, the arguments unchanged. -/
theorem run_blocks (hck : Rows m) : θ_run defs (onTc (τ := τ) (main (F := F))) ⟨m, fun _ => 0, ρ⟩ fun r => ∀ c : Dev nD,
      r.2.mem ((c : Thread nD τ).loc main_v5_0) = (dats m 0 c).arrAt 9 cfg0.N ∧ r.2.mem ((c : Thread nD τ).loc main_v5_1) = (dats m 0 c).arrAt 10 cfg0.N ∧ r.2.mem ((c : Thread nD τ).loc main_v5_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    ⟨(Dat.toRForget_arrAt_iff (dats m 0 c) (w := 9) rfl cfg0.N _).mp ((h.1 c).1 9), (Dat.toRForget_arrAt_iff (dats m 0 c) (w := 10) rfl cfg0.N _).mp ((h.1 c).1 10), (Dat.toRForget_arrAt_iff (dats m 0 c) (w := 11) rfl cfg0.N _).mp ((h.1 c).1 11),
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 5 rfl).trans ((A_eq m c 5).trans (V_main_arg5 m c)),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩)
    (run_main_quiescent m ρ hck)

/-- The frame: the run ends, the arguments unchanged, every counter at zero. -/
theorem frame (hck : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and ((θ_run defs _ _).mono (fun _ h c => (h c).2.2.2) (run_blocks m ρ hck)) ((θ_run defs _ _).mono (fun _ h => h.2) (run_main_quiescent m ρ hck))

end Cert.Heads.Val

end
-- ==== Proof.LRows.lean ====
module

public import proofs.«01_k».proof.Proof.LFrame
public import proofs.«01_k».proof.Pre_starts_fit
public import proofs.«01_k».proof.Proof.Gen.Pre_starts_fit
public import Idealize.ShloMosaic.Lib.Pipeline.ValueKit
public import Idealize.ShloMosaic.Lib.Pointwise
public import Idealize.ShloMosaic.Lib.Affine

@[expose] public section

set_option maxRecDepth 16384

noncomputable section

namespace Cert.Heads.Val

open Idealize.ShloMosaic Idealize.ShloMosaic.TcCoe Idealize.SL.Sem Cert.Heads Cert.Heads.Gen

variable {F : FTy → Type} [FloatOps F]
variable (m : (ℓ : Loc nD τ sig) → Buf (Elt F) ℓ)

/-- The window of first rows is the whole array at every point. -/
theorem idxB : ∀ t : Fin cfg0.N, win0_0.index t = ![0] :=
  (by decide +kernel : ∀ t : Fin grid0.N, _)

/-- The head a grid point belongs to. -/
theorem seg : ∀ t : Fin cfg0.N, (grid0.coords t 0).val = t.val :=
  (by decide +kernel : ∀ t : Fin grid0.N, _)

/-- The word of a head's first row is the argument's. -/
theorem bw_at (c : Dev nD) (t : Fin cfg0.N) (k : Fin 5) (hk : k.val = t.val) :
    bw m c t = (m ((c : Thread nD τ).loc main_arg0) : Vec F S5 .i32) (ix1 (n0 := 5) k) := by
  have e : grid0.coords t 0 = k := Fin.ext ((seg t).trans hk.symm)
  unfold bw word
  rw [e]
  blk_ext [iblk, V, idxB t]

/-- Bases that leave room for a window and are multiples of 16 are in range wherever the body writes its rows. -/
theorem rows_of (h : ∀ (c : Dev nD) (i : S5.Idx), ((m ((c.tc : Thread nD τ).loc main_arg0) : Vec F S5 .i32) i : BitVec 32).toNat ≤ 1536
      ∧ 16 ∣ ((m ((c.tc : Thread nD τ).loc main_arg0) : Vec F S5 .i32) i : BitVec 32).toNat) : Rows m := fun c t => by
  have hN : t.val < 5 := lt_of_lt_of_eq t.isLt (show cfg0.N = 5 from N_0)
  rw [bw_at m c t ⟨t.val, hN⟩ rfl]
  obtain ⟨h1, h2⟩ := h c (ix1 (n0 := 5) ⟨t.val, hN⟩)
  refine ⟨h2, fun a => ?_, fun _ => ?_, fun a => ?_⟩
  · match a with
    | ⟨0, _⟩ => exact Nat.add_le_add_right h1 256
    | ⟨1, _⟩ => exact (Nat.zero_add 2048).le
  · exact Affine.packed_dvd (show 2 ≤ 2 from le_refl 2) (dvd_trans (by decide : (2 : ℕ) ∣ 16) h2) (by decide)
  · match a with
    | ⟨0, _⟩ => exact Nat.add_le_add_right h1 256
    | ⟨1, _⟩ => exact (Nat.zero_add 128).le

end Cert.Heads.Val
end
-- ==== Proof.HRun.lean ====
module

public import proofs.«01_k».proof.Proof.Gen.GradsIdeal.Frame
public import proofs.«01_k».proof.Proof.Gen.GradsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim
public import Idealize.ShloMosaic.Lib.Pipeline.ValueKit
public import Idealize.ShloMosaic.Lib.Pointwise

@[expose] public section

set_option maxRecDepth 16384

noncomputable section

namespace Cert.GradsIdeal.Val

open Idealize.ShloMosaic Idealize.ShloMosaic.TcCoe Idealize.ShloMosaic.Tactic
open Idealize.SL Idealize.SL.RA Idealize.SL.BI
open Cert.GradsIdeal Cert.GradsIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch is taken at the points at which a head begins. -/
theorem hcond : ∀ t : Fin cfg0.N, k0_cond1 (grid0.coords t) = 1#1 ↔ t.val % 4 = 0 :=
  (by decide +kernel : ∀ t : Fin grid0.N, _)

/-- The word a whole scalar array holds at a grid point's head. -/
abbrev word (i : grid0.Coords) (x : Vec F S5 .i32) : Elt F .i32 := x (ix1 (n0 := 5) (i 0))

/-- The head's rows: 256 rows from the one the word names. -/
def rowsOf (w : BitVec 32) (x : Vec F S1792x2048 .f32) : Vec F S256x2048 .f32 :=
  fun y => x (ix2 (n0 := 1792) (n1 := 2048) ⟨(w.toNat + (y 0).val) % 1792, Nat.mod_lt _ (by decide)⟩ (y 1))

/-- The head's gradient of the pre-activation, from what the body has read. -/
def dzOf (w v : BitVec 32) (x3 : Vec F S1x1x256 .i32) (x4 : Vec F S1792x2048 .f32) (x5 : Vec F S1x256x2048 .f32) : Vec F S256x2048 .bf16 :=
  k0_pay4 v (rowsOf w x4) x3 x5

theorem off1_at (i : grid0.Coords) : k0_off1 i 0 = (i 0).val := by
  have h : (i 0).val < 5 := (i 0).isLt
  show (BitVec.ofNat 32 (i 0).val).toNat = _
  rw [BitVec.toNat_ofNat]; exact Nat.mod_eq_of_lt (by omega)

theorem off2_at (i : grid0.Coords) : k0_off2 i 0 = (i 0).val := off1_at i

/-- A load of exactly what was stored last. -/
theorem readCov_same {Val : EltTy → Type} [∀ e, Nonempty (Val e)] {sg : RefSig} {κ : Kind} {sp : Space} {s : Shape} {e : EltTy} (v : View sg κ sp s e)
    (r : Rect s) (w : r.shape.Idx → Val e) (L : List (View.Piece Val s e)) :
    v.readCov (⟨r, w⟩ :: L) r.toLoadRect = w := by
  funext x
  show v.read Val (v.writes Val v.junk (⟨r, w⟩ :: L)) (r.emb x) = w x
  rw [View.read_writes_apply_eq_canon v v.junk (r.emb x) (⟨r, w⟩ :: L) ⟨⟨r, w⟩, List.mem_cons_self, r.idx_mem x⟩, View.canon_cons_emb]

/-- A load of one word of a whole scalar array. -/
theorem word_read (M : Memref sig .tc .smem S5 .i32) (hM : M.IsWhole) (x : Vec F S5 .i32) (i : grid0.Coords) (off : Fin 1 → ℕ)
    (inb : ∀ a, off a + S1.size a ≤ S5.size a) (ho : off 0 = (i 0).val) (y : S1.Idx) :
    View.readAt (Elt F) M.view (Rect.unit (s := S5) off S1.size inb).toLoadRect (hM.unread x) y = word i x := by
  rw [Memref.IsWhole.readAt_unread]
  refine congrArg x (funext fun a => Fin.ext ?_)
  obtain rfl : a = 0 := Subsingleton.elim _ _
  have hy : (y 0).val < 1 := (y 0).isLt
  show off 0 + 1 * (y 0).val = (i 0).val
  omega

/-- A load of the head's rows. -/
theorem rows_read (M : Memref sig .tc .vmem S1792x2048 .f32) (hM : M.IsWhole) (x : Vec F S1792x2048 .f32) (w : BitVec 32)
    (inb : ∀ a, k0_off3 w a + S256x2048.size a ≤ S1792x2048.size a) :
    View.readAt (Elt F) M.view (Rect.unit (s := S1792x2048) (k0_off3 w) S256x2048.size inb).toLoadRect (hM.unread x) = rowsOf w x := by
  funext y
  rw [Memref.IsWhole.readAt_unread]
  have h0 := inb 0
  have hy : (y 0).val < 256 := (y 0).isLt
  have hw : w.toNat + 256 ≤ 1792 := h0
  refine congrArg x (funext fun a => Fin.ext ?_)
  fin_cases a
  · show w.toNat + 1 * (y 0).val = (w.toNat + (y 0).val) % 1792
    rw [Nat.mod_eq_of_lt (by omega)]; omega
  · show 0 + 1 * (y 1).val = (y 1).val
    omega

set_option maxHeartbeats 1000000 in
/-- The body at a point inside a head: only the block of the weights' gradient is written. -/
theorem run_B (c : Dev nD) (i : grid0.Coords) (arg2 : Memref sig .tc .smem S5 .i32) (harg2 : arg2.IsWhole) (arg3 : Memref sig .tc .smem S5 .i32) (harg3 : arg3.IsWhole) (arg4 : Memref sig .tc .vmem S512x256 .bf16) (harg4 : arg4.IsWhole) (arg5 : Memref sig .tc .vmem S1x1x256 .i32) (harg5 : arg5.IsWhole) (arg6 : Memref sig .tc .vmem S1792x2048 .f32) (harg6 : arg6.IsWhole) (arg7 : Memref sig .tc .vmem S1x256x2048 .f32) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x512x2048 .f32) (harg10 : arg10.IsWhole) (arg11 : Memref sig .tc .vmem S256x2048 .bf16) (harg11 : arg11.IsWhole) (hc : ¬k0_cond1 i = 1#1)
    (x0 : Vec F S5 .i32) (x1 : Vec F S5 .i32) (x2 : Vec F S512x256 .bf16) (x3 : Vec F S1x1x256 .i32) (x4 : Vec F S1792x2048 .f32) (x5 : Vec F S1x256x2048 .f32) (y6 : Vec F S1x256x2048 .bf16) (y7 : Vec F S1x1x2048 .f32) (z : Vec F S256x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (∃ d, owns (c : Thread nD τ) arg10 fullShare d) ∗ owns (c : Thread nD τ) arg11 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare (k0_pay3 x2 z) ∗ owns (c : Thread nD τ) arg11 fullShare z) -∗ K ⟨⟩))
          ⊢ wp frame (wpE (defs₀ (F := F)) Variants.none c none) E (cc0_grads i arg2 harg2 arg3 harg3 arg4 harg4 arg5 harg5 arg6 harg6 arg7 harg7 arg8 harg8 arg9 harg9 arg10 harg10 arg11 harg11) K := by
    intro E K
    simp only [cc0_grads_eq_skeleton]; unfold cc0_grads_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [View.read_writes_full, View.readAt_full (s := S512x256), View.readAt_full (s := S256x2048), harg4.read_unread, harg11.read_unread]
    iexists _; isplitr; · ipureintro; exact harg11.read_unread _
    iexact H9

set_option maxHeartbeats 1000000 in
/-- The body at a point at which a head begins: the head's rows are fetched, and all three outputs are written. -/
theorem run_A (c : Dev nD) (i : grid0.Coords) (arg2 : Memref sig .tc .smem S5 .i32) (harg2 : arg2.IsWhole) (arg3 : Memref sig .tc .smem S5 .i32) (harg3 : arg3.IsWhole) (arg4 : Memref sig .tc .vmem S512x256 .bf16) (harg4 : arg4.IsWhole) (arg5 : Memref sig .tc .vmem S1x1x256 .i32) (harg5 : arg5.IsWhole) (arg6 : Memref sig .tc .vmem S1792x2048 .f32) (harg6 : arg6.IsWhole) (arg7 : Memref sig .tc .vmem S1x256x2048 .f32) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x512x2048 .f32) (harg10 : arg10.IsWhole) (arg11 : Memref sig .tc .vmem S256x2048 .bf16) (harg11 : arg11.IsWhole) (hc : k0_cond1 i = 1#1)
    (x0 : Vec F S5 .i32) (x1 : Vec F S5 .i32) (x2 : Vec F S512x256 .bf16) (x3 : Vec F S1x1x256 .i32) (x4 : Vec F S1792x2048 .f32) (x5 : Vec F S1x256x2048 .f32) (hchk : k0_chk1 i (word i x0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay5 (word i x1) (rowsOf (word i x0) x4) x3 x5) ∗ owns (c : Thread nD τ) arg9 fullShare (k0_pay2 (dzOf (word i x0) (word i x1) x3 x4 x5)) ∗ owns (c : Thread nD τ) arg10 fullShare (k0_pay3 x2 (dzOf (word i x0) (word i x1) x3 x4 x5)) ∗ owns (c : Thread nD τ) arg11 fullShare (dzOf (word i x0) (word i x1) x3 x4 x5)) -∗ K ⟨⟩))
          ⊢ wp frame (wpE (defs₀ (F := F)) Variants.none c none) E (cc0_grads i arg2 harg2 arg3 harg3 arg4 harg4 arg5 harg5 arg6 harg6 arg7 harg7 arg8 harg8 arg9 harg9 arg10 harg10 arg11 harg11) K := by
    intro E K
    simp only [cc0_grads_eq_skeleton]; unfold cc0_grads_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    have hw : run_A.sl.r c i arg2 harg2 hc x0 = word i x0 := word_read arg2 harg2 x0 i _ _ (off1_at i) _
    have hk : k0_chk1 i (run_A.sl.r c i arg2 harg2 hc x0) := hw ▸ hchk
    sl_exec (disch := first | sl_exact hc | sl_exact hk)
    have hv : run_A.sl.r_1 c i arg3 harg3 hc x1 = word i x1 := word_read arg3 harg3 x1 i _ _ (off2_at i) _
    have hz : ∀ inb ib2 ib3, k0_pay1 (k0_pay4 (run_A.sl.r_1 c i arg3 harg3 hc x1)
        (View.readAt (Elt F) arg6.view (Rect.unit (s := S1792x2048) (k0_off3 (run_A.sl.r c i arg2 harg2 hc x0)) S256x2048.size inb).toLoadRect (harg6.unread x4))
        (View.readAt (Elt F) arg5.view (Rect.unit (s := S1x1x256) ![0, 0, 0] S1x1x256.size ib2).toLoadRect (harg5.unread x3))
        (View.readAt (Elt F) arg7.view (Rect.unit (s := S1x256x2048) ![0, 0, 0] S1x256x2048.size ib3).toLoadRect (harg7.unread x5)))
        = dzOf (word i x0) (word i x1) x3 x4 x5 := fun inb ib2 ib3 => by
      unfold k0_pay1
      rw [shapeCast_self, rows_read, View.readAt_full (s := S1x1x256), View.readAt_full (s := S1x256x2048), harg5.read_unread, harg7.read_unread, hw, hv]; rfl
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_full, rows_read, View.readAt_full (s := S1x1x256), View.readAt_full (s := S1x256x2048), harg5.read_unread, harg7.read_unread, hw, hv]
    isplitl [H7]
    · iexists _; isplitr; swap; · iexact H7
      ipureintro
      refine (View.read_writes_full (s := S1x1x2048) _ _ _ _ _).trans ?_
      rw [rows_read, View.readAt_full (s := S1x1x256), View.readAt_full (s := S1x256x2048), harg5.read_unread, harg7.read_unread, hw, hv]; rfl
    isplitl [H8]
    · iexists _; isplitr; swap; · iexact H8
      ipureintro
      refine (View.read_writes_full (s := S1x512x2048) _ _ _ _ _).trans ?_
      refine congrArg₂ k0_pay3 ((View.readAt_full (s := S512x256) _ _ _).trans (harg4.read_unread _)) ?_
      delta run_A.sl.v5 run_A.sl.H9_1
      exact (readCov_same _ _ _ _).trans (hz _ _ _)
    iexists _; isplitr; swap; · iexact H9
    ipureintro
    delta run_A.sl.H9_1
    exact (View.read_writes_full (s := S256x2048) _ _ _ _ _).trans (hz _ _ _)

end Cert.GradsIdeal.Val

end
-- ==== Proof.HFrame.lean ====
module

public import proofs.«01_k».proof.Proof.HRun
public import proofs.«01_k».proof.Proof.Gen.GradsIdeal.Points
public import Idealize.ShloMosaic.Lib.Pipeline.TableIdle

@[expose] public section

set_option maxRecDepth 16384

noncomputable section

namespace Cert.GradsIdeal.Val

open Idealize.ShloMosaic Idealize.ShloMosaic.TcCoe Idealize.ShloMosaic.Tactic
open Idealize.SL Idealize.SL.RA Idealize.SL.BI
open Cert.GradsIdeal Cert.GradsIdeal.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current staging memref at a point, and its wholeness. -/

abbrev ms0_0 (t : Fin cfg0.N) : Memref sig .tc .smem S5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S5 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1792x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x2048 .f32 := win0_8.stage (cfg0.slots t 8)
abbrev hs0_8 (t : Fin cfg0.N) : (ms0_8 t).IsWhole := hstage0_8 ((cfg0.slots t 8).cast nbuf0_8)

/-- The scratch: what the head's first point leaves there for the points after it. -/
abbrev scM0_0 : Memref sig .tc .vmem S256x2048 .bf16 := Memref.whole cc0_scratch0

/-- The class invariant, the scratch as a memref owned at some contents. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The first point of the head a point belongs to. -/
def hd (n : ℕ) : Fin cfg0.N := ⟨4 * (n / 4) % 20, lt_of_lt_of_eq (Nat.mod_lt _ (by decide)) (show 20 = cfg0.N from N_0.symm)⟩

theorem hd_first (t : Fin cfg0.N) (h : t.val % 4 = 0) : hd t.val = t := by
  have hN : t.val < 20 := lt_of_lt_of_eq t.isLt (show cfg0.N = 20 from N_0)
  apply Fin.ext; show 4 * (t.val / 4) % 20 = t.val; omega

theorem hd_next (n : ℕ) (h : (n + 1) % 4 ≠ 0) : hd (n + 1) = hd n := by
  apply Fin.ext; show 4 * ((n + 1) / 4) % 20 = 4 * (n / 4) % 20
  rw [show (n + 1) / 4 = n / 4 by omega]

theorem hd_pred (n : ℕ) (h : n % 4 ≠ 0) : hd (n - 1) = hd n := by
  apply Fin.ext; show 4 * ((n - 1) / 4) % 20 = 4 * (n / 4) % 20
  rw [show (n - 1) / 4 = n / 4 by omega]

/-- The word of the first row, and of the row count, at a point. -/
def bw (c : Dev nD) (t : Fin cfg0.N) : BitVec 32 := word (F := F) (grid0.coords t) (iblk m c 0 t)
def nw (c : Dev nD) (t : Fin cfg0.N) : BitVec 32 := word (F := F) (grid0.coords t) (iblk m c 1 t)

/-- The gradient of the pre-activation the body computes at a point, -/
def dzP (c : Dev nD) (t : Fin cfg0.N) : Vec F S256x2048 .bf16 :=
  dzOf (bw m c t) (nw m c t) (iblk m c 3 t) (iblk m c 4 t) (iblk m c 5 t)

/-- and the same as a block of the array of all heads. -/
def dzB (c : Dev nD) (t : Fin cfg0.N) : Vec F S1x256x2048 .bf16 :=
  k0_pay5 (nw m c t) (rowsOf (bw m c t) (iblk m c 4 t)) (iblk m c 3 t) (iblk m c 5 t)

/-- The proof data of the one pipeline on core `c`: the arrays as the region finds them, the outputs' buffers after each
    point, and the scratch holding the current head's gradient at every point but a head's first. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dzB m c (hd t.val)
    | ⟨7, _⟩ => k0_pay2 (dzP m c (hd t.val))
    | ⟨8, _⟩ => k0_pay3 (iblk m c 2 t) (dzP m c (hd t.val))
  Φ p := iprop((∃ d, ⌜p.val % 4 ≠ 0 → d = dzP m c (hd p.val)⌝ ∗ owns (c : Thread nD τ) scM0_0 fullShare d) ∗ (∃ r, prngReg c r))
  q _ := fullShare
  owed _ := 0

theorem phi_eq (c : Dev nD) (p : Fin (cfg0.N + 1)) : (dats m 0 c).Φ p
    = iprop((∃ d, ⌜p.val % 4 ≠ 0 → d = dzP m c (hd p.val)⌝ ∗ owns (c : Thread nD τ) scM0_0 fullShare d) ∗ (∃ r, prngReg c r)) := by dsimp only [dats]

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dzB m c (hd t.val) := by dsimp only [dats]
theorem after0_7 (c : Dev nD) (t : Fin cfg0.N) : (dats m 0 c).after 7 t = k0_pay2 (dzP m c (hd t.val)) := by dsimp only [dats]
theorem after0_8 (c : Dev nD) (t : Fin cfg0.N) : (dats m 0 c).after 8 t = k0_pay3 (iblk m c 2 t) (dzP m c (hd t.val)) := by dsimp only [dats]

/-! Each input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- Output 6 is written at a head's first point alone, -/
theorem idle0_6 : ∀ t : Fin cfg0.N, cfg0.idle 6 (cfg0.grid.coords t) = true ↔ t.val % 4 ≠ 0 :=
  (by decide +kernel : ∀ t : Fin grid0.N, _)
/-- so its buffer is fresh there and nowhere else. -/
theorem fresh0_6 (t : Fin cfg0.N) : cfg0.fresh 6 t.val = (t.val % 4 == 0) :=
  cfg0.fresh_tab 6 (fun n => n % 4 == 0) rfl (by decide +kernel : ∀ t : Fin grid0.N, _) t.val t.isLt.le
/-- Inside a head output 6's buffer still holds what the head's first point left. -/
theorem before0_6_B (c : Dev nD) (t : Fin cfg0.N) (h0 : ¬t.val % 4 = 0) (d) :
    (dats m 0 c).before 6 t d = dzB m c (hd t.val) := by
  rw [Dat.before_out_traj (dats m 0 c) 6 rfl (fun _ _ => rfl) (fun t ht hi _ => by
      rw [after0_6, after0_6, ← hd_pred t.val ((idle0_6 t).mp hi)]) t.val t rfl d,
    fresh0_6, if_neg (by simpa using h0), after0_6, hd_pred t.val h0]
/-- What the body leaves in output 6's buffer, as the pipeline asks for it. -/
theorem leaves0_6 (c : Dev nD) (t : Fin cfg0.N) :
    owns (c : Thread nD τ) (ms0_6 t) fullShare ((dats m 0 c).after 6 t) ⊢ ((dats m 0 c).leavesExact 6 t : sProp 𝕄) := by
  unfold Dat.leavesExact
  cases hi : cfg0.idle 6 (cfg0.grid.coords t)
  · exact .rfl
  · cases hf : (cfg0.win 6).flush t
    · iintro H
      iexists (dats m 0 c).after 6 t
      rw [before0_6_B m c t ((idle0_6 t).mp hi), after0_6]
      iexact H
    · exact .rfl
/-- Output 7 is written at a head's first point alone, -/
theorem idle0_7 : ∀ t : Fin cfg0.N, cfg0.idle 7 (cfg0.grid.coords t) = true ↔ t.val % 4 ≠ 0 :=
  (by decide +kernel : ∀ t : Fin grid0.N, _)
/-- so its buffer is fresh there and nowhere else. -/
theorem fresh0_7 (t : Fin cfg0.N) : cfg0.fresh 7 t.val = (t.val % 4 == 0) :=
  cfg0.fresh_tab 7 (fun n => n % 4 == 0) rfl (by decide +kernel : ∀ t : Fin grid0.N, _) t.val t.isLt.le
/-- Inside a head output 7's buffer still holds what the head's first point left. -/
theorem before0_7_B (c : Dev nD) (t : Fin cfg0.N) (h0 : ¬t.val % 4 = 0) (d) :
    (dats m 0 c).before 7 t d = k0_pay2 (dzP m c (hd t.val)) := by
  rw [Dat.before_out_traj (dats m 0 c) 7 rfl (fun _ _ => rfl) (fun t ht hi _ => by
      rw [after0_7, after0_7, ← hd_pred t.val ((idle0_7 t).mp hi)]) t.val t rfl d,
    fresh0_7, if_neg (by simpa using h0), after0_7, hd_pred t.val h0]
/-- What the body leaves in output 7's buffer, as the pipeline asks for it. -/
theorem leaves0_7 (c : Dev nD) (t : Fin cfg0.N) :
    owns (c : Thread nD τ) (ms0_7 t) fullShare ((dats m 0 c).after 7 t) ⊢ ((dats m 0 c).leavesExact 7 t : sProp 𝕄) := by
  unfold Dat.leavesExact
  cases hi : cfg0.idle 7 (cfg0.grid.coords t)
  · exact .rfl
  · cases hf : (cfg0.win 7).flush t
    · iintro H
      iexists (dats m 0 c).after 7 t
      rw [before0_7_B m c t ((idle0_7 t).mp hi), after0_7]
      iexact H
    · exact .rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- What the body asks of the first row's word, at every point. -/
abbrev Rows : Prop := ∀ (c : Dev nD) (t : Fin cfg0.N), k0_chk1 (grid0.coords t) (bw m c t)

set_option maxHeartbeats 2400000 in
/-- The body at any point: a head's first point computes everything, the others the block of the weights' gradient from
    what the first left in the scratch. -/
theorem sound_body (hck : Rows m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.castSucc = iprop((∃ d, ⌜t.val % 4 ≠ 0 → d = dzP m c (hd t.val)⌝ ∗ owns (c : Thread nD τ) scM0_0 fullShare d) ∗ (∃ r, prngReg c r)) from rfl,
    show (dats m 0 c).Φ t.succ = iprop((∃ d, ⌜(t.val + 1) % 4 ≠ 0 → d = dzP m c (hd (t.val + 1))⌝ ∗ owns (c : Thread nD τ) scM0_0 fullShare d) ∗ (∃ r, prngReg c r)) from rfl]
  by_cases h0 : t.val % 4 = 0
  · rw [hd_first t h0]
    iintro ⟨⟨⟨%dS, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) ((hcond t).mpr h0) (iblk m c 0 t) (iblk m c 1 t) (iblk m c 2 t) (iblk m c 3 t) (iblk m c 4 t) (iblk m c 5 t) (hck c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexists _; iexact HS
    iintro ⟨H0, H1, H2, H3, H4, H5, H6, H7, H8, HS⟩
    isplitl [HS Hg]
    · isplitl [HS]
      · iexists _; isplitr
        swap; · iexact HS
        ipureintro; intro h; rw [hd_next _ h, hd_first t h0]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_6_B m c t h0, before0_7_B m c t h0]
    iintro ⟨⟨⟨%dS, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hS h0
    iapply (run_B c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) (fun h => h0 ((hcond t).mp h)) (iblk m c 0 t) (iblk m c 1 t) (iblk m c 2 t) (iblk m c 3 t) (iblk m c 4 t) (iblk m c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hg]
    · isplitl [HS]
      · iexists _; isplitr
        swap; · iexact HS
        ipureintro; intro h; rw [hd_next _ h]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body returns, as the pipeline asks for it. -/
theorem post_leaves (c : Dev nD) (t : Fin cfg0.N) :
    bodyPost m c t ⊢ (iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t ∗ (dats m 0 c).leavesExact 7 t
    ∗ owns (c : Thread nD τ) (ms0_8 t) fullShare ((dats m 0 c).after 8 t)) : sProp 𝕄) :=
  BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono (leaves0_6 m c t) (BIClass.sep_mono (leaves0_7 m c t) .rfl)))))))))

/-- The library's body obligation, at every point. -/
theorem body_obligation (hck : Rows m) (c : Dev nD) : BodyObligation (dats (F := F) m 0 c) (defs₀ (F := F)) Variants.none () Set.univ := fun t => by
  rw [bigSep_W0, bigSep_W0, defs₀_row]
  exact triple_restated (sound_body m hck c t) rfl .rfl fun _ => post_leaves m c t

/-- Before the first point the scratch may hold anything, -/
theorem phi_in (c : Dev nD) : (Pipeline.ΦA spec0 c : sProp 𝕄) ⊢ (dats m 0 c).Φ 0 := by
  rw [PhiA0_eq, phi_eq]
  iintro ⟨⟨%d, H⟩, Hg⟩
  isplitl [H]
  · iexists d; isplitr
    · ipureintro; intro h; exact absurd rfl h
    iexact H
  iexact Hg

/-- and after the last it is forgotten. -/
theorem phi_out (c : Dev nD) : (dats m 0 c).Φ (Fin.last cfg0.N) ⊢ (Pipeline.ΦA spec0 c : sProp 𝕄) := by
  rw [PhiA0_eq, phi_eq]
  iintro ⟨⟨%d, -, H⟩, Hg⟩
  isplitl [H]
  · iexists d; iexact H
  iexact Hg

/-! ## The run and the frame -/

set_option backward.isDefEq.respectTransparency.types false in
/-- Every execution ends with the arrays at what the library computes from the proof data, and every semaphore at zero. -/
theorem run_main_quiescent (hck : Rows m) : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hck c).loose) (hshare := fun c => (dats m 0 c).share_full fun _ => rfl)
    (howed := fun _ _ => rfl) (V := V m) (hmain := hmain m Variants.none) (hA := A_eq m) (hin := phi_in m) (hout := phi_out m)

theorem run_main (hck : Rows m) : θ_run defs (onTc (τ := τ) (main (F := F))) (s₀ m ρ) (Pipeline.FramePost cfgs (dats m) 0 (V m)) :=
  (θ_run defs _ _).mono (fun _ h => h.1) (run_main_quiescent m ρ hck)

/-- The argument arrays end unchanged. -/
theorem unchanged (hck : Rows m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ hck)

/-- The frame. -/
theorem frame (hck : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hck) ((θ_run defs _ _).mono (fun _ h => h.2) (run_main_quiescent m ρ hck))

end Cert.GradsIdeal.Val

end
-- ==== Proof.HRows.lean ====
module

public import proofs.«01_k».proof.Proof.HFrame
public import Idealize.ShloMosaic.Lib.Pipeline.ValueKit
public import Idealize.ShloMosaic.Lib.Pointwise

@[expose] public section

set_option maxRecDepth 16384

noncomputable section

namespace Cert.GradsIdeal.Val

open Idealize.ShloMosaic Idealize.ShloMosaic.TcCoe Idealize.SL.Sem Cert.GradsIdeal Cert.GradsIdeal.Gen

variable {F : FTy → Type} [FloatOps F]
variable (m : (ℓ : Loc nD τ sig) → Buf (Elt F) ℓ)

/-- The block each input window holds at a grid point: a segment is four points. -/
theorem idxI : ∀ t : Fin cfg0.N, win0_0.index t = ![0] ∧ win0_1.index t = ![0] ∧ win0_2.index t = ![t.val % 4, 0] ∧ win0_3.index t = ![t.val / 4, 0, 0]
    ∧ win0_4.index t = ![0, 0] ∧ win0_5.index t = ![t.val / 4, 0, 0] :=
  (by decide +kernel : ∀ t : Fin grid0.N, _)

/-- The segment a grid point belongs to. -/
theorem seg : ∀ t : Fin cfg0.N, (grid0.coords t 0).val = t.val / 4 :=
  (by decide +kernel : ∀ t : Fin grid0.N, _)

/-- The word of a segment's first row is the argument's. -/
theorem bw_at (c : Dev nD) (t : Fin cfg0.N) (k : Fin 5) (hk : k.val = t.val / 4) :
    bw m c t = (m ((c : Thread nD τ).loc main_arg0) : Vec F S5 .i32) (ix1 (n0 := 5) k) := by
  have e : grid0.coords t 0 = k := Fin.ext ((seg t).trans hk.symm)
  unfold bw word
  rw [e]
  blk_ext [iblk, V, idxI t]

/-- The word of a segment's length is the argument's. -/
theorem nw_at (c : Dev nD) (t : Fin cfg0.N) (k : Fin 5) (hk : k.val = t.val / 4) :
    nw m c t = (m ((c : Thread nD τ).loc main_arg1) : Vec F S5 .i32) (ix1 (n0 := 5) k) := by
  have e : grid0.coords t 0 = k := Fin.ext ((seg t).trans hk.symm)
  unfold nw word
  rw [e]
  blk_ext [iblk, V, idxI t]

/-- Bases that leave room for a window and are multiples of 16 are in range wherever the body reads its rows. -/
theorem rows_of (h : ∀ (c : Dev nD) (i : S5.Idx), ((m ((c.tc : Thread nD τ).loc main_arg0) : Vec F S5 .i32) i : BitVec 32).toNat ≤ 1536
      ∧ 16 ∣ ((m ((c.tc : Thread nD τ).loc main_arg0) : Vec F S5 .i32) i : BitVec 32).toNat) : Rows m := fun c t => by
  have hN : t.val < 20 := lt_of_lt_of_eq t.isLt (show cfg0.N = 20 from N_0)
  rw [bw_at m c t ⟨t.val / 4, by omega⟩ rfl]
  obtain ⟨h1, h2⟩ := h c (ix1 (n0 := 5) ⟨t.val / 4, by omega⟩)
  refine ⟨fun _ => h2, fun _ a => ?_⟩
  match a with
  | ⟨0, _⟩ => exact Nat.add_le_add_right h1 256
  | ⟨1, _⟩ => exact (Nat.zero_add 2048).le

end Cert.GradsIdeal.Val
end
-- ==== Proof.HPay.lean ====
module

public import proofs.«01_k».proof.Proof.HRun
public import Idealize.ShloMosaic.Lib.Pipeline.ValueKit
public import Idealize.ShloMosaic.Lib.Pointwise
public import Idealize.ShloMosaic.Lib.WordCmp

@[expose] public section

set_option maxRecDepth 16384

noncomputable section

namespace Cert.GradsIdeal.Val

open Idealize.ShloMosaic Idealize.ShloMosaic.TcCoe Idealize.SL.Sem Idealize.ShloMosaic.WordCmp Cert.GradsIdeal Cert.GradsIdeal.Gen

/-- A segment's row as the body keeps it: rows at or past the segment's length are zero. -/
def seg0 (v15 : BitVec 32) (v19 : Vec Ideal S256x2048 .f32) (j : Fin 256) (o : Fin 2048) : EReal :=
  Scalar.select (IntOp.cmpi .slt (BitVec.ofNat 32 j.val) v15) (v19 (ix2 (n0 := 256) (n1 := 2048) j o) : EReal) 0

/-- The selection matrix at an element. -/
def pick (v30 : Vec Ideal S1x1x256 .i32) (j r : Fin 256) : EReal :=
  Scalar.select (IntOp.cmpi .eq (BitVec.ofNat 32 j.val) (v30 (ix3 (n0 := 1) (n1 := 1) (n2 := 256) 0 0 r) : BitVec 32)) (1 : EReal) 0

/-- The body's gradient, one element at a time: three selections of the row, of its parts. -/
theorem pay4_raw (v15 : BitVec 32) (v19 : Vec Ideal S256x2048 .f32) (v30 : Vec Ideal S1x1x256 .i32) (v43 : Vec Ideal S1x256x2048 .f32) (r : Fin 256) (o : Fin 2048) :
    (k0_pay4 (F := Ideal) v15 v19 v30 v43 (ix2 (n0 := 256) (n1 := 2048) r o) : EReal)
      = (((∑ j : Fin 256, pick v30 j r * seg0 v15 v19 j o)
          + ∑ j : Fin 256, pick v30 j r * (seg0 v15 v19 j o - seg0 v15 v19 j o))
          + ∑ j : Fin 256, pick v30 j r * (seg0 v15 v19 j o - seg0 v15 v19 j o - (seg0 v15 v19 j o - seg0 v15 v19 j o)))
        * (v43 (ix3 (n0 := 1) (n1 := 256) (n2 := 2048) 0 r o) : EReal) := by
  unfold seg0 pick
  pointwise [k0_pay4]
  done

/-- A rank's column of the selection matrix picks the row of that number, if there is one. -/
theorem sum_pick (v30 : Vec Ideal S1x1x256 .i32) (r : Fin 256) (f : Fin 256 → EReal) :
    ∑ j : Fin 256, pick v30 j r * f j
      = if h : (v30 (ix3 (n0 := 1) (n1 := 1) (n2 := 256) 0 0 r) : BitVec 32).toNat < 256 then f ⟨_, h⟩ else 0 := by
  have hp : ∀ j : Fin 256, pick v30 j r * f j
      = if j.val = (v30 (ix3 (n0 := 1) (n1 := 1) (n2 := 256) 0 0 r) : BitVec 32).toNat then f j else 0 := fun j => by
    have hj := j.isLt
    unfold pick
    rw [cmpi_eq_eq_toNat, toNat_ofNat_of_lt (by omega), select_ofBool]
    simp only [decide_eq_true_eq]
    split
    · exact one_mul _
    · exact zero_mul _
  rw [Finset.sum_congr rfl fun j _ => hp j]
  by_cases h : (v30 (ix3 (n0 := 1) (n1 := 1) (n2 := 256) 0 0 r) : BitVec 32).toNat < 256
  · rw [dif_pos h, Finset.sum_eq_single_of_mem ⟨_, h⟩ (Finset.mem_univ _)]
    · exact if_pos rfl
    · intro j _ hj
      exact if_neg fun e => hj (Fin.ext e)
  · rw [dif_neg h]
    refine Finset.sum_eq_zero fun j _ => if_neg fun e => h ?_
    have hj := j.isLt
    omega

/-- A finite number less itself is zero. -/
theorem sub_self_fin {x : EReal} (h : x ≠ ⊤ ∧ x ≠ ⊥) : x - x = 0 := EReal.sub_self h.1 h.2

/-- A kept row is finite where the table is. -/
theorem seg0_fin (v15 : BitVec 32) (v19 : Vec Ideal S256x2048 .f32) (hf : ∀ j o, (v19 (ix2 (n0 := 256) (n1 := 2048) j o) : EReal) ≠ ⊤ ∧ (v19 (ix2 (n0 := 256) (n1 := 2048) j o) : EReal) ≠ ⊥)
    (j : Fin 256) (o : Fin 2048) : seg0 v15 v19 j o ≠ ⊤ ∧ seg0 v15 v19 j o ≠ ⊥ := by
  unfold seg0
  rw [cmpi_slt_eq, select_ofBool]
  split
  · exact hf j o
  · exact ⟨EReal.zero_ne_top, EReal.zero_ne_bot⟩

/-- The body's gradient at an element, over a finite table: the three parts of the row add up to the row. -/
theorem pay4_at (v15 : BitVec 32) (v19 : Vec Ideal S256x2048 .f32) (v30 : Vec Ideal S1x1x256 .i32) (v43 : Vec Ideal S1x256x2048 .f32)
    (hf : ∀ j o, (v19 (ix2 (n0 := 256) (n1 := 2048) j o) : EReal) ≠ ⊤ ∧ (v19 (ix2 (n0 := 256) (n1 := 2048) j o) : EReal) ≠ ⊥) (r : Fin 256) (o : Fin 2048) :
    (k0_pay4 (F := Ideal) v15 v19 v30 v43 (ix2 (n0 := 256) (n1 := 2048) r o) : EReal)
      = (if (v30 (ix3 (n0 := 1) (n1 := 1) (n2 := 256) 0 0 r) : BitVec 32).toNat < 256 ∧ (v30 (ix3 (n0 := 1) (n1 := 1) (n2 := 256) 0 0 r) : BitVec 32).toInt < v15.toInt
          then (v19 (ix2 (n0 := 256) (n1 := 2048) ⟨(v30 (ix3 (n0 := 1) (n1 := 1) (n2 := 256) 0 0 r) : BitVec 32).toNat % 256, Nat.mod_lt _ (by decide)⟩ o) : EReal) else 0)
        * (v43 (ix3 (n0 := 1) (n1 := 256) (n2 := 2048) 0 r o) : EReal) := by
  rw [pay4_raw]
  have hz : ∀ j, seg0 v15 v19 j o - seg0 v15 v19 j o = 0 := fun j => sub_self_fin (seg0_fin v15 v19 hf j o)
  simp only [hz, sub_zero, mul_zero, Finset.sum_const_zero, add_zero]
  rw [sum_pick]
  refine congrArg (fun z : EReal => z * (v43 (ix3 (n0 := 1) (n1 := 256) (n2 := 2048) 0 r o) : EReal)) ?_
  generalize (v30 (ix3 (n0 := 1) (n1 := 1) (n2 := 256) 0 0 r) : BitVec 32) = w
  by_cases h : w.toNat < 256
  · rw [dif_pos h]
    unfold seg0
    have ew : BitVec.ofNat 32 w.toNat = w := by simp
    have em : (⟨w.toNat % 256, Nat.mod_lt _ (by decide)⟩ : Fin 256) = ⟨w.toNat, h⟩ := Fin.ext (Nat.mod_eq_of_lt h)
    rw [cmpi_slt_eq, select_ofBool, ew, em]
    simp only [decide_eq_true_eq, h, true_and]
  · rw [dif_neg h, if_neg fun hh => h hh.1]

/-- The body's sum over the rows. -/
theorem pay2_at (v46 : Vec Ideal S256x2048 .bf16) (o : Fin 2048) :
    (k0_pay2 (F := Ideal) v46 (ix3 (n0 := 1) (n1 := 1) (n2 := 2048) 0 0 o) : EReal) = ∑ r : Fin 256, (v46 (ix2 (n0 := 256) (n1 := 2048) r o) : EReal) := by
  pointwise [k0_pay2]
  done

/-- The body's product over the rows. -/
theorem pay3_at (v3 : Vec Ideal S512x256 .bf16) (v5 : Vec Ideal S256x2048 .bf16) (a : Fin 512) (o : Fin 2048) :
    (k0_pay3 (F := Ideal) v3 v5 (ix3 (n0 := 1) (n1 := 512) (n2 := 2048) 0 a o) : EReal)
      = ∑ r : Fin 256, (v3 (ix2 (n0 := 512) (n1 := 256) a r) : EReal) * (v5 (ix2 (n0 := 256) (n1 := 2048) r o) : EReal) := by
  pointwise [k0_pay3]
  done

/-- The gradient as a block of the array of all segments. -/
theorem pay5_at (v15 : BitVec 32) (v19 : Vec Ideal S256x2048 .f32) (v30 : Vec Ideal S1x1x256 .i32) (v43 : Vec Ideal S1x256x2048 .f32) (r : Fin 256) (o : Fin 2048) :
    k0_pay5 (F := Ideal) v15 v19 v30 v43 (ix3 (n0 := 1) (n1 := 256) (n2 := 2048) 0 r o) = k0_pay4 (F := Ideal) v15 v19 v30 v43 (ix2 (n0 := 256) (n1 := 2048) r o) := by
  unfold k0_pay5
  generalize k0_pay4 (F := Ideal) v15 v19 v30 v43 = z
  pointwise

end Cert.GradsIdeal.Val
end
-- ==== Proof.HRef.lean ====
module

public import proofs.«01_k».proof.Proof.Gen.GradsRefIdeal.Read
public import proofs.«01_k».proof.Proof.Gen.GradsRefIdeal.Run
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.GradsRefIdeal.Val

open Idealize.ShloMosaic Idealize.ShloMosaic.TcCoe Idealize.SL.Sem Idealize.ShloMosaic.WordCmp Cert.GradsRefIdeal Cert.GradsRefIdeal.Gen Cert.GradsRefIdeal.Read

/-- The rank of row `r` of segment `k` names a row of the segment: it is one of the 256 rows of a window and lies below the segment's length. -/
abbrev held (x1 : Vec Ideal S5 .i32) (x3 : Vec Ideal S5x256 .i32) (k : Fin 5) (r : Fin 256) : Prop :=
  (x3 (ix2 (n0 := 5) (n1 := 256) k r) : BitVec 32).toNat < 256 ∧ (x3 (ix2 (n0 := 5) (n1 := 256) k r) : BitVec 32).toInt < (x1 (ix1 (n0 := 5) k) : BitVec 32).toInt

/-- The gradient of the silu's input at one element: the row of `dr` the rank names, or zero, times the silu's derivative. -/
def dz (x0 x1 : Vec Ideal S5 .i32) (x3 : Vec Ideal S5x256 .i32) (x4 : Vec Ideal S1792x2048 .f32) (x5 : Vec Ideal S5x256x2048 .f32)
    (k : Fin 5) (r : Fin 256) (o : Fin 2048) : EReal :=
  (if held x1 x3 k r then (x4 (ix2 (n0 := 1792) (n1 := 2048)
      ⟨((x0 (ix1 (n0 := 5) k) : BitVec 32).toNat + (x3 (ix2 (n0 := 5) (n1 := 256) k r) : BitVec 32).toNat) % 1792, Nat.mod_lt _ (by decide)⟩ o) : EReal) else 0)
    * (x5 (ix3 (n0 := 5) (n1 := 256) (n2 := 2048) k r o) : EReal)

/-- The three comparisons of a rank, against zero, the segment's length and the window, as one condition. -/
theorem valid_bit (a b : BitVec 32) :
    IntOp.andi (IntOp.andi (IntOp.cmpi .sge a 0#32) (IntOp.cmpi .slt a b)) (IntOp.cmpi .slt a 256#32)
      = BitVec.ofBool (decide (a.toNat < 256 ∧ a.toInt < b.toInt)) := by
  rw [cmpi_sge_zero, cmpi_slt_eq, cmpi_slt_eq, andi_ofBool, andi_ofBool]
  congr 1
  rw [← Bool.decide_and, ← Bool.decide_and]
  refine decide_eq_decide.mpr ?_
  have ha := a.isLt
  have e256 : (256#32 : BitVec 32).toInt = 256 := by decide
  rw [e256]
  constructor
  · rintro ⟨⟨h1, h2⟩, h3⟩
    rw [toInt_eq_toNat_of_lt_half h1] at h3
    exact ⟨by omega, h2⟩
  · rintro ⟨h1, h2⟩
    have h4 : a.toNat < 2 ^ (32 - 1) := by omega
    refine ⟨⟨h4, h2⟩, ?_⟩
    rw [toInt_eq_toNat_of_lt_half h4]
    omega

/-- The bit that says whether a rank is valid. -/
theorem valid_at (x1 : Vec Ideal S5 .i32) (x3 : Vec Ideal S5x256 .i32) (k : Fin 5) (r : Fin 256) :
    val_main_v8 (F := Ideal) x1 x3 (ix2 (n0 := 5) (n1 := 256) k r) = BitVec.ofBool (decide (held x1 x3 k r)) := by
  have e : idx_main_v2 (idx_main_v3 (ix2 (n0 := 5) (n1 := 256) k r)) = ix1 (n0 := 5) k := by
    funext a
    match a with
    | ⟨0, _⟩ => rfl
  simp only [val_main_v8_apply, val_main_v5_apply, val_main_v1_apply, val_main_v4_apply, val_main_v7_apply, val_main_v0_apply, val_main_c_apply,
    val_main_v3_apply, val_main_v2_apply, val_main_v6_apply, val_main_c_0_apply, e]
  exact valid_bit _ _

/-- The row index of a valid rank: the segment's base plus the rank. -/
theorem row_at (x0 x1 : Vec Ideal S5 .i32) (x3 : Vec Ideal S5x256 .i32) (k : Fin 5) (r : Fin 256)
    (hb : (x0 (ix1 (n0 := 5) k) : BitVec 32).toNat ≤ 1536) (hv : held x1 x3 k r) :
    (val_main_v18 (F := Ideal) x0 x1 x3 (ix2 (n0 := 5) (n1 := 256) k r) : BitVec 32).toInt
      = ((x0 (ix1 (n0 := 5) k) : BitVec 32).toNat + (x3 (ix2 (n0 := 5) (n1 := 256) k r) : BitVec 32).toNat : ℕ) := by
  have e : idx_main_v9 (idx_main_v10 (ix2 (n0 := 5) (n1 := 256) k r)) = ix1 (n0 := 5) k := by
    funext a
    match a with
    | ⟨0, _⟩ => rfl
  have hs := valid_at x1 x3 k r
  rw [decide_eq_true hv] at hs
  have ht : val_main_v12 (F := Ideal) x0 x1 x3 (ix2 (n0 := 5) (n1 := 256) k r)
      = IntOp.addi (x0 (ix1 (n0 := 5) k) : BitVec 32) (x3 (ix2 (n0 := 5) (n1 := 256) k r)) := by
    rw [val_main_v12_apply, hs]
    simp only [val_main_v11_apply, val_main_v10_apply, val_main_v9_apply, e]
    rfl
  rw [val_main_v18_apply, val_main_v15_apply, ht, val_main_v14_apply, val_main_c_2_apply, cmpi_slt_zero]
  have h256 := hv.1
  revert h256 hb
  generalize (x3 (ix2 (n0 := 5) (n1 := 256) k r) : BitVec 32) = a
  generalize (x0 (ix1 (n0 := 5) k) : BitVec 32) = b
  intro hb h256
  have hs2 : (IntOp.addi b a).toNat = b.toNat + a.toNat := by
    show (b + a).toNat = _
    rw [BitVec.toNat_add]
    omega
  rw [decide_eq_false (by rw [hs2]; omega)]
  show (IntOp.addi b a).toInt = _
  rw [toInt_eq_toNat_of_lt_half (by rw [hs2]; omega), hs2]

/-- The gather read at an element: the row its index names, clamped into the table. -/
theorem gather_at {α : Type} (x : S1792x2048.Idx → α) (idx : IVec S5x256x1 32) (k : Fin 5) (r : Fin 256) (o : Fin 2048) :
    Host.gather gather_S1792x2048_S5x256x1_S5x256x2048_2_0_n_n_0_2_12048 x idx (ix3 (n0 := 5) (n1 := 256) (n2 := 2048) k r o)
      = x (ix2 (n0 := 1792) (n1 := 2048) ⟨min (idx (ix3 (n0 := 5) (n1 := 256) (n2 := 1) k r 0)).toInt.toNat 1791, by omega⟩ o) := by
  unfold Host.gather
  refine congrArg x (funext fun a => Fin.ext ?_)
  show gather_S1792x2048_S5x256x1_S5x256x2048_2_0_n_n_0_2_12048.start _ idx a + gather_S1792x2048_S5x256x1_S5x256x2048_2_0_n_n_0_2_12048.batchCoord _ a
      + gather_S1792x2048_S5x256x1_S5x256x2048_2_0_n_n_0_2_12048.offCoord _ a = _
  rw [GatherDims.batchCoord_eq_zero _ _ _ (show a ∉ ([] : List (Fin 2)) from List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ ([0] : List (Fin 2)) from List.mem_singleton.mpr rfl)).trans ?_
    have hsi : gather_S1792x2048_S5x256x1_S5x256x2048_2_0_n_n_0_2_12048.siIdx (ix3 (n0 := 5) (n1 := 256) (n2 := 2048) k r o) ⟨List.idxOf (0 : Fin 2) [0],
        List.idxOf_lt_length_iff.2 (List.mem_singleton.mpr rfl)⟩ = ix3 (n0 := 5) (n1 := 256) (n2 := 1) k r 0 := by
      funext b; refine Fin.ext ?_
      match b with
      | ⟨0, _⟩ => rfl
      | ⟨1, _⟩ => rfl
      | ⟨2, _⟩ => rfl
    exact congrArg (fun z => min (idx z).toInt.toNat 1791) hsi
  | ⟨1, _⟩ =>
    unfold GatherDims.start
    refine (congrArg (· + _) (dif_neg (show (1 : Fin 2) ∉ ([0] : List (Fin 2)) from by decide))).trans ((Nat.zero_add _).trans ?_)
    rfl

/-- The reference's `dz` at an element. -/
theorem dz_at (x0 x1 : Vec Ideal S5 .i32) (x3 : Vec Ideal S5x256 .i32) (x4 : Vec Ideal S1792x2048 .f32) (x5 : Vec Ideal S5x256x2048 .f32)
    (hb : ∀ k : Fin 5, (x0 (ix1 (n0 := 5) k) : BitVec 32).toNat ≤ 1536) (k : Fin 5) (r : Fin 256) (o : Fin 2048) :
    val_main_v23 (F := Ideal) x0 x1 x3 x4 x5 (ix3 (n0 := 5) (n1 := 256) (n2 := 2048) k r o) = dz x0 x1 x3 x4 x5 k r o := by
  have e : idx_main_v13 (idx_main_call1_v1 (ix3 (n0 := 5) (n1 := 256) (n2 := 2048) k r o)) = ix2 (n0 := 5) (n1 := 256) k r := by
    funext a
    match a with
    | ⟨0, _⟩ => rfl
    | ⟨1, _⟩ => rfl
  have e' : idx_main_v19 (ix3 (n0 := 5) (n1 := 256) (n2 := 1) k r 0) = ix2 (n0 := 5) (n1 := 256) k r := by
    funext a
    match a with
    | ⟨0, _⟩ => rfl
    | ⟨1, _⟩ => rfl
  rw [val_main_v23_apply, val_main_v22_apply, val_main_v21_apply, val_main_call1_v1_apply, val_main_v13_apply, e, valid_at]
  refine congrArg (fun z : EReal => z * (x5 (ix3 (n0 := 5) (n1 := 256) (n2 := 2048) k r o) : EReal)) ?_
  rw [select_ofBool]
  by_cases hv : held x1 x3 k r
  · rw [if_pos (by simpa using hv), if_pos hv]
    unfold val_main_v20
    rw [gather_at]
    refine congrArg x4 (congrArg (fun z => ix2 (n0 := 1792) (n1 := 2048) z o) (Fin.ext ?_))
    show min _ _ = _
    rw [val_main_v19_apply, e', row_at x0 x1 x3 k r (hb k) hv]
    have h1 := hb k
    have h2 := hv.1
    show _ = ((x0 (ix1 (n0 := 5) k) : BitVec 32).toNat + (x3 (ix2 (n0 := 5) (n1 := 256) k r) : BitVec 32).toNat) % 1792
    omega
  · rw [if_neg (by simpa using hv), if_neg hv]
    rw [val_main_call1_v2_apply, val_main_call1_v0_apply, val_main_cst_apply]
    exact Ideal.ofBits_zero_f32

/-- The reference's `db` at an element: `dz` summed over the rows. -/
theorem db_at (x0 x1 : Vec Ideal S5 .i32) (x3 : Vec Ideal S5x256 .i32) (x4 : Vec Ideal S1792x2048 .f32) (x5 : Vec Ideal S5x256x2048 .f32)
    (hb : ∀ k : Fin 5, (x0 (ix1 (n0 := 5) k) : BitVec 32).toNat ≤ 1536) (k : Fin 5) (u : Fin 1) (o : Fin 2048) :
    val_main_v26 (F := Ideal) x0 x1 x3 x4 x5 (ix3 (n0 := 5) (n1 := 1) (n2 := 2048) k u o) = ∑ r : Fin 256, dz x0 x1 x3 x4 x5 k r o := by
  rw [val_main_v26_apply, val_main_v25_apply, val_main_cst_4_apply]
  have h0 : (FloatOps.ofBits (F := Ideal) .f32 0x00000000#32 : EReal) = 0 := Ideal.ofBits_zero_f32
  refine (congrArg (· + _) h0).trans ((zero_add _).trans (Finset.sum_congr rfl fun r _ => ?_))
  have e : idx_main_v25 (idx_main_v26 (ix3 (n0 := 5) (n1 := 1) (n2 := 2048) k u o)) r = ix3 (n0 := 5) (n1 := 256) (n2 := 2048) k r o := by
    funext a
    match a with
    | ⟨0, _⟩ => rfl
    | ⟨1, _⟩ => rfl
    | ⟨2, _⟩ => rfl
  rw [e]
  exact dz_at x0 x1 x3 x4 x5 hb k r o

/-- The reference's `dw` at an element: `dz` against the input over the rows. -/
theorem dw_at (x0 x1 : Vec Ideal S5 .i32) (x2 : Vec Ideal S256x2048 .bf16) (x3 : Vec Ideal S5x256 .i32) (x4 : Vec Ideal S1792x2048 .f32) (x5 : Vec Ideal S5x256x2048 .f32)
    (hb : ∀ k : Fin 5, (x0 (ix1 (n0 := 5) k) : BitVec 32).toNat ≤ 1536) (k : Fin 5) (a o : Fin 2048) :
    val_main_v28 (F := Ideal) x0 x1 x2 x3 x4 x5 (ix3 (n0 := 5) (n1 := 2048) (n2 := 2048) k a o)
      = ∑ r : Fin 256, dz x0 x1 x3 x4 x5 k r o * (x2 (ix2 (n0 := 256) (n1 := 2048) r a) : EReal) := by
  rw [val_main_v28_apply, val_main_v27_apply]
  refine Finset.sum_congr rfl fun r _ => ?_
  have e : lidx_main_v27 (idx_main_v28 (ix3 (n0 := 5) (n1 := 2048) (n2 := 2048) k a o)) r = ix3 (n0 := 5) (n1 := 256) (n2 := 2048) k r o := by
    funext a
    match a with
    | ⟨0, _⟩ => rfl
    | ⟨1, _⟩ => rfl
    | ⟨2, _⟩ => rfl
  have e' : ridx_main_v27 (idx_main_v28 (ix3 (n0 := 5) (n1 := 2048) (n2 := 2048) k a o)) r = ix2 (n0 := 256) (n1 := 2048) r a := by
    funext a
    match a with
    | ⟨0, _⟩ => rfl
    | ⟨1, _⟩ => rfl
  rw [e, e', dz_at x0 x1 x3 x4 x5 hb k r o]

/-- The reference runs and leaves its arguments and the semaphores as they were. -/
theorem frame (m : (ℓ : Loc nD τ sig) → Buf (Elt Ideal) ℓ) (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2.2.2, sem_eq_zero_of_no_sems (by decide) r.2⟩) (Cert.GradsRefIdeal.Value.run m ρ)

end Cert.GradsRefIdeal.Val
end
-- ==== Proof.HValue.lean ====
module

public import proofs.«01_k».proof.Proof.HRows
public import proofs.«01_k».proof.Proof.HPay
public import proofs.«01_k».proof.Proof.HRef
public import proofs.«01_k».proof.Proof.HPre
public import Idealize.ShloMosaic.Lib.Claim

@[expose] public section

set_option maxRecDepth 16384

noncomputable section

namespace Cert.GradsIdeal.Val

open Idealize.ShloMosaic Idealize.ShloMosaic.TcCoe Idealize.SL.Sem Cert.GradsIdeal Cert.GradsIdeal.Gen
open Cert.GradsRefIdeal.Val (dz held)

variable (m : (ℓ : Loc nD τ sig) → Buf (Elt Ideal) ℓ) (ρ : Dev nD → PrngReg)

/-! ## The results after the run -/

/-- After the run the three results are the pipeline's output arrays, and the arguments are as launched. -/
theorem run_blocks (hck : Rows m) : θ_run defs (onTc (τ := τ) (main (F := Ideal))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_v2_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ hck)

/-! ## The operands at an element -/

/-- The block each output window holds at a grid point. -/
theorem idxO : ∀ t : Fin cfg0.N, win0_6.index t = ![t.val / 4, 0, 0] ∧ win0_7.index t = ![t.val / 4, 0, 0] ∧ win0_8.index t = ![t.val / 4, t.val % 4, 0] :=
  (by decide +kernel : ∀ t : Fin grid0.N, _)

/-- The head of a point's segment is of the same segment. -/
theorem hd_div (t : Fin cfg0.N) : (hd t.val).val / 4 = t.val / 4 := by
  have hN : t.val < 20 := lt_of_lt_of_eq t.isLt (show cfg0.N = 20 from N_0)
  show 4 * (t.val / 4) % 20 / 4 = t.val / 4
  omega

/-- The ranks as the kernel holds them are the argument's. -/
theorem rank_at (c : Dev nD) (t : Fin cfg0.N) (k : Fin 5) (hk : k.val = t.val / 4) (r : Fin 256) :
    (iblk m c 3 t (ix3 (n0 := 1) (n1 := 1) (n2 := 256) 0 0 r) : BitVec 32) = (m ((c : Thread nD τ).loc main_arg3) : Vec Ideal S5x256 .i32) (ix2 (n0 := 5) (n1 := 256) k r) := by
  refine (show iblk m c 3 t (ix3 (n0 := 1) (n1 := 1) (n2 := 256) 0 0 r) = V m c main_v0 (ix3 (n0 := 5) (n1 := 1) (n2 := 256) k 0 r) by blk_ext [iblk, idxI t]).trans ?_
  unfold V; after_results
  pointwise

/-- The input as the kernel holds it, transposed, is the argument's. -/
theorem xt_at (c : Dev nD) (t : Fin cfg0.N) (a : Fin 512) (r : Fin 256) (A : Fin 2048) (hA : A.val = t.val % 4 * 512 + a.val) :
    (iblk m c 2 t (ix2 (n0 := 512) (n1 := 256) a r) : EReal) = (m ((c : Thread nD τ).loc main_arg2) : Vec Ideal S256x2048 .bf16) (ix2 (n0 := 256) (n1 := 2048) r A) := by
  refine (show iblk m c 2 t (ix2 (n0 := 512) (n1 := 256) a r) = V m c main_v1 (ix2 (n0 := 2048) (n1 := 256) A r) by blk_ext [iblk, idxI t]).trans ?_
  unfold V; after_results
  pointwise

/-- The gradient the rows are read from. -/
theorem dr_at (c : Dev nD) (t : Fin cfg0.N) (R : Fin 1792) (o : Fin 2048) :
    iblk m c 4 t (ix2 (n0 := 1792) (n1 := 2048) R o) = (m ((c : Thread nD τ).loc main_arg4) : Vec Ideal S1792x2048 .f32) (ix2 (n0 := 1792) (n1 := 2048) R o) := by
  blk_ext [iblk, V, idxI t]

/-- The silu's derivative. -/
theorem ds_at (c : Dev nD) (t : Fin cfg0.N) (k : Fin 5) (hk : k.val = t.val / 4) (r : Fin 256) (o : Fin 2048) :
    iblk m c 5 t (ix3 (n0 := 1) (n1 := 256) (n2 := 2048) 0 r o) = (m ((c : Thread nD τ).loc main_arg5) : Vec Ideal S5x256x2048 .f32) (ix3 (n0 := 5) (n1 := 256) (n2 := 2048) k r o) := by
  blk_ext [iblk, V, idxI t]

/-! ## The results at an element -/

/-- Every element of the gradient the rows are read from is finite. -/
abbrev Fin4 : Prop := ∀ (c : Dev nD) (i : S1792x2048.Idx), ((m ((c : Thread nD τ).loc main_arg4) : Vec Ideal S1792x2048 .f32) i) ≠ (⊤ : EReal)
  ∧ ((m ((c : Thread nD τ).loc main_arg4) : Vec Ideal S1792x2048 .f32) i) ≠ (⊥ : EReal)

/-- The gradient of the silu's input as the kernel's arguments give it. -/
abbrev dzM (c : Dev nD) (k : Fin 5) (r : Fin 256) (o : Fin 2048) : EReal :=
  dz (m ((c : Thread nD τ).loc main_arg0)) (m ((c : Thread nD τ).loc main_arg1)) (m ((c : Thread nD τ).loc main_arg3)) (m ((c : Thread nD τ).loc main_arg4))
    (m ((c : Thread nD τ).loc main_arg5)) k r o

/-- What the body computes at a point of segment `k`. -/
theorem dzP_at (hfin : Fin4 m) (c : Dev nD) (t : Fin cfg0.N) (k : Fin 5) (hk : k.val = t.val / 4) (r : Fin 256) (o : Fin 2048) :
    (dzP m c t (ix2 (n0 := 256) (n1 := 2048) r o) : EReal) = dzM m c k r o := by
  have hrow : ∀ (j : Fin 256) (o : Fin 2048), rowsOf (bw m c t) (iblk m c 4 t) (ix2 (n0 := 256) (n1 := 2048) j o)
      = (m ((c : Thread nD τ).loc main_arg4) : Vec Ideal S1792x2048 .f32) (ix2 (n0 := 1792) (n1 := 2048)
          ⟨(((m ((c : Thread nD τ).loc main_arg0) : Vec Ideal S5 .i32) (ix1 (n0 := 5) k) : BitVec 32).toNat + j.val) % 1792, Nat.mod_lt _ (by decide)⟩ o) := fun j o => by
    show iblk m c 4 t (ix2 (n0 := 1792) (n1 := 2048) ⟨((bw m c t).toNat + j.val) % 1792, _⟩ o) = _
    rw [dr_at, bw_at m c t k hk]
  unfold dzP dzOf
  rw [pay4_at _ _ _ _ (fun j o => by rw [hrow]; exact hfin c _) r o, rank_at m c t k hk, nw_at m c t k hk, ds_at m c t k hk, hrow]
  unfold dzM dz
  refine congrArg (fun z : EReal => z * ((m ((c : Thread nD τ).loc main_arg5) : Vec Ideal S5x256x2048 .f32) (ix3 (n0 := 5) (n1 := 256) (n2 := 2048) k r o) : EReal)) ?_
  by_cases hh : held (m ((c : Thread nD τ).loc main_arg1)) (m ((c : Thread nD τ).loc main_arg3)) k r
  · rw [if_pos hh, if_pos hh]
    refine congrArg (fun z => (m ((c : Thread nD τ).loc main_arg4) : Vec Ideal S1792x2048 .f32) (ix2 (n0 := 1792) (n1 := 2048) z o)) (Fin.ext ?_)
    have h1 := hh.1
    show (_ + _ % 256) % 1792 = (_ + _) % 1792
    rw [Nat.mod_eq_of_lt h1]
  · rw [if_neg hh, if_neg hh]

/-- The first result. -/
def dzs (c : Dev nD) : Vec Ideal S5x256x2048 .bf16 := fun i => dzM m c (i 0) (i 1) (i 2)

/-- The second result: `dz` summed over a segment's rows. -/
def dbs (c : Dev nD) : Vec Ideal S5x1x2048 .f32 := fun i =>
  let z : EReal := ∑ r : Fin 256, dzM m c (i 0) r (i 2)
  z

/-- The third result: the input against `dz` over a segment's rows. -/
def dws (c : Dev nD) : Vec Ideal S5x2048x2048 .f32 := fun i =>
  let z : EReal := ∑ r : Fin 256, dzM m c (i 0) r (i 2) * ((m ((c : Thread nD τ).loc main_arg2) : Vec Ideal S256x2048 .bf16) (ix2 (n0 := 256) (n1 := 2048) r (i 1)) : EReal)
  z

/-- What the kernel leaves in its first result. -/
theorem final6 (hfin : Fin4 m) (c : Dev nD) : (dats m 0 c).arrAt 6 cfg0.N = dzs m c := by
  refine (dats m 0 c).arrAt_eq_of_covers 6 _ (by decide +kernel) fun t hf y => ?_
  obtain ⟨u, r, o, rfl⟩ : ∃ (u : Fin 1) (r : Fin 256) (o : Fin 2048), y = ix3 u r o := ⟨y 0, y 1, y 2, eq_ix3 y⟩
  obtain rfl : u = 0 := Subsingleton.elim _ _
  have hN : t.val < 20 := lt_of_lt_of_eq t.isLt (show cfg0.N = 20 from N_0)
  have e : ((cfg0.win 6).blk t).view.emb (ix3 (n0 := 1) (n1 := 256) (n2 := 2048) 0 r o) = ix3 (n0 := 5) (n1 := 256) (n2 := 2048) ⟨t.val / 4, by omega⟩ r o := by
    blk_ext [idxO t]
  blk_simp
  rw [after0_6]
  unfold dzB
  rw [pay5_at]
  exact (dzP_at m hfin c (hd t.val) ⟨t.val / 4, by omega⟩ (hd_div t).symm r o).trans (congrArg (dzs m c) e).symm

/-- The sum over the rows the body leaves for segment `k`. -/
theorem db_el (hfin : Fin4 m) (c : Dev nD) (t : Fin cfg0.N) (k : Fin 5) (hk : k.val = t.val / 4) (o : Fin 2048) :
    k0_pay2 (F := Ideal) (dzP m c t) (ix3 (n0 := 1) (n1 := 1) (n2 := 2048) 0 0 o) = dbs m c (ix3 (n0 := 5) (n1 := 1) (n2 := 2048) k 0 o) :=
  (pay2_at _ o).trans (show (∑ r : Fin 256, (dzP m c t (ix2 (n0 := 256) (n1 := 2048) r o) : EReal)) = ∑ r : Fin 256, dzM m c k r o from
    Finset.sum_congr rfl fun r _ => dzP_at m hfin c t k hk r o)

/-- The product over the rows the body leaves at a point, from columns of the input and the gradient of the same segment. -/
theorem dw_el (hfin : Fin4 m) (c : Dev nD) (x2 : Vec Ideal S512x256 .bf16) (s : Fin cfg0.N) (k : Fin 5) (hk : k.val = s.val / 4) (a : Fin 512) (A o : Fin 2048)
    (hx : ∀ r : Fin 256, x2 (ix2 (n0 := 512) (n1 := 256) a r) = (m ((c : Thread nD τ).loc main_arg2) : Vec Ideal S256x2048 .bf16) (ix2 (n0 := 256) (n1 := 2048) r A)) :
    k0_pay3 (F := Ideal) x2 (dzP m c s) (ix3 (n0 := 1) (n1 := 512) (n2 := 2048) 0 a o) = dws m c (ix3 (n0 := 5) (n1 := 2048) (n2 := 2048) k A o) :=
  (pay3_at _ _ a o).trans (show (∑ r : Fin 256, (x2 (ix2 (n0 := 512) (n1 := 256) a r) : EReal) * (dzP m c s (ix2 (n0 := 256) (n1 := 2048) r o) : EReal))
      = ∑ r : Fin 256, dzM m c k r o * ((m ((c : Thread nD τ).loc main_arg2) : Vec Ideal S256x2048 .bf16) (ix2 (n0 := 256) (n1 := 2048) r A) : EReal) from
    Finset.sum_congr rfl fun r _ => (congrArg₂ (fun x y : EReal => x * y) (hx r) (dzP_at m hfin c s k hk r o)).trans (mul_comm _ _))

/-- What the kernel leaves in its second result. -/
theorem final7 (hfin : Fin4 m) (c : Dev nD) : (dats m 0 c).arrAt 7 cfg0.N = dbs m c := by
  refine (dats m 0 c).arrAt_eq_of_covers 7 _ (by decide +kernel) fun t hf y => ?_
  obtain ⟨u, v, o, rfl⟩ : ∃ (u : Fin 1) (v : Fin 1) (o : Fin 2048), y = ix3 u v o := ⟨y 0, y 1, y 2, eq_ix3 y⟩
  obtain rfl : u = 0 := Subsingleton.elim _ _
  obtain rfl : v = 0 := Subsingleton.elim _ _
  have hN : t.val < 20 := lt_of_lt_of_eq t.isLt (show cfg0.N = 20 from N_0)
  have e : ((cfg0.win 7).blk t).view.emb (ix3 (n0 := 1) (n1 := 1) (n2 := 2048) 0 0 o) = ix3 (n0 := 5) (n1 := 1) (n2 := 2048) ⟨t.val / 4, by omega⟩ 0 o := by
    blk_ext [idxO t]
  blk_simp
  rw [after0_7]
  exact (db_el m hfin c (hd t.val) ⟨t.val / 4, by omega⟩ (hd_div t).symm o).trans (congrArg (dbs m c) e).symm

/-- What the kernel leaves in its third result. -/
theorem final8 (hfin : Fin4 m) (c : Dev nD) : (dats m 0 c).arrAt 8 cfg0.N = dws m c := by
  refine (dats m 0 c).arrAt_eq_of_covers 8 _ (by decide +kernel) fun t hf y => ?_
  obtain ⟨u, a, o, rfl⟩ : ∃ (u : Fin 1) (a : Fin 512) (o : Fin 2048), y = ix3 u a o := ⟨y 0, y 1, y 2, eq_ix3 y⟩
  obtain rfl : u = 0 := Subsingleton.elim _ _
  have hN : t.val < 20 := lt_of_lt_of_eq t.isLt (show cfg0.N = 20 from N_0)
  have ha := a.isLt
  have e : ((cfg0.win 8).blk t).view.emb (ix3 (n0 := 1) (n1 := 512) (n2 := 2048) 0 a o)
      = ix3 (n0 := 5) (n1 := 2048) (n2 := 2048) ⟨t.val / 4, by omega⟩ ⟨t.val % 4 * 512 + a.val, by omega⟩ o := by
    blk_ext [idxO t]
  blk_simp
  rw [after0_8]
  exact (dw_el m hfin c _ (hd t.val) ⟨t.val / 4, by omega⟩ (hd_div t).symm a ⟨t.val % 4 * 512 + a.val, by omega⟩ o fun r => xt_at m c t a r _ rfl).trans (congrArg (dws m c) e).symm

/-! ## The reference's results are the same -/

/-- Bases at which every segment's window of rows lies in the table. -/
abbrev Base (c : Dev nD) : Prop := ∀ k : Fin 5, ((m ((c : Thread nD τ).loc main_arg0) : Vec Ideal S5 .i32) (ix1 (n0 := 5) k) : BitVec 32).toNat ≤ 1536

/-- The reference's first result. -/
theorem ref_dz (c : Dev nD) (hb : Base m c) : Cert.GradsRefIdeal.Read.val_main_v23 (F := Ideal) (m ((c : Thread nD τ).loc main_arg0)) (m ((c : Thread nD τ).loc main_arg1))
      (m ((c : Thread nD τ).loc main_arg3)) (m ((c : Thread nD τ).loc main_arg4)) (m ((c : Thread nD τ).loc main_arg5)) = dzs m c := by
  funext i
  obtain ⟨k, r, o, rfl⟩ : ∃ (k : Fin 5) (r : Fin 256) (o : Fin 2048), i = ix3 k r o := ⟨i 0, i 1, i 2, eq_ix3 i⟩
  exact Cert.GradsRefIdeal.Val.dz_at _ _ _ _ _ hb k r o

/-- The reference's second result. -/
theorem ref_db (c : Dev nD) (hb : Base m c) : Cert.GradsRefIdeal.Read.val_main_v26 (F := Ideal) (m ((c : Thread nD τ).loc main_arg0)) (m ((c : Thread nD τ).loc main_arg1))
      (m ((c : Thread nD τ).loc main_arg3)) (m ((c : Thread nD τ).loc main_arg4)) (m ((c : Thread nD τ).loc main_arg5)) = dbs m c := by
  funext i
  obtain ⟨k, u, o, rfl⟩ : ∃ (k : Fin 5) (u : Fin 1) (o : Fin 2048), i = ix3 k u o := ⟨i 0, i 1, i 2, eq_ix3 i⟩
  exact Cert.GradsRefIdeal.Val.db_at _ _ _ _ _ hb k u o

/-- The reference's third result. -/
theorem ref_dw (c : Dev nD) (hb : Base m c) : Cert.GradsRefIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) = dws m c := by
  funext i
  obtain ⟨k, a, o, rfl⟩ : ∃ (k : Fin 5) (a o : Fin 2048), i = ix3 k a o := ⟨i 0, i 1, i 2, eq_ix3 i⟩
  exact Cert.GradsRefIdeal.Val.dw_at _ _ _ _ _ _ hb k a o

end Cert.GradsIdeal.Val
end
-- ==== Proof.IRun.lean ====
module

public import proofs.«01_k».proof.Proof.Gen.Grads.Frame
public import proofs.«01_k».proof.Proof.Gen.Grads.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim
public import Idealize.ShloMosaic.Lib.Pipeline.ValueKit
public import Idealize.ShloMosaic.Lib.Pointwise

@[expose] public section

set_option maxRecDepth 16384

noncomputable section

namespace Cert.Grads.Val

open Idealize.ShloMosaic Idealize.ShloMosaic.TcCoe Idealize.ShloMosaic.Tactic
open Idealize.SL Idealize.SL.RA Idealize.SL.BI
open Cert.Grads Cert.Grads.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch is taken at the points at which a head begins. -/
theorem hcond : ∀ t : Fin cfg0.N, k0_cond1 (grid0.coords t) = 1#1 ↔ t.val % 4 = 0 :=
  (by decide +kernel : ∀ t : Fin grid0.N, _)

/-- The word a whole scalar array holds at a grid point's head. -/
abbrev word (i : grid0.Coords) (x : Vec F S5 .i32) : Elt F .i32 := x (ix1 (n0 := 5) (i 0))

/-- The head's rows: 256 rows from the one the word names. -/
def rowsOf (w : BitVec 32) (x : Vec F S1792x2048 .f32) : Vec F S256x2048 .f32 :=
  fun y => x (ix2 (n0 := 1792) (n1 := 2048) ⟨(w.toNat + (y 0).val) % 1792, Nat.mod_lt _ (by decide)⟩ (y 1))

/-- The head's gradient of the pre-activation, from what the body has read. -/
def dzOf (w v : BitVec 32) (x3 : Vec F S1x1x256 .i32) (x4 : Vec F S1792x2048 .f32) (x5 : Vec F S1x256x2048 .f32) : Vec F S256x2048 .bf16 :=
  k0_pay4 v (rowsOf w x4) x3 x5

theorem off1_at (i : grid0.Coords) : k0_off1 i 0 = (i 0).val := by
  have h : (i 0).val < 5 := (i 0).isLt
  show (BitVec.ofNat 32 (i 0).val).toNat = _
  rw [BitVec.toNat_ofNat]; exact Nat.mod_eq_of_lt (by omega)

theorem off2_at (i : grid0.Coords) : k0_off2 i 0 = (i 0).val := off1_at i

/-- A load of exactly what was stored last. -/
theorem readCov_same {Val : EltTy → Type} [∀ e, Nonempty (Val e)] {sg : RefSig} {κ : Kind} {sp : Space} {s : Shape} {e : EltTy} (v : View sg κ sp s e)
    (r : Rect s) (w : r.shape.Idx → Val e) (L : List (View.Piece Val s e)) :
    v.readCov (⟨r, w⟩ :: L) r.toLoadRect = w := by
  funext x
  show v.read Val (v.writes Val v.junk (⟨r, w⟩ :: L)) (r.emb x) = w x
  rw [View.read_writes_apply_eq_canon v v.junk (r.emb x) (⟨r, w⟩ :: L) ⟨⟨r, w⟩, List.mem_cons_self, r.idx_mem x⟩, View.canon_cons_emb]

/-- A load of one word of a whole scalar array. -/
theorem word_read (M : Memref sig .tc .smem S5 .i32) (hM : M.IsWhole) (x : Vec F S5 .i32) (i : grid0.Coords) (off : Fin 1 → ℕ)
    (inb : ∀ a, off a + S1.size a ≤ S5.size a) (ho : off 0 = (i 0).val) (y : S1.Idx) :
    View.readAt (Elt F) M.view (Rect.unit (s := S5) off S1.size inb).toLoadRect (hM.unread x) y = word i x := by
  rw [Memref.IsWhole.readAt_unread]
  refine congrArg x (funext fun a => Fin.ext ?_)
  obtain rfl : a = 0 := Subsingleton.elim _ _
  have hy : (y 0).val < 1 := (y 0).isLt
  show off 0 + 1 * (y 0).val = (i 0).val
  omega

/-- A load of the head's rows. -/
theorem rows_read (M : Memref sig .tc .vmem S1792x2048 .f32) (hM : M.IsWhole) (x : Vec F S1792x2048 .f32) (w : BitVec 32)
    (inb : ∀ a, k0_off3 w a + S256x2048.size a ≤ S1792x2048.size a) :
    View.readAt (Elt F) M.view (Rect.unit (s := S1792x2048) (k0_off3 w) S256x2048.size inb).toLoadRect (hM.unread x) = rowsOf w x := by
  funext y
  rw [Memref.IsWhole.readAt_unread]
  have h0 := inb 0
  have hy : (y 0).val < 256 := (y 0).isLt
  have hw : w.toNat + 256 ≤ 1792 := h0
  refine congrArg x (funext fun a => Fin.ext ?_)
  fin_cases a
  · show w.toNat + 1 * (y 0).val = (w.toNat + (y 0).val) % 1792
    rw [Nat.mod_eq_of_lt (by omega)]; omega
  · show 0 + 1 * (y 1).val = (y 1).val
    omega

set_option maxHeartbeats 1000000 in
/-- The body at a point inside a head: only the block of the weights' gradient is written. -/
theorem run_B (c : Dev nD) (i : grid0.Coords) (arg2 : Memref sig .tc .smem S5 .i32) (harg2 : arg2.IsWhole) (arg3 : Memref sig .tc .smem S5 .i32) (harg3 : arg3.IsWhole) (arg4 : Memref sig .tc .vmem S512x256 .bf16) (harg4 : arg4.IsWhole) (arg5 : Memref sig .tc .vmem S1x1x256 .i32) (harg5 : arg5.IsWhole) (arg6 : Memref sig .tc .vmem S1792x2048 .f32) (harg6 : arg6.IsWhole) (arg7 : Memref sig .tc .vmem S1x256x2048 .f32) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x512x2048 .f32) (harg10 : arg10.IsWhole) (arg11 : Memref sig .tc .vmem S256x2048 .bf16) (harg11 : arg11.IsWhole) (hc : ¬k0_cond1 i = 1#1)
    (x0 : Vec F S5 .i32) (x1 : Vec F S5 .i32) (x2 : Vec F S512x256 .bf16) (x3 : Vec F S1x1x256 .i32) (x4 : Vec F S1792x2048 .f32) (x5 : Vec F S1x256x2048 .f32) (y6 : Vec F S1x256x2048 .bf16) (y7 : Vec F S1x1x2048 .f32) (z : Vec F S256x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (∃ d, owns (c : Thread nD τ) arg10 fullShare d) ∗ owns (c : Thread nD τ) arg11 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare (k0_pay3 x2 z) ∗ owns (c : Thread nD τ) arg11 fullShare z) -∗ K ⟨⟩))
          ⊢ wp frame (wpE (defs₀ (F := F)) Variants.none c none) E (cc0_grads i arg2 harg2 arg3 harg3 arg4 harg4 arg5 harg5 arg6 harg6 arg7 harg7 arg8 harg8 arg9 harg9 arg10 harg10 arg11 harg11) K := by
    intro E K
    simp only [cc0_grads_eq_skeleton]; unfold cc0_grads_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      rw [View.read_writes_full, View.readAt_full (s := S512x256), View.readAt_full (s := S256x2048), harg4.read_unread, harg11.read_unread]
    iexists _; isplitr; · ipureintro; exact harg11.read_unread _
    iexact H9

set_option maxHeartbeats 1000000 in
/-- The body at a point at which a head begins: the head's rows are fetched, and all three outputs are written. -/
theorem run_A (c : Dev nD) (i : grid0.Coords) (arg2 : Memref sig .tc .smem S5 .i32) (harg2 : arg2.IsWhole) (arg3 : Memref sig .tc .smem S5 .i32) (harg3 : arg3.IsWhole) (arg4 : Memref sig .tc .vmem S512x256 .bf16) (harg4 : arg4.IsWhole) (arg5 : Memref sig .tc .vmem S1x1x256 .i32) (harg5 : arg5.IsWhole) (arg6 : Memref sig .tc .vmem S1792x2048 .f32) (harg6 : arg6.IsWhole) (arg7 : Memref sig .tc .vmem S1x256x2048 .f32) (harg7 : arg7.IsWhole) (arg8 : Memref sig .tc .vmem S1x256x2048 .bf16) (harg8 : arg8.IsWhole) (arg9 : Memref sig .tc .vmem S1x1x2048 .f32) (harg9 : arg9.IsWhole) (arg10 : Memref sig .tc .vmem S1x512x2048 .f32) (harg10 : arg10.IsWhole) (arg11 : Memref sig .tc .vmem S256x2048 .bf16) (harg11 : arg11.IsWhole) (hc : k0_cond1 i = 1#1)
    (x0 : Vec F S5 .i32) (x1 : Vec F S5 .i32) (x2 : Vec F S512x256 .bf16) (x3 : Vec F S1x1x256 .i32) (x4 : Vec F S1792x2048 .f32) (x5 : Vec F S1x256x2048 .f32) (hchk : k0_chk1 i (word i x0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay5 (word i x1) (rowsOf (word i x0) x4) x3 x5) ∗ owns (c : Thread nD τ) arg9 fullShare (k0_pay2 (dzOf (word i x0) (word i x1) x3 x4 x5)) ∗ owns (c : Thread nD τ) arg10 fullShare (k0_pay3 x2 (dzOf (word i x0) (word i x1) x3 x4 x5)) ∗ owns (c : Thread nD τ) arg11 fullShare (dzOf (word i x0) (word i x1) x3 x4 x5)) -∗ K ⟨⟩))
          ⊢ wp frame (wpE (defs₀ (F := F)) Variants.none c none) E (cc0_grads i arg2 harg2 arg3 harg3 arg4 harg4 arg5 harg5 arg6 harg6 arg7 harg7 arg8 harg8 arg9 harg9 arg10 harg10 arg11 harg11) K := by
    intro E K
    simp only [cc0_grads_eq_skeleton]; unfold cc0_grads_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    have hw : run_A.sl.r c i arg2 harg2 hc x0 = word i x0 := word_read arg2 harg2 x0 i _ _ (off1_at i) _
    have hk : k0_chk1 i (run_A.sl.r c i arg2 harg2 hc x0) := hw ▸ hchk
    sl_exec (disch := first | sl_exact hc | sl_exact hk)
    have hv : run_A.sl.r_1 c i arg3 harg3 hc x1 = word i x1 := word_read arg3 harg3 x1 i _ _ (off2_at i) _
    have hz : ∀ inb ib2 ib3, k0_pay1 (k0_pay4 (run_A.sl.r_1 c i arg3 harg3 hc x1)
        (View.readAt (Elt F) arg6.view (Rect.unit (s := S1792x2048) (k0_off3 (run_A.sl.r c i arg2 harg2 hc x0)) S256x2048.size inb).toLoadRect (harg6.unread x4))
        (View.readAt (Elt F) arg5.view (Rect.unit (s := S1x1x256) ![0, 0, 0] S1x1x256.size ib2).toLoadRect (harg5.unread x3))
        (View.readAt (Elt F) arg7.view (Rect.unit (s := S1x256x2048) ![0, 0, 0] S1x256x2048.size ib3).toLoadRect (harg7.unread x5)))
        = dzOf (word i x0) (word i x1) x3 x4 x5 := fun inb ib2 ib3 => by
      unfold k0_pay1
      rw [shapeCast_self, rows_read, View.readAt_full (s := S1x1x256), View.readAt_full (s := S1x256x2048), harg5.read_unread, harg7.read_unread, hw, hv]; rfl
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_full, rows_read, View.readAt_full (s := S1x1x256), View.readAt_full (s := S1x256x2048), harg5.read_unread, harg7.read_unread, hw, hv]
    isplitl [H7]
    · iexists _; isplitr; swap; · iexact H7
      ipureintro
      refine (View.read_writes_full (s := S1x1x2048) _ _ _ _ _).trans ?_
      rw [rows_read, View.readAt_full (s := S1x1x256), View.readAt_full (s := S1x256x2048), harg5.read_unread, harg7.read_unread, hw, hv]; rfl
    isplitl [H8]
    · iexists _; isplitr; swap; · iexact H8
      ipureintro
      refine (View.read_writes_full (s := S1x512x2048) _ _ _ _ _).trans ?_
      refine congrArg₂ k0_pay3 ((View.readAt_full (s := S512x256) _ _ _).trans (harg4.read_unread _)) ?_
      delta run_A.sl.v5 run_A.sl.H9_1
      exact (readCov_same _ _ _ _).trans (hz _ _ _)
    iexists _; isplitr; swap; · iexact H9
    ipureintro
    delta run_A.sl.H9_1
    exact (View.read_writes_full (s := S256x2048) _ _ _ _ _).trans (hz _ _ _)

end Cert.Grads.Val

end
-- ==== Proof.IFrame.lean ====
module

public import proofs.«01_k».proof.Proof.IRun
public import proofs.«01_k».proof.Proof.Gen.Grads.Points
public import Idealize.ShloMosaic.Lib.Pipeline.TableIdle

@[expose] public section

set_option maxRecDepth 16384

noncomputable section

namespace Cert.Grads.Val

open Idealize.ShloMosaic Idealize.ShloMosaic.TcCoe Idealize.ShloMosaic.Tactic
open Idealize.SL Idealize.SL.RA Idealize.SL.BI
open Cert.Grads Cert.Grads.Gen
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current staging memref at a point, and its wholeness. -/

abbrev ms0_0 (t : Fin cfg0.N) : Memref sig .tc .smem S5 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S5 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1792x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x2048 .f32 := win0_8.stage (cfg0.slots t 8)
abbrev hs0_8 (t : Fin cfg0.N) : (ms0_8 t).IsWhole := hstage0_8 ((cfg0.slots t 8).cast nbuf0_8)

/-- The scratch: what the head's first point leaves there for the points after it. -/
abbrev scM0_0 : Memref sig .tc .vmem S256x2048 .bf16 := Memref.whole cc0_scratch0

/-- The class invariant, the scratch as a memref owned at some contents. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The first point of the head a point belongs to. -/
def hd (n : ℕ) : Fin cfg0.N := ⟨4 * (n / 4) % 20, lt_of_lt_of_eq (Nat.mod_lt _ (by decide)) (show 20 = cfg0.N from N_0.symm)⟩

theorem hd_first (t : Fin cfg0.N) (h : t.val % 4 = 0) : hd t.val = t := by
  have hN : t.val < 20 := lt_of_lt_of_eq t.isLt (show cfg0.N = 20 from N_0)
  apply Fin.ext; show 4 * (t.val / 4) % 20 = t.val; omega

theorem hd_next (n : ℕ) (h : (n + 1) % 4 ≠ 0) : hd (n + 1) = hd n := by
  apply Fin.ext; show 4 * ((n + 1) / 4) % 20 = 4 * (n / 4) % 20
  rw [show (n + 1) / 4 = n / 4 by omega]

theorem hd_pred (n : ℕ) (h : n % 4 ≠ 0) : hd (n - 1) = hd n := by
  apply Fin.ext; show 4 * ((n - 1) / 4) % 20 = 4 * (n / 4) % 20
  rw [show (n - 1) / 4 = n / 4 by omega]

/-- The word of the first row, and of the row count, at a point. -/
def bw (c : Dev nD) (t : Fin cfg0.N) : BitVec 32 := word (F := F) (grid0.coords t) (iblk m c 0 t)
def nw (c : Dev nD) (t : Fin cfg0.N) : BitVec 32 := word (F := F) (grid0.coords t) (iblk m c 1 t)

/-- The gradient of the pre-activation the body computes at a point, -/
def dzP (c : Dev nD) (t : Fin cfg0.N) : Vec F S256x2048 .bf16 :=
  dzOf (bw m c t) (nw m c t) (iblk m c 3 t) (iblk m c 4 t) (iblk m c 5 t)

/-- and the same as a block of the array of all heads. -/
def dzB (c : Dev nD) (t : Fin cfg0.N) : Vec F S1x256x2048 .bf16 :=
  k0_pay5 (nw m c t) (rowsOf (bw m c t) (iblk m c 4 t)) (iblk m c 3 t) (iblk m c 5 t)

/-- The proof data of the one pipeline on core `c`: the arrays as the region finds them, the outputs' buffers after each
    point, and the scratch holding the current head's gradient at every point but a head's first. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dzB m c (hd t.val)
    | ⟨7, _⟩ => k0_pay2 (dzP m c (hd t.val))
    | ⟨8, _⟩ => k0_pay3 (iblk m c 2 t) (dzP m c (hd t.val))
  Φ p := iprop((∃ d, ⌜p.val % 4 ≠ 0 → d = dzP m c (hd p.val)⌝ ∗ owns (c : Thread nD τ) scM0_0 fullShare d) ∗ (∃ r, prngReg c r))
  q _ := fullShare
  owed _ := 0

theorem phi_eq (c : Dev nD) (p : Fin (cfg0.N + 1)) : (dats m 0 c).Φ p
    = iprop((∃ d, ⌜p.val % 4 ≠ 0 → d = dzP m c (hd p.val)⌝ ∗ owns (c : Thread nD τ) scM0_0 fullShare d) ∗ (∃ r, prngReg c r)) := by dsimp only [dats]

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dzB m c (hd t.val) := by dsimp only [dats]
theorem after0_7 (c : Dev nD) (t : Fin cfg0.N) : (dats m 0 c).after 7 t = k0_pay2 (dzP m c (hd t.val)) := by dsimp only [dats]
theorem after0_8 (c : Dev nD) (t : Fin cfg0.N) : (dats m 0 c).after 8 t = k0_pay3 (iblk m c 2 t) (dzP m c (hd t.val)) := by dsimp only [dats]

/-! Each input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- Output 6 is written at a head's first point alone, -/
theorem idle0_6 : ∀ t : Fin cfg0.N, cfg0.idle 6 (cfg0.grid.coords t) = true ↔ t.val % 4 ≠ 0 :=
  (by decide +kernel : ∀ t : Fin grid0.N, _)
/-- so its buffer is fresh there and nowhere else. -/
theorem fresh0_6 (t : Fin cfg0.N) : cfg0.fresh 6 t.val = (t.val % 4 == 0) :=
  cfg0.fresh_tab 6 (fun n => n % 4 == 0) rfl (by decide +kernel : ∀ t : Fin grid0.N, _) t.val t.isLt.le
/-- Inside a head output 6's buffer still holds what the head's first point left. -/
theorem before0_6_B (c : Dev nD) (t : Fin cfg0.N) (h0 : ¬t.val % 4 = 0) (d) :
    (dats m 0 c).before 6 t d = dzB m c (hd t.val) := by
  rw [Dat.before_out_traj (dats m 0 c) 6 rfl (fun _ _ => rfl) (fun t ht hi _ => by
      rw [after0_6, after0_6, ← hd_pred t.val ((idle0_6 t).mp hi)]) t.val t rfl d,
    fresh0_6, if_neg (by simpa using h0), after0_6, hd_pred t.val h0]
/-- What the body leaves in output 6's buffer, as the pipeline asks for it. -/
theorem leaves0_6 (c : Dev nD) (t : Fin cfg0.N) :
    owns (c : Thread nD τ) (ms0_6 t) fullShare ((dats m 0 c).after 6 t) ⊢ ((dats m 0 c).leavesExact 6 t : sProp 𝕄) := by
  unfold Dat.leavesExact
  cases hi : cfg0.idle 6 (cfg0.grid.coords t)
  · exact .rfl
  · cases hf : (cfg0.win 6).flush t
    · iintro H
      iexists (dats m 0 c).after 6 t
      rw [before0_6_B m c t ((idle0_6 t).mp hi), after0_6]
      iexact H
    · exact .rfl
/-- Output 7 is written at a head's first point alone, -/
theorem idle0_7 : ∀ t : Fin cfg0.N, cfg0.idle 7 (cfg0.grid.coords t) = true ↔ t.val % 4 ≠ 0 :=
  (by decide +kernel : ∀ t : Fin grid0.N, _)
/-- so its buffer is fresh there and nowhere else. -/
theorem fresh0_7 (t : Fin cfg0.N) : cfg0.fresh 7 t.val = (t.val % 4 == 0) :=
  cfg0.fresh_tab 7 (fun n => n % 4 == 0) rfl (by decide +kernel : ∀ t : Fin grid0.N, _) t.val t.isLt.le
/-- Inside a head output 7's buffer still holds what the head's first point left. -/
theorem before0_7_B (c : Dev nD) (t : Fin cfg0.N) (h0 : ¬t.val % 4 = 0) (d) :
    (dats m 0 c).before 7 t d = k0_pay2 (dzP m c (hd t.val)) := by
  rw [Dat.before_out_traj (dats m 0 c) 7 rfl (fun _ _ => rfl) (fun t ht hi _ => by
      rw [after0_7, after0_7, ← hd_pred t.val ((idle0_7 t).mp hi)]) t.val t rfl d,
    fresh0_7, if_neg (by simpa using h0), after0_7, hd_pred t.val h0]
/-- What the body leaves in output 7's buffer, as the pipeline asks for it. -/
theorem leaves0_7 (c : Dev nD) (t : Fin cfg0.N) :
    owns (c : Thread nD τ) (ms0_7 t) fullShare ((dats m 0 c).after 7 t) ⊢ ((dats m 0 c).leavesExact 7 t : sProp 𝕄) := by
  unfold Dat.leavesExact
  cases hi : cfg0.idle 7 (cfg0.grid.coords t)
  · exact .rfl
  · cases hf : (cfg0.win 7).flush t
    · iintro H
      iexists (dats m 0 c).after 7 t
      rw [before0_7_B m c t ((idle0_7 t).mp hi), after0_7]
      iexact H
    · exact .rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- What the body asks of the first row's word, at every point. -/
abbrev Rows : Prop := ∀ (c : Dev nD) (t : Fin cfg0.N), k0_chk1 (grid0.coords t) (bw m c t)

set_option maxHeartbeats 2400000 in
/-- The body at any point: a head's first point computes everything, the others the block of the weights' gradient from
    what the first left in the scratch. -/
theorem sound_body (hck : Rows m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.castSucc = iprop((∃ d, ⌜t.val % 4 ≠ 0 → d = dzP m c (hd t.val)⌝ ∗ owns (c : Thread nD τ) scM0_0 fullShare d) ∗ (∃ r, prngReg c r)) from rfl,
    show (dats m 0 c).Φ t.succ = iprop((∃ d, ⌜(t.val + 1) % 4 ≠ 0 → d = dzP m c (hd (t.val + 1))⌝ ∗ owns (c : Thread nD τ) scM0_0 fullShare d) ∗ (∃ r, prngReg c r)) from rfl]
  by_cases h0 : t.val % 4 = 0
  · rw [hd_first t h0]
    iintro ⟨⟨⟨%dS, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) ((hcond t).mpr h0) (iblk m c 0 t) (iblk m c 1 t) (iblk m c 2 t) (iblk m c 3 t) (iblk m c 4 t) (iblk m c 5 t) (hck c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexists _; iexact HS
    iintro ⟨H0, H1, H2, H3, H4, H5, H6, H7, H8, HS⟩
    isplitl [HS Hg]
    · isplitl [HS]
      · iexists _; isplitr
        swap; · iexact HS
        ipureintro; intro h; rw [hd_next _ h, hd_first t h0]; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_6_B m c t h0, before0_7_B m c t h0]
    iintro ⟨⟨⟨%dS, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hS h0
    iapply (run_B c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) (fun h => h0 ((hcond t).mp h)) (iblk m c 0 t) (iblk m c 1 t) (iblk m c 2 t) (iblk m c 3 t) (iblk m c 4 t) (iblk m c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hg]
    · isplitl [HS]
      · iexists _; isplitr
        swap; · iexact HS
        ipureintro; intro h; rw [hd_next _ h]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body returns, as the pipeline asks for it. -/
theorem post_leaves (c : Dev nD) (t : Fin cfg0.N) :
    bodyPost m c t ⊢ (iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t ∗ (dats m 0 c).leavesExact 7 t
    ∗ owns (c : Thread nD τ) (ms0_8 t) fullShare ((dats m 0 c).after 8 t)) : sProp 𝕄) :=
  BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono (leaves0_6 m c t) (BIClass.sep_mono (leaves0_7 m c t) .rfl)))))))))

/-- The library's body obligation, at every point. -/
theorem body_obligation (hck : Rows m) (c : Dev nD) : BodyObligation (dats (F := F) m 0 c) (defs₀ (F := F)) Variants.none () Set.univ := fun t => by
  rw [bigSep_W0, bigSep_W0, defs₀_row]
  exact triple_restated (sound_body m hck c t) rfl .rfl fun _ => post_leaves m c t

/-- Before the first point the scratch may hold anything, -/
theorem phi_in (c : Dev nD) : (Pipeline.ΦA spec0 c : sProp 𝕄) ⊢ (dats m 0 c).Φ 0 := by
  rw [PhiA0_eq, phi_eq]
  iintro ⟨⟨%d, H⟩, Hg⟩
  isplitl [H]
  · iexists d; isplitr
    · ipureintro; intro h; exact absurd rfl h
    iexact H
  iexact Hg

/-- and after the last it is forgotten. -/
theorem phi_out (c : Dev nD) : (dats m 0 c).Φ (Fin.last cfg0.N) ⊢ (Pipeline.ΦA spec0 c : sProp 𝕄) := by
  rw [PhiA0_eq, phi_eq]
  iintro ⟨⟨%d, -, H⟩, Hg⟩
  isplitl [H]
  · iexists d; iexact H
  iexact Hg

/-! ## The run and the frame -/

set_option backward.isDefEq.respectTransparency.types false in
/-- Every execution ends with the arrays at what the library computes from the proof data, and every semaphore at zero. -/
theorem run_main_quiescent (hck : Rows m) : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hck c).loose) (hshare := fun c => (dats m 0 c).share_full fun _ => rfl)
    (howed := fun _ _ => rfl) (V := V m) (hmain := hmain m Variants.none) (hA := A_eq m) (hin := phi_in m) (hout := phi_out m)

theorem run_main (hck : Rows m) : θ_run defs (onTc (τ := τ) (main (F := F))) (s₀ m ρ) (Pipeline.FramePost cfgs (dats m) 0 (V m)) :=
  (θ_run defs _ _).mono (fun _ h => h.1) (run_main_quiescent m ρ hck)

/-- The argument arrays end unchanged. -/
theorem unchanged (hck : Rows m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ hck)

/-- The frame. -/
theorem frame (hck : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hck) ((θ_run defs _ _).mono (fun _ h => h.2) (run_main_quiescent m ρ hck))

end Cert.Grads.Val

end
-- ==== Proof.IRows.lean ====
module

public import proofs.«01_k».proof.Proof.IFrame
public import Idealize.ShloMosaic.Lib.Pipeline.ValueKit
public import Idealize.ShloMosaic.Lib.Pointwise

@[expose] public section

set_option maxRecDepth 16384

noncomputable section

namespace Cert.Grads.Val

open Idealize.ShloMosaic Idealize.ShloMosaic.TcCoe Idealize.SL.Sem Cert.Grads Cert.Grads.Gen

variable {F : FTy → Type} [FloatOps F]
variable (m : (ℓ : Loc nD τ sig) → Buf (Elt F) ℓ)

/-- The block each input window holds at a grid point: a segment is four points. -/
theorem idxI : ∀ t : Fin cfg0.N, win0_0.index t = ![0] ∧ win0_1.index t = ![0] ∧ win0_2.index t = ![t.val % 4, 0] ∧ win0_3.index t = ![t.val / 4, 0, 0]
    ∧ win0_4.index t = ![0, 0] ∧ win0_5.index t = ![t.val / 4, 0, 0] :=
  (by decide +kernel : ∀ t : Fin grid0.N, _)

/-- The segment a grid point belongs to. -/
theorem seg : ∀ t : Fin cfg0.N, (grid0.coords t 0).val = t.val / 4 :=
  (by decide +kernel : ∀ t : Fin grid0.N, _)

/-- The word of a segment's first row is the argument's. -/
theorem bw_at (c : Dev nD) (t : Fin cfg0.N) (k : Fin 5) (hk : k.val = t.val / 4) :
    bw m c t = (m ((c : Thread nD τ).loc main_arg0) : Vec F S5 .i32) (ix1 (n0 := 5) k) := by
  have e : grid0.coords t 0 = k := Fin.ext ((seg t).trans hk.symm)
  unfold bw word
  rw [e]
  blk_ext [iblk, V, idxI t]

/-- The word of a segment's length is the argument's. -/
theorem nw_at (c : Dev nD) (t : Fin cfg0.N) (k : Fin 5) (hk : k.val = t.val / 4) :
    nw m c t = (m ((c : Thread nD τ).loc main_arg1) : Vec F S5 .i32) (ix1 (n0 := 5) k) := by
  have e : grid0.coords t 0 = k := Fin.ext ((seg t).trans hk.symm)
  unfold nw word
  rw [e]
  blk_ext [iblk, V, idxI t]

/-- Bases that leave room for a window and are multiples of 16 are in range wherever the body reads its rows. -/
theorem rows_of (h : ∀ (c : Dev nD) (i : S5.Idx), ((m ((c.tc : Thread nD τ).loc main_arg0) : Vec F S5 .i32) i : BitVec 32).toNat ≤ 1536
      ∧ 16 ∣ ((m ((c.tc : Thread nD τ).loc main_arg0) : Vec F S5 .i32) i : BitVec 32).toNat) : Rows m := fun c t => by
  have hN : t.val < 20 := lt_of_lt_of_eq t.isLt (show cfg0.N = 20 from N_0)
  rw [bw_at m c t ⟨t.val / 4, by omega⟩ rfl]
  obtain ⟨h1, h2⟩ := h c (ix1 (n0 := 5) ⟨t.val / 4, by omega⟩)
  refine ⟨fun _ => h2, fun _ a => ?_⟩
  match a with
  | ⟨0, _⟩ => exact Nat.add_le_add_right h1 256
  | ⟨1, _⟩ => exact (Nat.zero_add 2048).le

end Cert.Grads.Val
end
-- ==== Proof.lean ====
/- The proof of the certificate's claims: hand-written. Each kernel and its reference are read as one closed form of the
   arguments (`JValue`, `JRef` for the heads' activations; `FValue`, `FRef` for the logits; `KFinal`, `RVal` for the backward product; `HValue`, `HRef` for the heads'
   gradients), and the two forms are the same. -/
module

public import proofs.«01_k».proof.Defs
public import proofs.«01_k».proof.Proof.Gen.Fwd
public import proofs.«01_k».proof.Proof.Gen.FwdIdeal
public import proofs.«01_k».proof.Proof.Gen.FwdRefIdeal
public import proofs.«01_k».proof.Proof.Gen.FwdRefIdeal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.GFrame
public import proofs.«01_k».proof.Proof.FRef
public import proofs.«01_k».proof.Proof.BFrame
public import proofs.«01_k».proof.Proof.KFinal
public import proofs.«01_k».proof.Proof.RVal
public import proofs.«01_k».proof.Proof.Gen.Grads
public import proofs.«01_k».proof.Proof.Gen.GradsIdeal
public import proofs.«01_k».proof.Proof.Gen.GradsRefIdeal
public import proofs.«01_k».proof.Proof.Gen.GradsRefIdeal.Run
public import proofs.«01_k».proof.Proof.Gen.GradsRefIdeal.Read
public import proofs.«01_k».proof.Proof.Gen.Pre_bases_fit
public import proofs.«01_k».proof.Proof.Gen.Pre_rows_fit
public import proofs.«01_k».proof.Proof.Gen.Heads
public import proofs.«01_k».proof.Proof.Gen.HeadsIdeal
public import proofs.«01_k».proof.Proof.Gen.HeadsRefIdeal
public import proofs.«01_k».proof.Proof.Gen.HeadsRefIdeal.Frame
public import proofs.«01_k».proof.Proof.Gen.Pre_starts_fit
public import proofs.«01_k».proof.Proof.JPre
public import proofs.«01_k».proof.Proof.JRef
public import proofs.«01_k».proof.Proof.JRows
public import proofs.«01_k».proof.Proof.LRows
public import proofs.«01_k».proof.Proof.HValue
public import proofs.«01_k».proof.Proof.IRows
public import Idealize.ShloMosaic.Adequacy
public import Idealize.ShloMosaic.Init

@[expose] public section

noncomputable section

namespace Cert.Proof

open Idealize.ShloMosaic Idealize.SL.Sem Cert.Kernel

/-- The first kernel and its reference leave the same logits. -/
theorem logits : Cert.algebraic_FwdIdeal_FwdRefIdeal := by
  pair_intro
  · run_from Cert.FwdIdeal.Val.run_blocks m g
  · refine (θ_run _ _ _).mono (fun r h c => ⟨(h c).1.trans ?_, (h c).2⟩) (Cert.FwdRefIdeal.Value.run_blocks m' g')
    rw [Cert.FwdIdeal.Val.final, Cert.FwdRefIdeal.Val.final]
    obtain ⟨h0, h1, h2, h3⟩ := hagree c
    rw [h0, h1, h2, h3]

/-- The second kernel and its reference leave the same product. -/
theorem product : Cert.algebraic_KernelIdeal_ReferenceIdeal := by
  pair_intro
  · run_from Cert.KernelIdeal.Val.run_blocks m g
  · run_from Cert.ReferenceIdeal.Value.run_blocks m' g'
    rw [Cert.KernelIdeal.Val.final, Cert.ReferenceIdeal.Val.final]
    obtain ⟨h0, h1, h2, h3, h4, h5⟩ := hagree c
    rw [h0, h1, h2, h3, h4, h5]

/-- The third kernel and its reference leave the same gradients. -/
theorem grads : Cert.algebraic_GradsIdeal_GradsRefIdeal_pre_rows_fit := by
  pair_intro
  · run_from Cert.GradsIdeal.Val.run_blocks m g (Cert.GradsIdeal.Val.rows_of m fun c i => Cert.Pre_rows_fit.Val.base (hpre c) i)
  · refine (θ_run _ _ _).mono (fun r h c => ?_) (Cert.GradsRefIdeal.Value.run m' g')
    have hfin : Cert.GradsIdeal.Val.Fin4 m := fun c i => Cert.Pre_rows_fit.Val.finite (hpre c) i
    have hb : Cert.GradsIdeal.Val.Base m c := fun k => (Cert.Pre_rows_fit.Val.base (hpre c) _).1
    obtain ⟨r0, r1, r2, kept⟩ := h c
    obtain ⟨h0, h1, h2, h3, h4, h5⟩ := hagree c
    rw [Cert.GradsIdeal.Val.final6 m hfin, Cert.GradsIdeal.Val.final7 m hfin, Cert.GradsIdeal.Val.final8 m hfin]
    refine ⟨(r0.trans (Cert.GradsRefIdeal.Read.val_main_v23_eq _ _ _ _ _)).trans ?_, (r1.trans (Cert.GradsRefIdeal.Read.val_main_v26_eq _ _ _ _ _)).trans ?_,
      (r2.trans (Cert.GradsRefIdeal.Read.val_main_v28_eq _ _ _ _ _ _)).trans ?_, kept⟩
    · rw [h0, h1, h3, h4, h5]
      exact Cert.GradsIdeal.Val.ref_dz m c hb
    · rw [h0, h1, h3, h4, h5]
      exact Cert.GradsIdeal.Val.ref_db m c hb
    · rw [h0, h1, h2, h3, h4, h5]
      exact Cert.GradsIdeal.Val.ref_dw m c hb

/-- The heads' call and its reference leave the same codes, scales and derivatives. -/
theorem heads : Cert.algebraic_HeadsIdeal_HeadsRefIdeal := by
  pair_intro
  · run_from Cert.HeadsIdeal.Val.run_blocks m g (Cert.HeadsIdeal.Val.rows_of m fun c i => Cert.Pre_starts_fit.Val.base (hpre c) i)
  · refine (θ_run _ _ _).mono (fun r h c => ?_) (Cert.HeadsRefIdeal.Value.run_blocks m' g')
    obtain ⟨r0, r1, r2, kept⟩ := h c
    obtain ⟨h0, h1, h2, h3, h4, h5, h6, h7, h8⟩ := hagree c
    rw [Cert.HeadsIdeal.Val.final9, Cert.HeadsIdeal.Val.final10, Cert.HeadsIdeal.Val.final11]
    refine ⟨r0.trans ?_, r1.trans ?_, r2.trans ?_, kept⟩
    · rw [Cert.HeadsRefIdeal.Val.final4, h3, h4, h5, h6]
    · rw [Cert.HeadsRefIdeal.Val.final5, h3, h4, h5, h6]
    · rw [Cert.HeadsRefIdeal.Val.final6, h3, h4, h5, h6]

theorem claim : Cert.Claim := ⟨Cert.Fwd.Gen.facts, Cert.FwdIdeal.Gen.facts, Cert.FwdRefIdeal.Gen.facts,
  Cert.Kernel.Gen.facts, Cert.KernelIdeal.Gen.facts, Cert.ReferenceIdeal.Gen.facts,
  Cert.Grads.Gen.facts, Cert.GradsIdeal.Gen.facts, Cert.GradsRefIdeal.Gen.facts,
  Cert.Heads.Gen.facts, Cert.HeadsIdeal.Gen.facts, Cert.HeadsRefIdeal.Gen.facts,
  Cert.Pre_bases_fit.Gen.facts, Cert.Pre_rows_fit.Gen.facts, Cert.Pre_starts_fit.Gen.facts,
  fun m g _ => Cert.Fwd.Val.frame m g, fun m g _ => Cert.FwdIdeal.Val.frame m g, fun m g _ => Cert.FwdRefIdeal.Gen.frame m g,
  fun m g _ => Cert.Kernel.Val.frame m g, fun m g _ => Cert.KernelIdeal.Val.frame m g, fun m g _ => Cert.ReferenceIdeal.Gen.frame m g,
  fun m g hpre => Cert.Grads.Val.frame m g (Cert.Grads.Val.rows_of m fun c i => Cert.Pre_rows_fit.Val.base' (hpre c) i),
  fun m g hpre => Cert.GradsIdeal.Val.frame m g (Cert.GradsIdeal.Val.rows_of m fun c i => Cert.Pre_rows_fit.Val.base' (hpre c) i),
  fun m g hpre => Cert.GradsIdeal.Val.frame m g (Cert.GradsIdeal.Val.rows_of m fun c i => Cert.Pre_rows_fit.Val.base (hpre c) i),
  fun m g _ => Cert.GradsRefIdeal.Val.frame m g, fun m g _ => Cert.GradsRefIdeal.Val.frame m g,
  fun m g hpre => Cert.Heads.Val.frame m g (Cert.Heads.Val.rows_of m fun c i => Cert.Pre_starts_fit.Val.base (hpre c) i),
  fun m g hpre => Cert.HeadsIdeal.Val.frame m g (Cert.HeadsIdeal.Val.rows_of m fun c i => Cert.Pre_starts_fit.Val.base (hpre c) i),
  fun m g _ => Cert.HeadsRefIdeal.Gen.frame m g, fun m g _ => Cert.HeadsRefIdeal.Gen.frame m g,
  trivial, logits, trivial, product, trivial, grads, trivial, heads⟩

end Cert.Proof

end
